-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "score_scale" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v169_0) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_v169_1) = v3 c
          ∧ r.2.mem ((c.tc : Thread Cert.ReferenceIdeal.nD Cert.ReferenceIdeal.τ).loc Cert.ReferenceIdeal.main_v163) = v4 c
          ∧ r.2.mem ((c.tc : Thread Cert.ReferenceIdeal.nD Cert.ReferenceIdeal.τ).loc Cert.ReferenceIdeal.main_v169_2) = v5 c
          ∧ r.2.mem ((c.tc : Thread Cert.ReferenceIdeal.nD Cert.ReferenceIdeal.τ).loc Cert.ReferenceIdeal.main_v165) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x4096 : Shape := ⟨3, ![8, 2048, 4096]⟩
abbrev S8x2048x1024 : Shape := ⟨3, ![8, 2048, 1024]⟩
abbrev S_ : Shape := ⟨0, ![]⟩

class Facts : Prop where
  bitsLt_bf16_f32 : FTy.bits .bf16 < FTy.bits .f32
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_

variable [Facts]

def fn {F : FTy → Type} [FloatOps F] (main_arg0 : FVec F S8x2048x4096 .bf16) (main_arg1 : FVec F S8x2048x1024 .bf16) (main_arg2 : FVec F S8x2048x1024 .bf16) : IVec S_ 1 :=
  let main_v0 : FVec F S8x2048x4096 .f32 := (extf .f32 · bitsLt_bf16_f32) main_arg0
  let main_v1 : FVec F S8x2048x4096 .f32 := Host.absf main_v0
  let main_cst : FVec F S_ .f32 := constant S_ .f32 0x7F7F0000#32
  let main_v2 : FVec F S8x2048x4096 .f32 := broadcastInDim S8x2048x4096 ![] bcast_S_S8x2048x4096 main_cst
  let main_v3 : IVec S8x2048x4096 1 := cmpf .ole main_v1 main_v2
  let main_c : IVec S_ 1 := constantI S_ 1 1#1
  let main_v4 : IVec S_ 1 := (fun x v => Host.reduce IntOp.andi x v reducesTo_S8x2048x4096_S_d0_1_2 h_S_) main_v3 main_c
  let main_v5 : FVec F S8x2048x1024 .f32 := (extf .f32 · bitsLt_bf16_f32) main_arg1
  let main_v6 : FVec F S8x2048x1024 .f32 := Host.absf main_v5
  let main_cst_0 : FVec F S_ .f32 := constant S_ .f32 0x7F7F0000#32
  let main_v7 : FVec F S8x2048x1024 .f32 := broadcastInDim S8x2048x1024 ![] bcast_S_S8x2048x1024 main_cst_0
  let main_v8 : IVec S8x2048x1024 1 := cmpf .ole main_v6 main_v7
  let main_c_1 : IVec S_ 1 := constantI S_ 1 1#1
  let main_v9 : IVec S_ 1 := (fun x v => Host.reduce IntOp.andi x v reducesTo_S8x2048x1024_S_d0_1_2 h_S_) main_v8 main_c_1
  let main_v10 : IVec S_ 1 := andi main_v4 main_v9
  let main_v11 : FVec F S8x2048x1024 .f32 := (extf .f32 · bitsLt_bf16_f32) main_arg2
  let main_v12 : FVec F S8x2048x1024 .f32 := Host.absf main_v11
  let main_cst_2 : FVec F S_ .f32 := constant S_ .f32 0x7F7F0000#32
  let main_v13 : FVec F S8x2048x1024 .f32 := broadcastInDim S8x2048x1024 ![] bcast_S_S8x2048x1024 main_cst_2
  let main_v14 : IVec S8x2048x1024 1 := cmpf .ole main_v12 main_v13
  let main_c_3 : IVec S_ 1 := constantI S_ 1 1#1
  let main_v15 : IVec S_ 1 := (fun x v => Host.reduce IntOp.andi x v reducesTo_S8x2048x1024_S_d0_1_2 h_S_) main_v14 main_c_3
  let main_v16 : IVec S_ 1 := andi main_v10 main_v15
  main_v16
-- ==== Kernel.lean ====
abbrev S8x2048x4096 : Shape := ⟨3, ![8, 2048, 4096]⟩
abbrev S8x2048x1024 : Shape := ⟨3, ![8, 2048, 1024]⟩
abbrev S8x32x16x128 : Shape := ⟨4, ![8, 32, 16, 128]⟩
abbrev S8x8x16x128 : Shape := ⟨4, ![8, 8, 16, 128]⟩
abbrev S1x2048x128 : Shape := ⟨3, ![1, 2048, 128]⟩
abbrev S1x1x16x128 : Shape := ⟨4, ![1, 1, 16, 128]⟩
abbrev S128x2048 : Shape := ⟨2, ![128, 2048]⟩
abbrev S2048x256 : Shape := ⟨2, ![2048, 256]⟩
abbrev S16x256 : Shape := ⟨2, ![16, 256]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x256 : Shape := ⟨2, ![1, 256]⟩
abbrev S16x128 : Shape := ⟨2, ![16, 128]⟩
abbrev S2048x128 : Shape := ⟨2, ![2048, 128]⟩
abbrev S1x256x128 : Shape := ⟨3, ![1, 256, 128]⟩
abbrev S256x128 : Shape := ⟨2, ![256, 128]⟩
abbrev S1x1x1x128 : Shape := ⟨4, ![1, 1, 1, 128]⟩
abbrev S16x128x128 : Shape := ⟨3, ![16, 128, 128]⟩
abbrev S16 : Shape := ⟨1, ![16]⟩
abbrev S16x1 : Shape := ⟨2, ![16, 1]⟩
abbrev S128x256 : Shape := ⟨2, ![128, 256]⟩
abbrev S256 : Shape := ⟨1, ![256]⟩

abbrev nBuf : Space → Nat
  | .hbm => 10
  | .vmem => 26
  | .smem => 0
  | _ => 0

abbrev bufTy : (tb : Table) → Fin (tcTables nBuf tb) → BufTy
  | .hbm, ⟨0, _⟩ => ⟨S8x2048x4096, .bf16⟩
  | .hbm, ⟨1, _⟩ => ⟨S8x2048x1024, .bf16⟩
  | .hbm, ⟨2, _⟩ => ⟨S8x2048x1024, .bf16⟩
  | .hbm, ⟨3, _⟩ => ⟨S8x2048x4096, .bf16⟩
  | .hbm, ⟨4, _⟩ => ⟨S8x2048x4096, .fp8e4m3⟩
  | .hbm, ⟨5, _⟩ => ⟨S8x32x16x128, .f32⟩
  | .hbm, ⟨6, _⟩ => ⟨S8x2048x1024, .fp8e4m3⟩
  | .hbm, ⟨7, _⟩ => ⟨S8x8x16x128, .f32⟩
  | .hbm, ⟨8, _⟩ => ⟨S8x2048x1024, .fp8e4m3⟩
  | .hbm, ⟨9, _⟩ => ⟨S8x8x16x128, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .fp8e4m3⟩
  | .local _ .vmem, ⟨9, _⟩ => ⟨S1x2048x128, .fp8e4m3⟩
  | .local _ .vmem, ⟨10, _⟩ => ⟨S1x1x16x128, .f32⟩
  | .local _ .vmem, ⟨11, _⟩ => ⟨S1x1x16x128, .f32⟩
  | .local _ .vmem, ⟨12, _⟩ => ⟨S1x2048x128, .fp8e4m3⟩
  | .local _ .vmem, ⟨13, _⟩ => ⟨S1x2048x128, .fp8e4m3⟩
  | .local _ .vmem, ⟨14, _⟩ => ⟨S1x1x16x128, .f32⟩
  | .local _ .vmem, ⟨15, _⟩ => ⟨S1x1x16x128, .f32⟩
  | .local _ .vmem, ⟨16, _⟩ => ⟨S1x2048x128, .fp8e4m3⟩
  | .local _ .vmem, ⟨17, _⟩ => ⟨S1x2048x128, .fp8e4m3⟩
  | .local _ .vmem, ⟨18, _⟩ => ⟨S1x1x16x128, .f32⟩
  | .local _ .vmem, ⟨19, _⟩ => ⟨S1x1x16x128, .f32⟩
  | .local _ .vmem, ⟨20, _⟩ => ⟨S128x2048, .fp8e4m3⟩
  | .local _ .vmem, ⟨21, _⟩ => ⟨S2048x256, .f32⟩
  | .local _ .vmem, ⟨22, _⟩ => ⟨S16x256, .f32⟩
  | .local _ .vmem, ⟨23, _⟩ => ⟨S16x256, .f32⟩
  | .local _ .vmem, ⟨24, _⟩ => ⟨S16x256, .f32⟩
  | .local _ .vmem, ⟨25, _⟩ => ⟨S16x256, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 32], ![false, false]⟩

@[reducible] def k0_t1_loop : Scf.Loop 32 :=
  let c0_i32_458 : BitVec 32 := 0#32
  let c8_i32 : BitVec 32 := 8#32
  let v913 : BitVec 32 := Scalar.addi c0_i32_458 c8_i32
  let c1_i32_459 : BitVec 32 := 1#32
  ⟨c0_i32_458, v913, c1_i32_459⟩
def k0_mult1 (k0_t1 : Fin k0_t1_loop.trips) : BitVec 32 :=
  let c0_i32_458 : BitVec 32 := 0#32
  let c1_i32_459 : BitVec 32 := 1#32
  let arg18 : BitVec 32 := Scf.iv c0_i32_458 c1_i32_459 k0_t1
  let c256_i32 : BitVec 32 := 256#32
  let v914 : BitVec 32 := Scalar.muli arg18 c256_i32
  v914
def k0_off1 (k0_t1 : Fin k0_t1_loop.trips) : Fin 3 → Nat :=
  let c0_464 : Index := 0#32
  let c0_i32_458 : BitVec 32 := 0#32
  let c1_i32_459 : BitVec 32 := 1#32
  let arg18 : BitVec 32 := Scf.iv c0_i32_458 c1_i32_459 k0_t1
  let c256_i32 : BitVec 32 := 256#32
  let v914 : BitVec 32 := Scalar.muli arg18 c256_i32
  let v915 : BitVec 32 := v914
  let v918 : Index := Scalar.indexCast v915
  let c0_465 : Index := 0#32
  ![0, v918.toNat, 0]
def k0_off2 (k0_t1 : Fin k0_t1_loop.trips) (c0_i32_469 : BitVec 32) : Fin 4 → Nat :=
  let c0_470 : Index := 0#32
  let c0_471 : Index := 0#32
  let c0_i32_458 : BitVec 32 := 0#32
  let c1_i32_459 : BitVec 32 := 1#32
  let arg18 : BitVec 32 := Scf.iv c0_i32_458 c1_i32_459 k0_t1
  let c2_i32 : BitVec 32 := 2#32
  let v925 : BitVec 32 := Scalar.muli arg18 c2_i32
  let v926 : BitVec 32 := Scalar.addi v925 c0_i32_469
  let v927 : Index := Scalar.indexCast v926
  let c0_472 : Index := 0#32
  ![0, 0, v927.toNat, 0]
def k0_cond1 (i : grid0.Coords) : BitVec 1 :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "score_scale" => some (((Real.sqrt 128)⁻¹ * (Real.log 2)⁻¹ : ℝ) : EReal)
  | _ => none
-- ==== ReferenceIdeal.lean ====
abbrev S8x2048x4096 : Shape := ⟨3, ![8, 2048, 4096]⟩
abbrev S8x2048x1024 : Shape := ⟨3, ![8, 2048, 1024]⟩
abbrev S8x16x128x32x128 : Shape := ⟨5, ![8, 16, 128, 32, 128]⟩
abbrev S_ : Shape := ⟨0, ![]⟩
abbrev S8x16x128x32 : Shape := ⟨4, ![8, 16, 128, 32]⟩
abbrev S8x16x32 : Shape := ⟨3, ![8, 16, 32]⟩
abbrev S8x16x1x32x1 : Shape := ⟨5, ![8, 16, 1, 32, 1]⟩
abbrev S8x2048x32x128 : Shape := ⟨4, ![8, 2048, 32, 128]⟩
abbrev S8x32x16 : Shape := ⟨3, ![8, 32, 16]⟩
abbrev S8x16x128x8x128 : Shape := ⟨5, ![8, 16, 128, 8, 128]⟩
abbrev S8x16x128x8 : Shape := ⟨4, ![8, 16, 128, 8]⟩
abbrev S8x16x8 : Shape := ⟨3, ![8, 16, 8]⟩
abbrev S8x16x1x8x1 : Shape := ⟨5, ![8, 16, 1, 8, 1]⟩
abbrev S8x2048x8x128 : Shape := ⟨4, ![8, 2048, 8, 128]⟩
abbrev S8x8x16 : Shape := ⟨3, ![8, 8, 16]⟩
abbrev S8x2048x8x4x128 : Shape := ⟨5, ![8, 2048, 8, 4, 128]⟩
abbrev S8x8x4x16 : Shape := ⟨4, ![8, 8, 4, 16]⟩
abbrev S8x32x2048x2048 : Shape := ⟨4, ![8, 32, 2048, 2048]⟩
abbrev S8x32x16x128 : Shape := ⟨4, ![8, 32, 16, 128]⟩
abbrev S8x32x2048 : Shape := ⟨3, ![8, 32, 2048]⟩
abbrev S8x32x2048x1 : Shape := ⟨4, ![8, 32, 2048, 1]⟩
abbrev S8x32x1x2048 : Shape := ⟨4, ![8, 32, 1, 2048]⟩
abbrev S8x32x2048x16x128 : Shape := ⟨5, ![8, 32, 2048, 16, 128]⟩
abbrev S8x32x2048x16 : Shape := ⟨4, ![8, 32, 2048, 16]⟩
abbrev S8x32x16x128x16 : Shape := ⟨5, ![8, 32, 16, 128, 16]⟩
abbrev S8x32x16x16 : Shape := ⟨4, ![8, 32, 16, 16]⟩
abbrev S8x32x2048x16x1 : Shape := ⟨5, ![8, 32, 2048, 16, 1]⟩
abbrev S8x32x16x2048x128 : Shape := ⟨5, ![8, 32, 16, 2048, 128]⟩
abbrev S8x32x16x2048 : Shape := ⟨4, ![8, 32, 16, 2048]⟩
abbrev S8x32x16x1 : Shape := ⟨4, ![8, 32, 16, 1]⟩
abbrev S8x32x16x2048x1 : Shape := ⟨5, ![8, 32, 16, 2048, 1]⟩
abbrev S8x32x2048x128 : Shape := ⟨4, ![8, 32, 2048, 128]⟩
abbrev S8x8x16x1 : Shape := ⟨4, ![8, 8, 16, 1]⟩
abbrev S8x8x16x128 : Shape := ⟨4, ![8, 8, 16, 128]⟩

abbrev nBuf : Space → Nat
  | .hbm => 219
  | .vmem => 6
  | .smem => 0
  | _ => 0

abbrev hbmTy0_0 (i : Nat) : BufTy := match i % 128 with
  | 0 => ⟨S8x2048x4096, .bf16⟩
  | 1 => ⟨S8x2048x1024, .bf16⟩
  | 2 => ⟨S8x2048x1024, .bf16⟩
  | 3 => ⟨S8x2048x4096, .f32⟩
  | 4 => ⟨S8x16x128x32x128, .f32⟩
  | 5 => ⟨S8x16x128x32x128, .f32⟩
  | 6 => ⟨S_, .f32⟩
  | 7 => ⟨S8x16x128x32, .f32⟩
  | 8 => ⟨S_, .f32⟩
  | 9 => ⟨S8x16x32, .f32⟩
  | 10 => ⟨S_, .f32⟩
  | 11 => ⟨S8x16x32, .f32⟩
  | 12 => ⟨S8x16x32, .f32⟩
  | 13 => ⟨S8x16x32, .f32⟩
  | 14 => ⟨S_, .f32⟩
  | 15 => ⟨S_, .f32⟩
  | 16 => ⟨S8x16x32, .f32⟩
  | 17 => ⟨S8x16x32, .f32⟩
  | 18 => ⟨S8x16x32, .f32⟩
  | 19 => ⟨S_, .f32⟩
  | 20 => ⟨S8x16x32, .f32⟩
  | 21 => ⟨S8x16x32, .f32⟩
  | 22 => ⟨S_, .f32⟩
  | 23 => ⟨S8x16x32, .f32⟩
  | 24 => ⟨S8x16x32, .i1⟩
  | 25 => ⟨S_, .f32⟩
  | 26 => ⟨S8x16x32, .f32⟩
  | 27 => ⟨S8x16x32, .f32⟩
  | 28 => ⟨S_, .f32⟩
  | 29 => ⟨S8x16x32, .f32⟩
  | 30 => ⟨S8x16x32, .f32⟩
  | 31 => ⟨S8x16x1x32x1, .f32⟩
  | 32 => ⟨S8x16x128x32x128, .f32⟩
  | 33 => ⟨S8x16x128x32x128, .f32⟩
  | 34 => ⟨S_, .f32⟩
  | 35 => ⟨S8x16x128x32x128, .f32⟩
  | 36 => ⟨S8x16x128x32x128, .f32⟩
  | 37 => ⟨S_, .f32⟩
  | 38 => ⟨S8x16x128x32x128, .f32⟩
  | 39 => ⟨S8x16x128x32x128, .f32⟩
  | 40 => ⟨S8x2048x32x128, .f32⟩
  | 41 => ⟨S8x32x16, .f32⟩
  | 42 => ⟨S8x2048x1024, .f32⟩
  | 43 => ⟨S8x16x128x8x128, .f32⟩
  | 44 => ⟨S8x16x128x8x128, .f32⟩
  | 45 => ⟨S_, .f32⟩
  | 46 => ⟨S8x16x128x8, .f32⟩
  | 47 => ⟨S_, .f32⟩
  | 48 => ⟨S8x16x8, .f32⟩
  | 49 => ⟨S_, .f32⟩
  | 50 => ⟨S8x16x8, .f32⟩
  | 51 => ⟨S8x16x8, .f32⟩
  | 52 => ⟨S8x16x8, .f32⟩
  | 53 => ⟨S_, .f32⟩
  | 54 => ⟨S_, .f32⟩
  | 55 => ⟨S8x16x8, .f32⟩
  | 56 => ⟨S8x16x8, .f32⟩
  | 57 => ⟨S8x16x8, .f32⟩
  | 58 => ⟨S_, .f32⟩
  | 59 => ⟨S8x16x8, .f32⟩
  | 60 => ⟨S8x16x8, .f32⟩
  | 61 => ⟨S_, .f32⟩
  | 62 => ⟨S8x16x8, .f32⟩
  | 63 => ⟨S8x16x8, .i1⟩
  | 64 => ⟨S_, .f32⟩
  | 65 => ⟨S8x16x8, .f32⟩
  | 66 => ⟨S8x16x8, .f32⟩
  | 67 => ⟨S_, .f32⟩
  | 68 => ⟨S8x16x8, .f32⟩
  | 69 => ⟨S8x16x8, .f32⟩
  | 70 => ⟨S8x16x1x8x1, .f32⟩
  | 71 => ⟨S8x16x128x8x128, .f32⟩
  | 72 => ⟨S8x16x128x8x128, .f32⟩
  | 73 => ⟨S_, .f32⟩
  | 74 => ⟨S8x16x128x8x128, .f32⟩
  | 75 => ⟨S8x16x128x8x128, .f32⟩
  | 76 => ⟨S_, .f32⟩
  | 77 => ⟨S8x16x128x8x128, .f32⟩
  | 78 => ⟨S8x16x128x8x128, .f32⟩
  | 79 => ⟨S8x2048x8x128, .f32⟩
  | 80 => ⟨S8x8x16, .f32⟩
  | 81 => ⟨S8x2048x1024, .f32⟩
  | 82 => ⟨S8x16x128x8x128, .f32⟩
  | 83 => ⟨S8x16x128x8x128, .f32⟩
  | 84 => ⟨S_, .f32⟩
  | 85 => ⟨S8x16x128x8, .f32⟩
  | 86 => ⟨S_, .f32⟩
  | 87 => ⟨S8x16x8, .f32⟩
  | 88 => ⟨S_, .f32⟩
  | 89 => ⟨S8x16x8, .f32⟩
  | 90 => ⟨S8x16x8, .f32⟩
  | 91 => ⟨S8x16x8, .f32⟩
  | 92 => ⟨S_, .f32⟩
  | 93 => ⟨S_, .f32⟩
  | 94 => ⟨S8x16x8, .f32⟩
  | 95 => ⟨S8x16x8, .f32⟩
  | 96 => ⟨S8x16x8, .f32⟩
  | 97 => ⟨S_, .f32⟩
  | 98 => ⟨S8x16x8, .f32⟩
  | 99 => ⟨S8x16x8, .f32⟩
  | 100 => ⟨S_, .f32⟩
  | 101 => ⟨S8x16x8, .f32⟩
  | 102 => ⟨S8x16x8, .i1⟩
  | 103 => ⟨S_, .f32⟩
  | 104 => ⟨S8x16x8, .f32⟩
  | 105 => ⟨S8x16x8, .f32⟩
  | 106 => ⟨S_, .f32⟩
  | 107 => ⟨S8x16x8, .f32⟩
  | 108 => ⟨S8x16x8, .f32⟩
  | 109 => ⟨S8x16x1x8x1, .f32⟩
  | 110 => ⟨S8x16x128x8x128, .f32⟩
  | 111 => ⟨S8x16x128x8x128, .f32⟩
  | 112 => ⟨S_, .f32⟩
  | 113 => ⟨S8x16x128x8x128, .f32⟩
  | 114 => ⟨S8x16x128x8x128, .f32⟩
  | 115 => ⟨S_, .f32⟩
  | 116 => ⟨S8x16x128x8x128, .f32⟩
  | 117 => ⟨S8x16x128x8x128, .f32⟩
  | 118 => ⟨S8x2048x8x128, .f32⟩
  | 119 => ⟨S8x8x16, .f32⟩
  | 120 => ⟨S8x2048x8x4x128, .f32⟩
  | 121 => ⟨S8x2048x32x128, .f32⟩
  | 122 => ⟨S8x2048x8x4x128, .f32⟩
  | 123 => ⟨S8x2048x32x128, .f32⟩
  | 124 => ⟨S8x8x4x16, .f32⟩
  | 125 => ⟨S8x32x16, .f32⟩
  | 126 => ⟨S8x8x4x16, .f32⟩
  | 127 => ⟨S8x32x16, .f32⟩
  | _ => ⟨S8x2048x4096, .bf16⟩

abbrev hbmTy0_1 (i : Nat) : BufTy := match i % 128 with
  | 0 => ⟨S8x32x2048x2048, .f32⟩
  | 1 => ⟨S8x32x16x128, .f32⟩
  | 2 => ⟨S8x32x2048, .f32⟩
  | 3 => ⟨S_, .f32⟩
  | 4 => ⟨S_, .f32⟩
  | 5 => ⟨S8x32x2048, .f32⟩
  | 6 => ⟨S8x32x2048, .f32⟩
  | 7 => ⟨S8x32x2048x1, .f32⟩
  | 8 => ⟨S8x32x2048x2048, .f32⟩
  | 9 => ⟨S8x32x2048x2048, .f32⟩
  | 10 => ⟨S8x32x16x128, .f32⟩
  | 11 => ⟨S8x32x2048, .f32⟩
  | 12 => ⟨S8x32x1x2048, .f32⟩
  | 13 => ⟨S8x32x2048x2048, .f32⟩
  | 14 => ⟨S8x32x2048x2048, .f32⟩
  | 15 => ⟨S_, .f32⟩
  | 16 => ⟨S8x32x2048, .f32⟩
  | 17 => ⟨S8x32x2048x1, .f32⟩
  | 18 => ⟨S8x32x2048x2048, .f32⟩
  | 19 => ⟨S8x32x2048x2048, .f32⟩
  | 20 => ⟨S8x32x2048x2048, .f32⟩
  | 21 => ⟨S_, .f32⟩
  | 22 => ⟨S8x32x2048, .f32⟩
  | 23 => ⟨S8x32x2048x16x128, .f32⟩
  | 24 => ⟨S_, .f32⟩
  | 25 => ⟨S8x32x2048x16, .f32⟩
  | 26 => ⟨S8x32x16x128x16, .f32⟩
  | 27 => ⟨S_, .f32⟩
  | 28 => ⟨S8x32x16x16, .f32⟩
  | 29 => ⟨S_, .f32⟩
  | 30 => ⟨S8x32x16x16, .f32⟩
  | 31 => ⟨S8x32x16x16, .f32⟩
  | 32 => ⟨S8x32x16x16, .f32⟩
  | 33 => ⟨S_, .f32⟩
  | 34 => ⟨S_, .f32⟩
  | 35 => ⟨S8x32x16x16, .f32⟩
  | 36 => ⟨S8x32x16x16, .f32⟩
  | 37 => ⟨S8x32x16x16, .f32⟩
  | 38 => ⟨S_, .f32⟩
  | 39 => ⟨S8x32x16x16, .f32⟩
  | 40 => ⟨S8x32x16x16, .f32⟩
  | 41 => ⟨S_, .f32⟩
  | 42 => ⟨S8x32x16x16, .f32⟩
  | 43 => ⟨S8x32x16x16, .i1⟩
  | 44 => ⟨S_, .f32⟩
  | 45 => ⟨S8x32x16x16, .f32⟩
  | 46 => ⟨S8x32x16x16, .f32⟩
  | 47 => ⟨S_, .f32⟩
  | 48 => ⟨S8x32x16x16, .f32⟩
  | 49 => ⟨S8x32x16x16, .f32⟩
  | 50 => ⟨S8x32x16x128x16, .f32⟩
  | 51 => ⟨S8x32x2048x16, .f32⟩
  | 52 => ⟨S8x32x2048x16x128, .f32⟩
  | 53 => ⟨S8x32x2048x16x1, .f32⟩
  | 54 => ⟨S8x32x2048x16x128, .f32⟩
  | 55 => ⟨S8x32x2048x16x128, .f32⟩
  | 56 => ⟨S_, .f32⟩
  | 57 => ⟨S8x32x2048x16x128, .f32⟩
  | 58 => ⟨S8x32x2048x16x128, .f32⟩
  | 59 => ⟨S_, .f32⟩
  | 60 => ⟨S8x32x2048x16x128, .f32⟩
  | 61 => ⟨S8x32x2048x16x128, .f32⟩
  | 62 => ⟨S8x16x128x32x128, .f32⟩
  | 63 => ⟨S8x32x16x2048x128, .f32⟩
  | 64 => ⟨S8x32x16x2048, .f32⟩
  | 65 => ⟨S8x32x16x1, .f32⟩
  | 66 => ⟨S8x32x16x2048, .f32⟩
  | 67 => ⟨S8x32x16x2048, .f32⟩
  | 68 => ⟨S8x32x16x2048x1, .f32⟩
  | 69 => ⟨S8x32x16x2048x128, .f32⟩
  | 70 => ⟨S8x32x16x2048x128, .f32⟩
  | 71 => ⟨S_, .f32⟩
  | 72 => ⟨S8x32x2048x128, .f32⟩
  | 73 => ⟨S8x32x2048x1, .f32⟩
  | 74 => ⟨S8x32x2048x128, .f32⟩
  | 75 => ⟨S8x32x2048x128, .f32⟩
  | 76 => ⟨S8x2048x32x128, .f32⟩
  | 77 => ⟨S8x2048x4096, .f32⟩
  | 78 => ⟨S8x2048x4096, .bf16⟩
  | 79 => ⟨S8x32x16x1, .f32⟩
  | 80 => ⟨S8x32x16x128, .f32⟩
  | 81 => ⟨S8x8x16x1, .f32⟩
  | 82 => ⟨S8x8x16x128, .f32⟩
  | 83 => ⟨S8x8x16x1, .f32⟩
  | 84 => ⟨S8x8x16x128, .f32⟩
  | 85 => ⟨S8x2048x4096, .f32⟩
  | 86 => ⟨S8x2048x1024, .f32⟩
  | 87 => ⟨S8x2048x1024, .f32⟩
  | 88 => ⟨S8x2048x4096, .fp8e4m3⟩
  | 89 => ⟨S8x2048x1024, .fp8e4m3⟩
  | 90 => ⟨S8x2048x1024, .fp8e4m3⟩
  | _ => ⟨S8x2048x4096, .bf16⟩

abbrev hbmTy (i : Nat) : BufTy := match i / 128 with
  | 0 => hbmTy0_0 i
  | 1 => hbmTy0_1 i
  | _ => ⟨S8x2048x4096, .bf16⟩

abbrev bufTy : (tb : Table) → Fin (tcTables nBuf tb) → BufTy
  | .hbm, ⟨i, _⟩ => hbmTy i
  | .local _ .vmem, ⟨0, _⟩ => ⟨S8x2048x4096, .f32⟩
  | .local _ .vmem, ⟨1, _⟩ => ⟨S8x2048x1024, .f32⟩
  | .local _ .vmem, ⟨2, _⟩ => ⟨S8x2048x1024, .f32⟩
  | .local _ .vmem, ⟨3, _⟩ => ⟨S8x2048x4096, .fp8e4m3⟩
  | .local _ .vmem, ⟨4, _⟩ => ⟨S8x2048x1024, .fp8e4m3⟩
  | .local _ .vmem, ⟨5, _⟩ => ⟨S8x2048x1024, .fp8e4m3⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_cst_10 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_17 : Ref sig .tc := ⟨.hbm, 73, rfl⟩
abbrev main_v52 : Ref sig .tc := ⟨.hbm, 74, rfl⟩
abbrev main_v53 : Ref sig .tc := ⟨.hbm, 75, rfl⟩
abbrev main_cst_18 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_19 : Ref sig .tc := ⟨.hbm, 84, rfl⟩
abbrev main_v61 : Ref sig .tc := ⟨.hbm, 85, rfl⟩
abbrev main_cst_20 : Ref sig .tc := ⟨.hbm, 86, rfl⟩
abbrev main_v62 : Ref sig .tc := ⟨.hbm, 87, rfl⟩
abbrev main_cst_21 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_22 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_23 : Ref sig .tc := ⟨.hbm, 97, rfl⟩
abbrev main_v70 : Ref sig .tc := ⟨.hbm, 98, rfl⟩
abbrev main_v71 : Ref sig .tc := ⟨.hbm, 99, rfl⟩
abbrev main_cst_24 : Ref sig .tc := ⟨.hbm, 100, rfl⟩
abbrev main_v72 : Ref sig .tc := ⟨.hbm, 101, rfl⟩
abbrev main_v73 : Ref sig .tc := ⟨.hbm, 102, rfl⟩
abbrev main_cst_25 : Ref sig .tc := ⟨.hbm, 103, rfl⟩
abbrev main_v74 : Ref sig .tc := ⟨.hbm, 104, rfl⟩
abbrev main_v75 : Ref sig .tc := ⟨.hbm, 105, rfl⟩
abbrev main_cst_26 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_27 : Ref sig .tc := ⟨.hbm, 112, rfl⟩
abbrev main_v81 : Ref sig .tc := ⟨.hbm, 113, rfl⟩
abbrev main_v82 : Ref sig .tc := ⟨.hbm, 114, rfl⟩
abbrev main_cst_28 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_29 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_30 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_31 : Ref sig .tc := ⟨.hbm, 149, rfl⟩
abbrev main_v114 : Ref sig .tc := ⟨.hbm, 150, rfl⟩
abbrev main_v115 : Ref sig .tc := ⟨.hbm, 151, rfl⟩
abbrev main_cst_32 : Ref sig .tc := ⟨.hbm, 152, rfl⟩
abbrev main_v116 : Ref sig .tc := ⟨.hbm, 153, rfl⟩
abbrev main_v117 : Ref sig .tc := ⟨.hbm, 154, rfl⟩
abbrev main_cst_33 : Ref sig .tc := ⟨.hbm, 155, rfl⟩
abbrev main_v118 : Ref sig .tc := ⟨.hbm, 156, rfl⟩
abbrev main_cst_34 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_35 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_36 : Ref sig .tc := ⟨.hbm, 166, rfl⟩
abbrev main_v126 : Ref sig .tc := ⟨.hbm, 167, rfl⟩
abbrev main_v127 : Ref sig .tc := ⟨.hbm, 168, rfl⟩
abbrev main_cst_37 : Ref sig .tc := ⟨.hbm, 169, rfl⟩
abbrev main_v128 : Ref sig .tc := ⟨.hbm, 170, rfl⟩
abbrev main_v129 : Ref sig .tc := ⟨.hbm, 171, rfl⟩
abbrev main_cst_38 : Ref sig .tc := ⟨.hbm, 172, rfl⟩
abbrev main_v130 : Ref sig .tc := ⟨.hbm, 173, rfl⟩
abbrev main_v131 : Ref sig .tc := ⟨.hbm, 174, rfl⟩
abbrev main_cst_39 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_40 : Ref sig .tc := ⟨.hbm, 184, rfl⟩
abbrev main_v140 : Ref sig .tc := ⟨.hbm, 185, rfl⟩
abbrev main_v141 : Ref sig .tc := ⟨.hbm, 186, rfl⟩
abbrev main_cst_41 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_42 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169_0 : Ref sig .tc := ⟨.hbm, 216, rfl⟩
abbrev main_v169_1 : Ref sig .tc := ⟨.hbm, 217, rfl⟩
abbrev main_v169_2 : Ref sig .tc := ⟨.hbm, 218, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Split.lean ====
/- The kernel body cut into three programs: the quantisation of a key/value block (run at every fourth
   point), the quantisation of the query block, and the loop over query chunks. -/
module

public import proofs.«01_k».proof.Proof.Gen.Kernel.Loops
public import proofs.«01_k».proof.Proof.Gen.Kernel.Frame

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000

/-- The branch taken at the first of four points: the keys and the values of one head group quantised. -/
def quantKV (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) :
    Prog (TpuEff nD τ sig (Elt F) Λ₀ .tc) PUnit := do
  let ⟨v2822, v2832⟩ : Σ' (v2822 : FVec F S128x128 .f32), IVec S1x1 32 ← k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  let v2838 : Memref sig .tc .vmem S1x1x16x128 .f32 := arg11.slice (Rect.unit (s := S1x1x16x128) ![0, 0, 0, 0] S1x1x16x128.size inb_S1x1x16x128_S1x1x16x128_0_0_0_0) (fun _ => rfl)
  let v2839 : Memref sig .tc .vmem S16x128 .f32 := v2838.squeeze S16x128 squeezes_S1x1x16x128_S16x128
  let v2840 : Vec F S1x128 .f32 ← Prog.lift (.load v2839 (Rect.unit (s := S16x128) ![15, 0] S1x128.size inb_S16x128_S1x128_15_0).toLoadRect (View.loadsAt_vmem h_S1x128))
  Prog.lift (.store v2839 (Rect.unit (s := S16x128) ![15, 0] S1x128.size inb_S16x128_S1x128_15_0) (k0_pay279 (F := F) v2832) Finset.univ (View.stores_vmem_bits_univ h_S1x128 rfl) (.inl rfl))
  let v2847 : Vec F S128x128 .fp8e4m3 ← Prog.lift (.load arg12 (Rect.unit (s := S128x2048) ![0, 1920] S128x128.size inb_S128x2048_S128x128_0_1920).toLoadRect (View.loadsAt_vmem h_S128x128))
  Prog.lift (.store arg12 (Rect.unit (s := S128x2048) ![0, 1920] S128x128.size inb_S128x2048_S128x128_0_1920) (k0_pay280 v2822) Finset.univ (View.stores_vmem h_S128x128 (harg12.storeExact_slice rfl _ packedfp8e4m3_S128x2048_S128x128_0_1920) (fun _ => rfl)) (.inl rfl))
  pure ⟨⟩

/-- The first load of the query quantisation, and what it passes on. -/
def quantX0 (arg2 : Memref sig .tc .vmem S1x2048x128 .bf16) :
    Prog (TpuEff nD τ sig (Elt F) Λ₀ .tc) (Σ' (v15 : FVec F S128x128 .f32) (v35 : IVec S1x1 32), IVec S1x1 32) := do
  let v13 : Vec F S1x128x128 .bf16 ← Prog.lift (.load arg2 (Rect.unit (s := S1x2048x128) ![0, 0, 0] S1x128x128.size inb_S1x2048x128_S1x128x128_0_0_0).toLoadRect (View.loadsAt_vmem h_S1x128x128))
  pure ⟨k0_pay281 v13, k0_pay282 v13, k0_pay283⟩

/-- The query block quantised, from what the first load passes on; then the group's key and value scales loaded. -/
def quantX1 (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (r : Σ' (v15 : FVec F S128x128 .f32) (v35 : IVec S1x1 32), IVec S1x1 32) :
    Prog (TpuEff nD τ sig (Elt F) Λ₀ .tc) (FVec F S16x128 .f32 × Vec F S1x1x16x128 .f32) := do
  let ⟨v15, v35, v36⟩ := r
  let ⟨v71, v72⟩ : Σ' (v71 : FVec F S128x128 .f32), FVec F S128x128 .f32 ← k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v35 v36
  let ⟨v97, v114⟩ : Σ' (v97 : IVec S1x1 32), FVec F S1x128x128 .fp8e4m3 ← k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v71 v72
  let ⟨v127, v149, v151⟩ : Σ' (v127 : FVec F S128x128 .f32) (v149 : IVec S1x1 1), IVec S1x1 32 ← k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v97 v114
  let ⟨v183, v187⟩ : Σ' (v183 : FVec F S128x128 .f32), FVec F S1 .f32 ← k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v127 v149 v151
  let v228 : IVec S1x1 32 ← k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v183 v187
  let ⟨v239, v265, c0_i32_127⟩ : Σ' (v239 : FVec F S128x128 .f32) (v265 : IVec S1x1 32), BitVec 32 ← k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v228
  let ⟨v295, v300, v301, v302⟩ : Σ' (v295 : FVec F S128x128 .f32) (v300 : FVec F S1x1 .f32) (v301 : IVec S1x256 32), FVec F S1x1 .f32 ← k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v239 v265 c0_i32_127
  let v343 : FVec F S1x1 .f32 ← k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v295 v300 v301 v302
  let ⟨v351, v377, v379, v380⟩ : Σ' (v351 : FVec F S128x128 .f32) (v377 : IVec S1x1 32) (v379 : IVec S1x1 32), IVec S1x1 32 ← k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v343
  let ⟨v407, v415, v417⟩ : Σ' (v407 : FVec F S128x128 .f32) (v415 : FVec F S1x1 .f32), IVec S1x256 32 ← k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v351 v377 v379 v380
  let v457 : FVec F S1x128 .f32 ← k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v407 v415 v417
  let ⟨v463, v489, v495⟩ : Σ' (v463 : FVec F S128x128 .f32) (v489 : IVec S1x1 32), IVec S1x1 32 ← k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v457
  let ⟨v519, v532, c1_i32_260⟩ : Σ' (v519 : FVec F S128x128 .f32) (v532 : IVec S1x256 1), BitVec 32 ← k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v463 v489 v495
  let v569 : FVec F S1x128 .f32 ← k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v519 v532 c1_i32_260
  let ⟨v601, v610, cst_298⟩ : Σ' (v601 : IVec S1x1 32) (v610 : FVec F S128x128 .f32), F .f32 ← k0_part81 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v569
  let ⟨v631, v647⟩ : Σ' (v631 : FVec F S128x128 .f32), IVec S1x256 32 ← k0_part82 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v601 v610 cst_298
  k0_part83 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v631 v647
  let ⟨v713, v724, v725⟩ : Σ' (v713 : IVec S1x1 32) (v724 : FVec F S128x128 .f32), FVec F S128x128 .f32 ← k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  let ⟨v743, v761, c1_i32_375⟩ : Σ' (v743 : FVec F S128x128 .f32) (v761 : IVec S1x1 32), BitVec 32 ← k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v713 v724 v725
  let v797 : Vec F S1x128x128 .bf16 ← k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v743 v761 c1_i32_375
  let ⟨v825, v839⟩ : Σ' (v825 : IVec S1x1 32), FVec F S128x128 .fp8e4m3 ← k0_part87 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v797
  let ⟨v855, v875, v876⟩ : Σ' (v855 : FVec F S128x128 .f32) (v875 : IVec S1x1 32), IVec S1x1 32 ← k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v825 v839
  let v910 : FVec F S16x128 .f32 ← k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v855 v875 v876
  let v911 : Vec F S1x1x16x128 .f32 ← Prog.lift (.load arg11 (Rect.unit (s := S1x1x16x128) ![0, 0, 0, 0] S1x1x16x128.size inb_S1x1x16x128_S1x1x16x128_0_0_0_0).toLoadRect (View.loadsAt_vmem h_S1x1x16x128))
  pure (v910, v911)

/-- The query block quantised; then the group's key and value scales loaded. -/
def quantX (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) :
    Prog (TpuEff nD τ sig (Elt F) Λ₀ .tc) (FVec F S16x128 .f32 × Vec F S1x1x16x128 .f32) :=
  quantX0 arg2 >>= fun r => quantX1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 r

theorem part66_split (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) :
    k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = ((if k0_h1 : k0_cond1 i = 1#1 then quantKV i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 else pure ⟨⟩) >>= fun _ => quantX0 arg2) := by
  rw [k0_part66_eq_skeleton]
  unfold k0_part66_skel
  by_cases h : k0_cond1 i = 1#1
  · rw [dif_pos h, dif_pos h]; unfold quantKV quantX0; simp only [bind_assoc, pure_bind]
  · rw [dif_neg h, dif_neg h]; rfl

/-- The body is the branch, the query quantisation and the loop, in that order. -/
theorem body_split (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
    (E : Set ℕ) (K : PUnit → sProp 𝕄) :
    wp frame (wpE (defs₀ (F := F)) Variants.none c none) E (cc0_fp8_gqa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K
      = wp frame (wpE (defs₀ (F := F)) Variants.none c none) E (if k0_h1 : k0_cond1 i = 1#1 then quantKV i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 else pure ⟨⟩)
          (fun _ => wp frame (wpE (defs₀ (F := F)) Variants.none c none) E (quantX i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
            (fun r => wp frame (wpE (defs₀ (F := F)) Variants.none c none) E
              (Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 r.1 r.2)) K)) := by
  have e : cc0_fp8_gqa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = ((if k0_h1 : k0_cond1 i = 1#1 then quantKV i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 else pure ⟨⟩) >>= fun _ =>
          quantX i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 >>= fun r => Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 r.1 r.2)) := by
    rw [cc0_fp8_gqa_attention_eq_skeleton]
    unfold cc0_fp8_gqa_attention_skel quantX
    rw [part66_split]
    unfold quantX1
    simp only [bind_assoc, pure_bind, bind_pure, bind_pure_unit]
  rw [e, wp_bind, wp_bind]

end Cert.Kernel.Gen
-- ==== Proof.Kernel.Content.lean ====
/- What the blocks of the kernel hold, as functions of the arrays they are computed from. -/
module

public import proofs.«01_k».proof.Proof.Kernel.Split
public import Idealize.ShloMosaic.Lib.Pipeline.ReadBack
public import Idealize.ShloMosaic.Lib.WholeRead
public import Idealize.ShloMosaic.Lib.ValueLayout

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## The quantiser -/

/-- The codes of one 128 × 128 block: scaled by the block's power of two, clipped, rounded to fp8. -/
def codesBlk (B : Vec F S1x128x128 .bf16) : FVec F S1x128x128 .fp8e4m3 := k0_pay7 (k0_pay5 B) k0_pay6

/-- The scale of one block, along a row of 128 lanes. -/
def scaleRow (B : Vec F S1x128x128 .bf16) : FVec F S1x128 .f32 := k0_pay8 (k0_pay4 B)

/-- The codes of one block, transposed. -/
def codesTBlk (B : Vec F S1x128x128 .bf16) : FVec F S128x128 .fp8e4m3 :=
  k0_pay280 (k0_pay95 (k0_pay92 B) (k0_pay93 B) 1#32)

theorem inb_blk (n : Fin 16) : ∀ a, (![0, 128 * n.val, 0] : Fin 3 → ℕ) a + S1x128x128.size a ≤ S1x2048x128.size a := by
  have := n.isLt
  intro a
  match a with
  | ⟨0, _⟩ => show 0 + 1 ≤ 1; omega
  | ⟨1, _⟩ => show 128 * n.val + 128 ≤ 2048; omega
  | ⟨2, _⟩ => show 0 + 128 ≤ 128; omega

/-- The rectangle of 128 rows the `n`-th block takes of a 2048-row slab. -/
abbrev rBlk (n : Fin 16) : Rect S1x2048x128 := Rect.unit ![0, 128 * n.val, 0] S1x128x128.size (inb_blk n)

/-- The `n`-th block of 128 rows. -/
def blk (X : Vec F S1x2048x128 .bf16) (n : Fin 16) : Vec F S1x128x128 .bf16 := fun j => X ((rBlk n).emb j)

/-- The block a row lies in, and its row in that block. -/
def blkOf (r : Fin 2048) : Fin 16 := ⟨r.val / 128, by omega⟩
def rowOf (r : Fin 2048) : Fin 128 := ⟨r.val % 128, by omega⟩

/-- The codes of a slab. -/
def qCodes (X : Vec F S1x2048x128 .bf16) : Vec F S1x2048x128 .fp8e4m3 :=
  fun y => codesBlk (blk X (blkOf (y 1))) (ix3 0 (rowOf (y 1)) (y 2))

/-- The scales of a slab, each repeated along 128 lanes. -/
def qScales (X : Vec F S1x2048x128 .bf16) : Vec F S1x1x16x128 .f32 :=
  fun y => scaleRow (blk X (y 2)) (ix2 0 (y 3))

/-- The codes of a slab, transposed. -/
def qCodesT (X : Vec F S1x2048x128 .bf16) : Vec F S128x2048 .fp8e4m3 :=
  fun y => codesTBlk (blk X (blkOf (y 1))) (ix2 (y 0) (rowOf (y 1)))

section pieces

variable {m : Memref sig .tc .vmem S1x2048x128 .bf16} (h : m.IsWhole) (X : Vec F S1x2048x128 .bf16)

/-- The block as the kernel loads it. -/
abbrev ldBlk (n : Fin 16) : Vec F S1x128x128 .bf16 := View.readAt (Elt F) m.view (rBlk n).toLoadRect (h.unread X)

theorem ldBlk_eq (n : Fin 16) : ldBlk h X n = blk X n := by
  funext x
  show View.readAt (Elt F) m.view (rBlk n).toLoadRect (h.unread X) x = _
  rw [h.readAt_unread]
  rfl

theorem piece_codes (n : Fin 16) (x : (rBlk n).shape.Idx) :
    codesBlk (ldBlk h X n) x = qCodes X ((rBlk n).emb x) := by
  rw [ldBlk_eq]
  have hx0 : (x 0).val < 1 := (x 0).isLt
  have hx1 : (x 1).val < 128 := (x 1).isLt
  have hn := n.isLt
  have e1 : ((rBlk n).emb x 1).val = 128 * n.val + (x 1).val := by rw [Rect.emb_apply]; simp
  have e2 : ((rBlk n).emb x 2).val = (x 2).val := by rw [Rect.emb_apply]; simp
  have eb : blkOf ((rBlk n).emb x 1) = n := Fin.ext (by unfold blkOf; dsimp only; rw [e1]; omega)
  show _ = codesBlk (blk X (blkOf ((rBlk n).emb x 1))) _
  rw [eb]
  congr 1
  funext a
  match a with
  | ⟨0, _⟩ => exact Fin.ext (by show (x 0).val = 0; omega)
  | ⟨1, _⟩ => exact Fin.ext (by show (x 1).val = ((rBlk n).emb x 1).val % 128; rw [e1]; omega)
  | ⟨2, _⟩ => exact Fin.ext e2.symm

theorem inb_row (n : Fin 16) : ∀ a, (![n.val, 0] : Fin 2 → ℕ) a + S1x128.size a ≤ S16x128.size a := by
  have := n.isLt
  intro a
  match a with
  | ⟨0, _⟩ => show n.val + 1 ≤ 16; omega
  | ⟨1, _⟩ => show 0 + 128 ≤ 128; omega

abbrev rRow (n : Fin 16) : Rect S16x128 := Rect.unit ![n.val, 0] S1x128.size (inb_row n)

theorem reshape_row (h : (⟨4, ![1, 1, 1, 128]⟩ : Shape).numel = (⟨2, ![1, 128]⟩ : Shape).numel) (x : (⟨4, ![1, 1, 1, 128]⟩ : Shape).Idx) :
    Shape.reshapeEquiv h x = ix2 (n0 := 1) (n1 := 128) 0 (x 3) :=
  Shape.reshapeEquiv_eq_of_rowMajor h (by
    have h0 : (x 0).val < 1 := (x 0).isLt
    have h1 : (x 1).val < 1 := (x 1).isLt
    have h2 : (x 2).val < 1 := (x 2).isLt
    rw [Shape.rowMajor_val_four, Shape.rowMajor_val_two]
    show 0 * 128 + (x 3).val = (((x 0).val * 1 + (x 1).val) * 1 + (x 2).val) * 128 + (x 3).val
    omega)

theorem piece_scales (n : Fin 16) {hr : ∀ a, (![0, 0, 0, 0] : Fin 4 → ℕ) a + S1x1x16x128.size a ≤ S1x1x16x128.size a} {h1 h2 h3 h4} {h5 : ∀ a : Fin 4, (Rect.unit (s := S1x1x16x128) ![0, 0, 0, 0] S1x1x16x128.size hr).stride a = 1} {hR}
    (x : ((Rect.unit ![0, 0, 0, 0] S1x1x16x128.size hr).within (((rRow n).consLift ![1, 16, 128] h1 h2).consLift ![1, 1, 16, 128] h3 h4) h5
      : Rect S1x1x16x128).shape.Idx) :
    Rect.payAlong (r := rRow n) hR (scaleRow (ldBlk h X n)) x
      = qScales X (((Rect.unit ![0, 0, 0, 0] S1x1x16x128.size hr).within (((rRow n).consLift ![1, 16, 128] h1 h2).consLift ![1, 1, 16, 128] h3 h4) h5).emb x) := by
  rw [ldBlk_eq]
  have hn := n.isLt
  have h2 : (x 2).val < 1 := (x 2).isLt
  set y := ((Rect.unit ![0, 0, 0, 0] S1x1x16x128.size hr).within (((rRow n).consLift ![1, 16, 128] _ _).consLift ![1, 1, 16, 128] _ _) h5).emb x with hy
  have e2 : (y 2).val = n.val := by rw [hy, Rect.emb_apply]; show 0 + n.val + 1 * (x 2).val = n.val; omega
  have e3 : (y 3).val = (x 3).val := by rw [hy, Rect.emb_apply]; show 0 + 0 + 1 * (x 3).val = (x 3).val; omega
  have e2' : y 2 = n := Fin.ext e2
  show scaleRow (blk X n) (Shape.reshapeEquiv _ x) = scaleRow (blk X (y 2)) (ix2 0 (y 3))
  rw [e2']
  refine congrArg (scaleRow (blk X n)) ((reshape_row _ x).trans ?_)
  exact congrArg (ix2 (n0 := 1) (n1 := 128) 0) (Fin.ext e3.symm)

theorem inb_cols (n : Fin 16) : ∀ a, (![0, 128 * n.val] : Fin 2 → ℕ) a + S128x128.size a ≤ S128x2048.size a := by
  have := n.isLt
  intro a
  match a with
  | ⟨0, _⟩ => show 0 + 128 ≤ 128; omega
  | ⟨1, _⟩ => show 128 * n.val + 128 ≤ 2048; omega

abbrev rCols (n : Fin 16) : Rect S128x2048 := Rect.unit ![0, 128 * n.val] S128x128.size (inb_cols n)

theorem piece_codesT (n : Fin 16) (x : (rCols n).shape.Idx) :
    codesTBlk (ldBlk h X n) x = qCodesT X ((rCols n).emb x) := by
  rw [ldBlk_eq]
  have hx0 : (x 0).val < 128 := (x 0).isLt
  have hx1 : (x 1).val < 128 := (x 1).isLt
  have hn := n.isLt
  have e0 : ((rCols n).emb x 0).val = (x 0).val := by rw [Rect.emb_apply]; simp
  have e1 : ((rCols n).emb x 1).val = 128 * n.val + (x 1).val := by rw [Rect.emb_apply]; simp
  have eb : blkOf ((rCols n).emb x 1) = n := Fin.ext (by unfold blkOf; dsimp only; rw [e1]; omega)
  show _ = codesTBlk (blk X (blkOf ((rCols n).emb x 1))) _
  rw [eb]
  congr 1
  funext a
  match a with
  | ⟨0, _⟩ => exact Fin.ext e0.symm
  | ⟨1, _⟩ => exact Fin.ext (by show (x 1).val = ((rCols n).emb x 1).val % 128; rw [e1]; omega)

end pieces

end Cert.Kernel.Gen
-- ==== Proof.Kernel.RunX.lean ====
/- The quantisation of a query block. -/
module

public import proofs.«01_k».proof.Proof.Kernel.Split

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
set_option sl_exec.squeezeSlice true in
/-- The quantisation of a query block. What each written buffer ends with, as pieces (last first), with the run that finds them. -/
def runX (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (X2 : Vec F S1x2048x128 .bf16) (X9 : Vec F S1x1x16x128 .f32) (X11 : Vec F S1x1x16x128 .f32) :
  Σ' (R : (FVec F S16x128 .f32 × Vec F S1x1x16x128 .f32)), Σ' (L6 : List (View.Piece (Elt F) S1x2048x128 .fp8e4m3)), { L7 : List (View.Piece (Elt F) S1x1x16x128 .f32) // ∀ (Z6 : Vec F S1x2048x128 .fp8e4m3) (Z7 : Vec F S1x1x16x128 .f32) (E : Set ℕ) (K : (FVec F S16x128 .f32 × Vec F S1x1x16x128 .f32) → sProp 𝕄),
     iprop(owns (c : Thread nD τ) arg2 fullShare X2 ∗ owns (c : Thread nD τ) arg9 fullShare X9 ∗ owns (c : Thread nD τ) arg11 fullShare X11 ∗ owns (c : Thread nD τ) arg6 fullShare Z6 ∗ owns (c : Thread nD τ) arg7 fullShare Z7
       ∗ (iprop(owns (c : Thread nD τ) arg2 fullShare X2 ∗ owns (c : Thread nD τ) arg9 fullShare X9 ∗ owns (c : Thread nD τ) arg11 fullShare X11 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K R))
     ⊢ wp frame (wpE (defs₀ (F := F)) Variants.none c none) E (quantX i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun Z6 Z7 E K => ?run⟩
  case run =>
    unfold quantX quantX1 quantX0
    unfold owns
    iintro ⟨⟨%f2, %hf2, H2⟩, ⟨%f9, %hf9, H9⟩, ⟨%f11, %hf11, H11⟩, ⟨%f6, %hf6, H6⟩, ⟨%f7, %hf7, H7⟩, Hk⟩
    obtain rfl := harg2.eq_unread hf2
    obtain rfl := harg9.eq_unread hf9
    obtain rfl := harg11.eq_unread hf11
    obtain rfl := harg6.eq_unread hf6
    obtain rfl := harg7.eq_unread hf7
    sl_exec_parts
    sl_step
    iapply Hk
    isplitl [H2]
    · iexists _; isplitr; · ipureintro; exact harg2.read_unread _
      iexact H2
    isplitl [H9]
    · iexists _; isplitr; · ipureintro; exact harg9.read_unread _
      iexact H9
    isplitl [H11]
    · iexists _; isplitr; · ipureintro; exact harg11.read_unread _
      iexact H11
    isplitl [H6]
    · iexists _; iexact H6
    iexists _; iexact H7

end Cert.Kernel.Gen
-- ==== Proof.Kernel.RunKV.lean ====
/- The quantisation of a key/value block. -/
module

public import proofs.«01_k».proof.Proof.Kernel.Split

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
set_option sl_exec.squeezeSlice true in
/-- The quantisation of a key/value block. What each written buffer ends with, as pieces (last first), with the run that finds them. -/
def runKV (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (X3 : Vec F S1x2048x128 .bf16) (X4 : Vec F S1x2048x128 .bf16) :
  Σ' (L8 : List (View.Piece (Elt F) S1x2048x128 .fp8e4m3)), Σ' (L9 : List (View.Piece (Elt F) S1x1x16x128 .f32)), Σ' (L10 : List (View.Piece (Elt F) S1x2048x128 .fp8e4m3)), Σ' (L11 : List (View.Piece (Elt F) S1x1x16x128 .f32)), { L12 : List (View.Piece (Elt F) S128x2048 .fp8e4m3) // ∀ (Z8 : Vec F S1x2048x128 .fp8e4m3) (Z9 : Vec F S1x1x16x128 .f32) (Z10 : Vec F S1x2048x128 .fp8e4m3) (Z11 : Vec F S1x1x16x128 .f32) (Z12 : Vec F S128x2048 .fp8e4m3) (E : Set ℕ) (K : PUnit → sProp 𝕄),
     iprop(owns (c : Thread nD τ) arg3 fullShare X3 ∗ owns (c : Thread nD τ) arg4 fullShare X4 ∗ owns (c : Thread nD τ) arg8 fullShare Z8 ∗ owns (c : Thread nD τ) arg9 fullShare Z9 ∗ owns (c : Thread nD τ) arg10 fullShare Z10 ∗ owns (c : Thread nD τ) arg11 fullShare Z11 ∗ owns (c : Thread nD τ) arg12 fullShare Z12
       ∗ (iprop(owns (c : Thread nD τ) arg3 fullShare X3 ∗ owns (c : Thread nD τ) arg4 fullShare X4 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
     ⊢ wp frame (wpE (defs₀ (F := F)) Variants.none c none) E (quantKV i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun Z8 Z9 Z10 Z11 Z12 E K => ?run⟩
  case run =>
    unfold quantKV
    unfold owns
    iintro ⟨⟨%f3, %hf3, H3⟩, ⟨%f4, %hf4, H4⟩, ⟨%f8, %hf8, H8⟩, ⟨%f9, %hf9, H9⟩, ⟨%f10, %hf10, H10⟩, ⟨%f11, %hf11, H11⟩, ⟨%f12, %hf12, H12⟩, Hk⟩
    obtain rfl := harg3.eq_unread hf3
    obtain rfl := harg4.eq_unread hf4
    obtain rfl := harg8.eq_unread hf8
    obtain rfl := harg9.eq_unread hf9
    obtain rfl := harg10.eq_unread hf10
    obtain rfl := harg11.eq_unread hf11
    obtain rfl := harg12.eq_unread hf12
    sl_exec_parts
    sl_step
    iapply Hk
    isplitl [H3]
    · iexists _; isplitr; · ipureintro; exact harg3.read_unread _
      iexact H3
    isplitl [H4]
    · iexists _; isplitr; · ipureintro; exact harg4.read_unread _
      iexact H4
    isplitl [H8]
    · iexists _; iexact H8
    isplitl [H9]
    · iexists _; iexact H9
    isplitl [H10]
    · iexists _; iexact H10
    isplitl [H11]
    · iexists _; iexact H11
    iexists _; iexact H12

end Cert.Kernel.Gen
-- ==== Proof.Kernel.ReadX.lean ====
/- What the quantisation runs leave in the buffers they write. -/
module

public import proofs.«01_k».proof.Proof.Kernel.Content
public import proofs.«01_k».proof.Proof.Kernel.RunX
public import proofs.«01_k».proof.Proof.Kernel.RunKV

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem read_codesX (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X2 : Vec F S1x2048x128 .bf16) (X9 X11 : Vec F S1x1x16x128 .f32) (f : _) :
    arg6.view.read (Elt F) (arg6.view.writes (Elt F) f (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.1) = (qCodes X2) := by
  funext y
  have hc := View.cover_of_tiledL (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.1 S1x128x128.size (by sl_kernel_rfl) y
  rw [View.read_writes_eq_canon _ _ _ (View.cover_of_tiledL (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.1 S1x128x128.size (by sl_kernel_rfl))]
  rw [← List.append_nil (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.1]
  refine View.canon_append_of_piecesOf (qCodes X2) [] _ ?_ y hc
  exact ⟨fun x => piece_codes harg2 X2 15 x, fun x => piece_codes harg2 X2 14 x, fun x => piece_codes harg2 X2 13 x, fun x => piece_codes harg2 X2 12 x, fun x => piece_codes harg2 X2 11 x, fun x => piece_codes harg2 X2 10 x, fun x => piece_codes harg2 X2 9 x, fun x => piece_codes harg2 X2 8 x, fun x => piece_codes harg2 X2 7 x, fun x => piece_codes harg2 X2 6 x, fun x => piece_codes harg2 X2 5 x, fun x => piece_codes harg2 X2 4 x, fun x => piece_codes harg2 X2 3 x, fun x => piece_codes harg2 X2 2 x, fun x => piece_codes harg2 X2 1 x, fun x => piece_codes harg2 X2 0 x, trivial⟩

theorem read_scalesX (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X2 : Vec F S1x2048x128 .bf16) (X9 X11 : Vec F S1x1x16x128 .f32) (f : _) :
    arg7.view.read (Elt F) (arg7.view.writes (Elt F) f (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.2.1) = (qScales X2) := by
  funext y
  have hc := View.cover_of_tiledL (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.2.1 ![1, 1, 1, 128] (by sl_kernel_rfl) y
  rw [View.read_writes_eq_canon _ _ _ (View.cover_of_tiledL (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.2.1 ![1, 1, 1, 128] (by sl_kernel_rfl))]
  rw [← List.append_nil (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.2.1]
  refine View.canon_append_of_piecesOf (qScales X2) [] _ ?_ y hc
  exact ⟨fun x => piece_scales (h5 := fun _ => rfl) harg2 X2 15 x, fun x => piece_scales (h5 := fun _ => rfl) harg2 X2 14 x, fun x => piece_scales (h5 := fun _ => rfl) harg2 X2 13 x, fun x => piece_scales (h5 := fun _ => rfl) harg2 X2 12 x, fun x => piece_scales (h5 := fun _ => rfl) harg2 X2 11 x, fun x => piece_scales (h5 := fun _ => rfl) harg2 X2 10 x, fun x => piece_scales (h5 := fun _ => rfl) harg2 X2 9 x, fun x => piece_scales (h5 := fun _ => rfl) harg2 X2 8 x, fun x => piece_scales (h5 := fun _ => rfl) harg2 X2 7 x, fun x => piece_scales (h5 := fun _ => rfl) harg2 X2 6 x, fun x => piece_scales (h5 := fun _ => rfl) harg2 X2 5 x, fun x => piece_scales (h5 := fun _ => rfl) harg2 X2 4 x, fun x => piece_scales (h5 := fun _ => rfl) harg2 X2 3 x, fun x => piece_scales (h5 := fun _ => rfl) harg2 X2 2 x, fun x => piece_scales (h5 := fun _ => rfl) harg2 X2 1 x, fun x => piece_scales (h5 := fun _ => rfl) harg2 X2 0 x, trivial⟩

theorem read_codesK (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X3 X4 : Vec F S1x2048x128 .bf16) (f : _) :
    arg8.view.read (Elt F) (arg8.view.writes (Elt F) f (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).1) = (qCodes X3) := by
  funext y
  have hc := View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).1 S1x128x128.size (by sl_kernel_rfl) y
  rw [View.read_writes_eq_canon _ _ _ (View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).1 S1x128x128.size (by sl_kernel_rfl))]
  rw [← List.append_nil (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).1]
  refine View.canon_append_of_piecesOf (qCodes X3) [] _ ?_ y hc
  exact ⟨fun x => piece_codes harg3 X3 15 x, fun x => piece_codes harg3 X3 14 x, fun x => piece_codes harg3 X3 13 x, fun x => piece_codes harg3 X3 12 x, fun x => piece_codes harg3 X3 11 x, fun x => piece_codes harg3 X3 10 x, fun x => piece_codes harg3 X3 9 x, fun x => piece_codes harg3 X3 8 x, fun x => piece_codes harg3 X3 7 x, fun x => piece_codes harg3 X3 6 x, fun x => piece_codes harg3 X3 5 x, fun x => piece_codes harg3 X3 4 x, fun x => piece_codes harg3 X3 3 x, fun x => piece_codes harg3 X3 2 x, fun x => piece_codes harg3 X3 1 x, fun x => piece_codes harg3 X3 0 x, trivial⟩

theorem read_scalesK (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X3 X4 : Vec F S1x2048x128 .bf16) (f : _) :
    arg9.view.read (Elt F) (arg9.view.writes (Elt F) f (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.1) = (qScales X3) := by
  funext y
  have hc := View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.1 ![1, 1, 1, 128] (by sl_kernel_rfl) y
  rw [View.read_writes_eq_canon _ _ _ (View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.1 ![1, 1, 1, 128] (by sl_kernel_rfl))]
  rw [← List.append_nil (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.1]
  refine View.canon_append_of_piecesOf (qScales X3) [] _ ?_ y hc
  exact ⟨fun x => piece_scales (h5 := fun _ => rfl) harg3 X3 15 x, fun x => piece_scales (h5 := fun _ => rfl) harg3 X3 14 x, fun x => piece_scales (h5 := fun _ => rfl) harg3 X3 13 x, fun x => piece_scales (h5 := fun _ => rfl) harg3 X3 12 x, fun x => piece_scales (h5 := fun _ => rfl) harg3 X3 11 x, fun x => piece_scales (h5 := fun _ => rfl) harg3 X3 10 x, fun x => piece_scales (h5 := fun _ => rfl) harg3 X3 9 x, fun x => piece_scales (h5 := fun _ => rfl) harg3 X3 8 x, fun x => piece_scales (h5 := fun _ => rfl) harg3 X3 7 x, fun x => piece_scales (h5 := fun _ => rfl) harg3 X3 6 x, fun x => piece_scales (h5 := fun _ => rfl) harg3 X3 5 x, fun x => piece_scales (h5 := fun _ => rfl) harg3 X3 4 x, fun x => piece_scales (h5 := fun _ => rfl) harg3 X3 3 x, fun x => piece_scales (h5 := fun _ => rfl) harg3 X3 2 x, fun x => piece_scales (h5 := fun _ => rfl) harg3 X3 1 x, fun x => piece_scales (h5 := fun _ => rfl) harg3 X3 0 x, trivial⟩

theorem read_codesV (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X3 X4 : Vec F S1x2048x128 .bf16) (f : _) :
    arg10.view.read (Elt F) (arg10.view.writes (Elt F) f (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.1) = (qCodes X4) := by
  funext y
  have hc := View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.1 S1x128x128.size (by sl_kernel_rfl) y
  rw [View.read_writes_eq_canon _ _ _ (View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.1 S1x128x128.size (by sl_kernel_rfl))]
  rw [← List.append_nil (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.1]
  refine View.canon_append_of_piecesOf (qCodes X4) [] _ ?_ y hc
  exact ⟨fun x => piece_codes harg4 X4 15 x, fun x => piece_codes harg4 X4 14 x, fun x => piece_codes harg4 X4 13 x, fun x => piece_codes harg4 X4 12 x, fun x => piece_codes harg4 X4 11 x, fun x => piece_codes harg4 X4 10 x, fun x => piece_codes harg4 X4 9 x, fun x => piece_codes harg4 X4 8 x, fun x => piece_codes harg4 X4 7 x, fun x => piece_codes harg4 X4 6 x, fun x => piece_codes harg4 X4 5 x, fun x => piece_codes harg4 X4 4 x, fun x => piece_codes harg4 X4 3 x, fun x => piece_codes harg4 X4 2 x, fun x => piece_codes harg4 X4 1 x, fun x => piece_codes harg4 X4 0 x, trivial⟩

theorem read_scalesV (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X3 X4 : Vec F S1x2048x128 .bf16) (f : _) :
    arg11.view.read (Elt F) (arg11.view.writes (Elt F) f (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.1) = (qScales X4) := by
  funext y
  have hc := View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.1 ![1, 1, 1, 128] (by sl_kernel_rfl) y
  rw [View.read_writes_eq_canon _ _ _ (View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.1 ![1, 1, 1, 128] (by sl_kernel_rfl))]
  rw [← List.append_nil (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.1]
  refine View.canon_append_of_piecesOf (qScales X4) [] _ ?_ y hc
  exact ⟨fun x => piece_scales (h5 := fun _ => rfl) harg4 X4 15 x, fun x => piece_scales (h5 := fun _ => rfl) harg4 X4 14 x, fun x => piece_scales (h5 := fun _ => rfl) harg4 X4 13 x, fun x => piece_scales (h5 := fun _ => rfl) harg4 X4 12 x, fun x => piece_scales (h5 := fun _ => rfl) harg4 X4 11 x, fun x => piece_scales (h5 := fun _ => rfl) harg4 X4 10 x, fun x => piece_scales (h5 := fun _ => rfl) harg4 X4 9 x, fun x => piece_scales (h5 := fun _ => rfl) harg4 X4 8 x, fun x => piece_scales (h5 := fun _ => rfl) harg4 X4 7 x, fun x => piece_scales (h5 := fun _ => rfl) harg4 X4 6 x, fun x => piece_scales (h5 := fun _ => rfl) harg4 X4 5 x, fun x => piece_scales (h5 := fun _ => rfl) harg4 X4 4 x, fun x => piece_scales (h5 := fun _ => rfl) harg4 X4 3 x, fun x => piece_scales (h5 := fun _ => rfl) harg4 X4 2 x, fun x => piece_scales (h5 := fun _ => rfl) harg4 X4 1 x, fun x => piece_scales (h5 := fun _ => rfl) harg4 X4 0 x, trivial⟩

theorem read_codesVT (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X3 X4 : Vec F S1x2048x128 .bf16) (f : _) :
    arg12.view.read (Elt F) (arg12.view.writes (Elt F) f (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.2.1) = (qCodesT X4) := by
  funext y
  have hc := View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.2.1 S128x128.size (by sl_kernel_rfl) y
  rw [View.read_writes_eq_canon _ _ _ (View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.2.1 S128x128.size (by sl_kernel_rfl))]
  rw [← List.append_nil (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.2.1]
  refine View.canon_append_of_piecesOf (qCodesT X4) [] _ ?_ y hc
  exact ⟨fun x => piece_codesT harg4 X4 15 x, fun x => piece_codesT harg4 X4 14 x, fun x => piece_codesT harg4 X4 13 x, fun x => piece_codesT harg4 X4 12 x, fun x => piece_codesT harg4 X4 11 x, fun x => piece_codesT harg4 X4 10 x, fun x => piece_codesT harg4 X4 9 x, fun x => piece_codesT harg4 X4 8 x, fun x => piece_codesT harg4 X4 7 x, fun x => piece_codesT harg4 X4 6 x, fun x => piece_codesT harg4 X4 5 x, fun x => piece_codesT harg4 X4 4 x, fun x => piece_codesT harg4 X4 3 x, fun x => piece_codesT harg4 X4 2 x, fun x => piece_codesT harg4 X4 1 x, fun x => piece_codesT harg4 X4 0 x, trivial⟩

end Cert.Kernel.Gen
-- ==== Proof.Kernel.Trip.lean ====
/- One trip of the attention loop. -/
module

public import proofs.«01_k».proof.Proof.Gen.Kernel.Loops
public import proofs.«01_k».proof.Proof.Gen.Kernel.Frame

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer held at some contents is held at what it reads. -/
theorem owns_some (c : Dev nD) {s : Shape} {e : EltTy} (m : Memref sig .tc .vmem s e) (f : m.view.ty.Contents (Elt F)) :
    (m.view.loc (c : Thread nD τ) ↦[m.view.set]{fullShare} f : sProp 𝕄) ⊢ iprop(∃ d, owns (c : Thread nD τ) m fullShare d) := by
  unfold owns
  iintro H
  iexists (m.view.read (Elt F) f)
  iexists f
  isplitr
  · ipureintro; rfl
  iexact H

set_option maxHeartbeats 4000000 in
def trip (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (v910 : FVec F S16x128 .f32) (v911 : Vec F S1x1x16x128 .f32) (k : Fin k0_t1_loop.trips)
  (Q : Vec F S1x2048x128 .fp8e4m3) (QS : Vec F S1x1x16x128 .f32) (KC : Vec F S1x2048x128 .fp8e4m3) (VT : Vec F S128x2048 .fp8e4m3) :
  { P : List (View.Piece (Elt F) S1x2048x128 .bf16) // ∀ (Y : Vec F S1x2048x128 .bf16) (s : Vec F S2048x256 .f32) (c2 off w ps : Vec F S16x256 .f32) (E : Set ℕ) (K : Unit → sProp 𝕄),
     iprop(owns (c : Thread nD τ) arg5 fullShare Y ∗ owns (c : Thread nD τ) arg6 fullShare Q ∗ owns (c : Thread nD τ) arg7 fullShare QS ∗ owns (c : Thread nD τ) arg8 fullShare KC
       ∗ owns (c : Thread nD τ) arg12 fullShare VT ∗ owns (c : Thread nD τ) arg13 fullShare s ∗ owns (c : Thread nD τ) arg14 fullShare c2 ∗ owns (c : Thread nD τ) arg15 fullShare off
       ∗ owns (c : Thread nD τ) arg16 fullShare w ∗ owns (c : Thread nD τ) arg17 fullShare ps
       ∗ (iprop((arg5.view.loc (c : Thread nD τ) ↦[arg5.view.set]{fullShare} arg5.view.writes (Elt F) (harg5.unread Y) P) ∗ owns (c : Thread nD τ) arg6 fullShare Q ∗ owns (c : Thread nD τ) arg7 fullShare QS ∗ owns (c : Thread nD τ) arg8 fullShare KC
       ∗ owns (c : Thread nD τ) arg12 fullShare VT ∗ (∃ d, owns (c : Thread nD τ) arg13 fullShare d) ∗ (∃ d, owns (c : Thread nD τ) arg14 fullShare d) ∗ (∃ d, owns (c : Thread nD τ) arg15 fullShare d)
       ∗ (∃ d, owns (c : Thread nD τ) arg16 fullShare d) ∗ (∃ d, owns (c : Thread nD τ) arg17 fullShare d)) -∗ K ⟨⟩))
     ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v910 v911 k ()) K } := by
  refine ⟨?_, fun Y s c2 off w ps E K => ?run⟩
  case run =>
    unfold k0_t1_body
    unfold owns
    iintro ⟨⟨%f5, %hf5, H5⟩, ⟨%f6, %hf6, H6⟩, ⟨%f7, %hf7, H7⟩, ⟨%f8, %hf8, H8⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg5.eq_unread hf5; obtain rfl := harg6.eq_unread hf6; obtain rfl := harg7.eq_unread hf7; obtain rfl := harg8.eq_unread hf8
    obtain rfl := harg12.eq_unread hf12; obtain rfl := harg13.eq_unread hf13; obtain rfl := harg14.eq_unread hf14; obtain rfl := harg15.eq_unread hf15
    obtain rfl := harg16.eq_unread hf16; obtain rfl := harg17.eq_unread hf17
    sl_exec_parts
    sl_step
    iapply Hk
    isplitl [H5]
    · iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H12]
    · iexists _; isplitr; · ipureintro; exact harg12.read_unread _
      iexact H12
    isplitl [H13]
    · iapply (owns_some c arg13 _); iexact H13
    isplitl [H14]
    · iapply (owns_some c arg14 _); iexact H14
    isplitl [H15]
    · iapply (owns_some c arg15 _); iexact H15
    isplitl [H16]
    · iapply (owns_some c arg16 _); iexact H16
    iapply (owns_some c arg17 _); iexact H17

end Cert.Kernel.Gen
-- ==== Proof.Kernel.Chunk.lean ====
/- What one trip of the loop leaves: 256 rows of attention, as a function of what it reads. -/
module

public import proofs.«01_k».proof.Proof.Kernel.Content
public import proofs.«01_k».proof.Proof.Kernel.Trip
public import Idealize.ShloMosaic.Lib.Pipeline.ValueKit.Acc

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## Windows of the scratch buffers -/

/-- The 128 keys from key `o` on of the scores. -/
def sAt (S : Vec F S2048x256 .f32) (o : ℕ) : Vec F S128x256 .f32 :=
  fun j => S (ix2 (⟨(o + (j 0).val) % 2048, Nat.mod_lt _ (by norm_num)⟩ : Fin 2048) (j 1))

/-- The 128 queries from query `o` on of the scores. -/
def halfAt (S : Vec F S2048x256 .f32) (o : ℕ) : Vec F S2048x128 .f32 :=
  fun j => S (ix2 (j 0) (⟨(o + (j 1).val) % 256, Nat.mod_lt _ (by norm_num)⟩ : Fin 256))

/-- Row `n` of a table with one row per key block. -/
def rowAt (C : Vec F S16x256 .f32) (n : ℕ) : Vec F S1x256 .f32 :=
  fun j => C (ix2 (⟨(n + (j 0).val) % 16, Nat.mod_lt _ (by norm_num)⟩ : Fin 16) (j 1))

/-- The 128 keys from key `o` on of the transposed value codes. -/
def vtAt (VT : Vec F S128x2048 .fp8e4m3) (o : ℕ) : Vec F S128x128 .fp8e4m3 :=
  fun j => VT (ix2 (j 0) (⟨(o + (j 1).val) % 2048, Nat.mod_lt _ (by norm_num)⟩ : Fin 2048))

/-- Two tables side by side. -/
def beside (a b : Vec F S16x128 .f32) : Vec F S16x256 .f32 :=
  fun y => if h : (y 1).val < 128 then a (ix2 (y 0) ⟨(y 1).val, h⟩)
    else b (ix2 (y 0) (⟨((y 1).val - 128) % 128, Nat.mod_lt _ (by norm_num)⟩ : Fin 128))

/-! ## The tables of one half (128 queries) -/

/-- The scores' factor per key block, times log₂ e. -/
abbrev halfC2 (ks : FVec F S16x128 .f32) (q : Vec F S1x1x1x128 .f32) : FVec F S16x128 .f32 := k0_pay219 (k0_pay212 ks q)
/-- The row maximum plus the exponent of the block's largest probability. -/
abbrev halfOff (ks : FVec F S16x128 .f32) (q : Vec F S1x1x1x128 .f32) (s : Vec F S2048x128 .f32) : FVec F S16x128 .f32 :=
  k0_pay220 (k0_pay214 ks q s) (k0_pay215 ks q s) k0_pay216
/-- The scale of the block's probabilities. -/
abbrev halfPs (ks : FVec F S16x128 .f32) (q : Vec F S1x1x1x128 .f32) (s : Vec F S2048x128 .f32) : FVec F S16x128 .f32 :=
  k0_pay221 (k0_pay215 ks q s) k0_pay216
/-- That scale times the value block's. -/
abbrev halfW (ks : FVec F S16x128 .f32) (vs : Vec F S1x1x16x128 .f32) (q : Vec F S1x1x1x128 .f32) (s : Vec F S2048x128 .f32) : FVec F S16x128 .f32 :=
  k0_pay223 (k0_pay222 (k0_pay1 vs) (k0_pay215 ks q s) k0_pay216)

/-! ## The sweep over the key blocks -/

section sweep

variable (S : Vec F S2048x256 .f32) (C2 Off Ps W : Vec F S16x256 .f32) (VT : Vec F S128x2048 .fp8e4m3)

/-- The probabilities of key block `n`, over the block's scale. -/
def probAt (n : ℕ) : FVec F S128x256 .f32 := k0_pay238 (sAt S (128 * n)) (rowAt C2 n) (rowAt Off n)

/-- The denominators after the first `n` key blocks. -/
def denAt : ℕ → FVec F S1x256 .f32
  | 0 => k0_pay237
  | n + 1 => k0_pay244 (denAt n) (sAt S (128 * n)) (rowAt C2 n) (rowAt Off n) (rowAt Ps n)

/-- The numerators after the first `n` key blocks. -/
def numAt : ℕ → FVec F S128x256 .f32
  | 0 => k0_pay236
  | n + 1 => k0_pay239 (numAt n) (probAt S C2 Off n) (vtAt VT (128 * n)) (rowAt W n)

/-- The 256 output rows. -/
def sweep : FVec F S1x256x128 .bf16 :=
  k0_pay2 (denAt S C2 Off Ps 15) (numAt S C2 Off W VT 15) (probAt S C2 Off 15) (rowAt Ps 15) (vtAt VT 1920) (rowAt W 15)

end sweep

/-- The 256 query codes of chunk `k`, and the scale row of its first and second half. -/
def qChunk (Q : Vec F S1x2048x128 .fp8e4m3) (k : Fin k0_t1_loop.trips) : Vec F S1x256x128 .fp8e4m3 :=
  fun j => Q ((Rect.unit (s := S1x2048x128) (k0_off1 k) S1x256x128.size (k0_off1_inb k)).emb j)
def qsRow0 (QS : Vec F S1x1x16x128 .f32) (k : Fin k0_t1_loop.trips) : Vec F S1x1x1x128 .f32 :=
  fun j => QS ((Rect.unit (s := S1x1x16x128) (k0_off2 k 0#32) S1x1x1x128.size (k0_off2_inb k 0)).emb j)
def qsRow1 (QS : Vec F S1x1x16x128 .f32) (k : Fin k0_t1_loop.trips) : Vec F S1x1x1x128 .f32 :=
  fun j => QS ((Rect.unit (s := S1x1x16x128) (k0_off2 k 1#32) S1x1x1x128.size (k0_off2_inb k 1)).emb j)

/-- 256 rows of attention: scores, the tables of both halves, the sweep. -/
def attend (ks : FVec F S16x128 .f32) (vs : Vec F S1x1x16x128 .f32) (KC : Vec F S1x2048x128 .fp8e4m3) (VT : Vec F S128x2048 .fp8e4m3)
    (qc : Vec F S1x256x128 .fp8e4m3) (q0 q1 : Vec F S1x1x1x128 .f32) : FVec F S1x256x128 .bf16 :=
  let S : Vec F S2048x256 .f32 := k0_pay211 KC qc
  sweep S (beside (halfC2 ks q0) (halfC2 ks q1)) (beside (halfOff ks q0 (halfAt S 0)) (halfOff ks q1 (halfAt S 128)))
    (beside (halfPs ks q0 (halfAt S 0)) (halfPs ks q1 (halfAt S 128)))
    (beside (halfW ks vs q0 (halfAt S 0)) (halfW ks vs q1 (halfAt S 128))) VT

/-! ## The loads of a trip read these windows -/

section reads

variable {m13 : Memref sig .tc .vmem S2048x256 .f32} {m : Memref sig .tc .vmem S16x256 .f32}

theorem rd_s (w : Vec F S2048x256 .f32) (o : ℕ) (inb inb') :
    m13.view.readCov [(⟨Rect.unit ![0, 0] (no_index S2048x256.size) inb, w⟩ : View.Piece (Elt F) S2048x256 .f32)]
      (Rect.unit (s := S2048x256) ![o, 0] (no_index S128x256.size) inb').toLoadRect = sAt w o := by
  have h0 : o + 128 ≤ 2048 := inb' 0
  rw [View.readCov_eq_canon', View.canon_cons_unit_lit inb w [] (by decide)]
  funext j
  have hj : (j 0).val < 128 := (j 0).isLt
  refine congrArg w (funext fun a => ?_)
  match a with
  | ⟨0, _⟩ => exact Fin.ext (by show o + 1 * (j 0).val = (o + (j 0).val) % 2048; omega)
  | ⟨1, _⟩ => exact Fin.ext (by show 0 + 1 * (j 1).val = (j 1).val; omega)

theorem rd_half (w : Vec F S2048x256 .f32) (o : ℕ) (inb inb') :
    m13.view.readCov [(⟨Rect.unit ![0, 0] (no_index S2048x256.size) inb, w⟩ : View.Piece (Elt F) S2048x256 .f32)]
      (Rect.unit (s := S2048x256) ![0, o] (no_index S2048x128.size) inb').toLoadRect = halfAt w o := by
  have h0 : o + 128 ≤ 256 := inb' 1
  rw [View.readCov_eq_canon', View.canon_cons_unit_lit inb w [] (by decide)]
  funext j
  have hj : (j 1).val < 128 := (j 1).isLt
  refine congrArg w (funext fun a => ?_)
  match a with
  | ⟨0, _⟩ => exact Fin.ext (by show 0 + 1 * (j 0).val = (j 0).val; omega)
  | ⟨1, _⟩ => exact Fin.ext (by show o + 1 * (j 1).val = (o + (j 1).val) % 256; omega)

theorem canon_beside (a b : Vec F S16x128 .f32) (inb0 inb1) :
    View.canon [(⟨Rect.unit ![0, 128] S16x128.size inb1, b⟩ : View.Piece (Elt F) S16x256 .f32), ⟨Rect.unit ![0, 0] S16x128.size inb0, a⟩]
      = beside a b := by
  funext y
  have hc := View.cover_of_tiledL [(⟨Rect.unit ![0, 128] S16x128.size inb1, b⟩ : View.Piece (Elt F) S16x256 .f32), ⟨Rect.unit ![0, 0] S16x128.size inb0, a⟩]
    S16x128.size (by sl_kernel_rfl) y
  refine View.canon_append_of_piecesOf (beside a b) [] [(⟨Rect.unit ![0, 128] S16x128.size inb1, b⟩ : View.Piece (Elt F) S16x256 .f32), ⟨Rect.unit ![0, 0] S16x128.size inb0, a⟩] ?_ y hc
  refine ⟨fun x => ?_, fun x => ?_, trivial⟩
  · have hx : (x 1).val < 128 := (x 1).isLt
    have e : ¬ ((Rect.unit (s := S16x256) ![0, 128] S16x128.size inb1).emb x 1).val < 128 := by
      show ¬ 128 + 1 * (x 1).val < 128; omega
    unfold beside
    rw [dif_neg e]
    refine congrArg b (funext fun a => ?_)
    match a with
    | ⟨0, _⟩ => exact Fin.ext (by show (x 0).val = 0 + 1 * (x 0).val; omega)
    | ⟨1, _⟩ => exact Fin.ext (by show (x 1).val = (128 + 1 * (x 1).val - 128) % 128; omega)
  · have hx : (x 1).val < 128 := (x 1).isLt
    have e : ((Rect.unit (s := S16x256) ![0, 0] S16x128.size inb0).emb x 1).val < 128 := by
      show 0 + 1 * (x 1).val < 128; omega
    unfold beside
    rw [dif_pos e]
    refine congrArg a (funext fun a => ?_)
    match a with
    | ⟨0, _⟩ => exact Fin.ext (by show (x 0).val = 0 + 1 * (x 0).val; omega)
    | ⟨1, _⟩ => exact Fin.ext (by show (x 1).val = 0 + 1 * (x 1).val; omega)

theorem rd_row (a b : Vec F S16x128 .f32) (n : ℕ) (inb0 inb1 inb') :
    m.view.readCov [(⟨Rect.unit ![0, 128] (no_index S16x128.size) inb1, b⟩ : View.Piece (Elt F) S16x256 .f32), ⟨Rect.unit ![0, 0] (no_index S16x128.size) inb0, a⟩]
      (Rect.unit (s := S16x256) ![n, 0] (no_index S1x256.size) inb').toLoadRect = rowAt (beside a b) n := by
  have h0 : n + 1 ≤ 16 := inb' 0
  rw [View.readCov_eq_canon', canon_beside]
  funext j
  have hj : (j 0).val < 1 := (j 0).isLt
  refine congrArg (beside a b) (funext fun a => ?_)
  match a with
  | ⟨0, _⟩ => exact Fin.ext (by show n + 1 * (j 0).val = (n + (j 0).val) % 16; omega)
  | ⟨1, _⟩ => exact Fin.ext (by show 0 + 1 * (j 1).val = (j 1).val; omega)

theorem rd_vt {m12 : Memref sig .tc .vmem S128x2048 .fp8e4m3} (h : m12.IsWhole) (VT : Vec F S128x2048 .fp8e4m3) (o : ℕ) (inb') :
    View.readAt (Elt F) m12.view (Rect.unit (s := S128x2048) ![0, o] (no_index S128x128.size) inb').toLoadRect (h.unread VT) = vtAt VT o := by
  have h0 : o + 128 ≤ 2048 := inb' 1
  funext j
  rw [h.readAt_unread]
  have hj : (j 1).val < 128 := (j 1).isLt
  refine congrArg VT (funext fun a => ?_)
  match a with
  | ⟨0, _⟩ => exact Fin.ext (by show 0 + 1 * (j 0).val = (j 0).val; omega)
  | ⟨1, _⟩ => exact Fin.ext (by show o + 1 * (j 1).val = (o + (j 1).val) % 2048; omega)

theorem rd_whole3 {m8 : Memref sig .tc .vmem S1x2048x128 .fp8e4m3} (h : m8.IsWhole) (X : Vec F S1x2048x128 .fp8e4m3) (inb') :
    View.readAt (Elt F) m8.view (Rect.unit ![0, 0, 0] (no_index S1x2048x128.size) inb').toLoadRect (h.unread X) = X := by
  funext j
  rw [h.readAt_unread]
  refine congrArg X (funext fun a => ?_)
  match a with
  | ⟨0, _⟩ => exact Fin.ext (by show 0 + 1 * (j 0).val = (j 0).val; omega)
  | ⟨1, _⟩ => exact Fin.ext (by show 0 + 1 * (j 1).val = (j 1).val; omega)
  | ⟨2, _⟩ => exact Fin.ext (by show 0 + 1 * (j 2).val = (j 2).val; omega)

theorem rd_chunk {m6 : Memref sig .tc .vmem S1x2048x128 .fp8e4m3} (h : m6.IsWhole) (Q : Vec F S1x2048x128 .fp8e4m3) (k : Fin k0_t1_loop.trips) (inb') :
    View.readAt (Elt F) m6.view (Rect.unit (s := S1x2048x128) (k0_off1 k) (no_index S1x256x128.size) inb').toLoadRect (h.unread Q) = qChunk Q k := by
  funext j
  rw [h.readAt_unread]; rfl

theorem rd_qs0 {m7 : Memref sig .tc .vmem S1x1x16x128 .f32} (h : m7.IsWhole) (QS : Vec F S1x1x16x128 .f32) (k : Fin k0_t1_loop.trips) (inb') :
    View.readAt (Elt F) m7.view (Rect.unit (s := S1x1x16x128) (k0_off2 k 0#32) (no_index S1x1x1x128.size) inb').toLoadRect (h.unread QS) = qsRow0 QS k := by
  funext j
  rw [h.readAt_unread]; rfl

theorem rd_qs1 {m7 : Memref sig .tc .vmem S1x1x16x128 .f32} (h : m7.IsWhole) (QS : Vec F S1x1x16x128 .f32) (k : Fin k0_t1_loop.trips) (inb') :
    View.readAt (Elt F) m7.view (Rect.unit (s := S1x1x16x128) (k0_off2 k 1#32) (no_index S1x1x1x128.size) inb').toLoadRect (h.unread QS) = qsRow1 QS k := by
  funext j
  rw [h.readAt_unread]; rfl

end reads

/-! ## The second half's tables are the first half's, at its own queries -/

section halves

variable (ks : FVec F S16x128 .f32) (vs : Vec F S1x1x16x128 .f32) (q : Vec F S1x1x1x128 .f32) (s : Vec F S2048x128 .f32)

theorem half1_c2 : k0_pay232 (k0_pay224 ks q) = halfC2 ks q := rfl
theorem half1_off : k0_pay233 (k0_pay226 ks q s) (k0_pay227 ks q s) (k0_pay228 ks q s) k0_pay229 = halfOff ks q s := rfl
theorem half1_ps : k0_pay234 (k0_pay227 ks q s) (k0_pay228 ks q s) k0_pay229 = halfPs ks q s := rfl
theorem half1_w : k0_pay235 (k0_pay1 vs) (k0_pay227 ks q s) (k0_pay228 ks q s) k0_pay229 = halfW ks vs q s := rfl

end halves

/-- The one piece a trip stores. -/
theorem trip_piece (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
    (v910 : FVec F S16x128 .f32) (v911 : Vec F S1x1x16x128 .f32) (k : Fin k0_t1_loop.trips)
    (Q : Vec F S1x2048x128 .fp8e4m3) (QS : Vec F S1x1x16x128 .f32) (KC : Vec F S1x2048x128 .fp8e4m3) (VT : Vec F S128x2048 .fp8e4m3) :
    (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v910 v911 k Q QS KC VT).1
      = [⟨Rect.unit (s := S1x2048x128) (k0_off1 k) S1x256x128.size (k0_off1_inb k),
          attend v910 v911 KC VT (qChunk Q k) (qsRow0 QS k) (qsRow1 QS k)⟩] := by
  unfold trip
  frame_open
  simp only [rd_s, rd_half, rd_row, rd_vt, rd_whole3, rd_chunk, rd_qs0, rd_qs1, half1_c2, half1_off, half1_ps, half1_w]
  unfold attend
  dsimp only
  generalize beside (halfW v910 v911 (qsRow0 QS k) _) _ = W
  generalize beside (halfPs v910 (qsRow0 QS k) _) _ = Ps
  generalize beside (halfOff v910 (qsRow0 QS k) _) _ = Off
  generalize beside (halfC2 v910 (qsRow0 QS k)) _ = C2
  generalize k0_pay211 KC (qChunk Q k) = S
  rfl

end Cert.Kernel.Gen
-- ==== Proof.Kernel.Loop.lean ====
/- The loop: eight trips of 256 rows fill the output block. -/
module

public import proofs.«01_k».proof.Proof.Kernel.Chunk

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

theorem trips_eq : k0_t1_loop.trips = 8 := by decide

/-- The chunk a row lies in, and its row in that chunk. -/
def chunkOf (r : Fin 2048) : Fin k0_t1_loop.trips := ⟨r.val / 256, by rw [trips_eq]; omega⟩
def inChunk (r : Fin 2048) : Fin 256 := ⟨r.val % 256, by omega⟩

/-- The output block. -/
def yOut (ks : FVec F S16x128 .f32) (vs : Vec F S1x1x16x128 .f32) (KC : Vec F S1x2048x128 .fp8e4m3) (VT : Vec F S128x2048 .fp8e4m3)
    (Q : Vec F S1x2048x128 .fp8e4m3) (QS : Vec F S1x1x16x128 .f32) : Vec F S1x2048x128 .bf16 :=
  fun y => attend ks vs KC VT (qChunk Q (chunkOf (y 1))) (qsRow0 QS (chunkOf (y 1))) (qsRow1 QS (chunkOf (y 1))) (ix3 0 (inChunk (y 1)) (y 2))

/-- The output block after the first `n` trips. -/
def yUpto (Y G : Vec F S1x2048x128 .bf16) (n : ℕ) : Vec F S1x2048x128 .bf16 := fun y => if (y 1).val < 256 * n then G y else Y y

theorem yUpto_zero (Y G : Vec F S1x2048x128 .bf16) : yUpto Y G 0 = Y := by
  funext y; unfold yUpto; rw [if_neg (by omega)]

theorem yUpto_end (Y G : Vec F S1x2048x128 .bf16) : yUpto Y G k0_t1_loop.trips = G := by
  funext y
  have h : (y 1).val < 2048 := (y 1).isLt
  unfold yUpto; rw [if_pos (by rw [trips_eq]; omega)]

/-- A trip writes its chunk over what was there. -/
theorem write_chunk (m : Memref sig .tc .vmem S1x2048x128 .bf16) (hm : m.IsWhole) (Y : Vec F S1x2048x128 .bf16)
    (ks : FVec F S16x128 .f32) (vs : Vec F S1x1x16x128 .f32) (KC : Vec F S1x2048x128 .fp8e4m3) (VT : Vec F S128x2048 .fp8e4m3)
    (Q : Vec F S1x2048x128 .fp8e4m3) (QS : Vec F S1x1x16x128 .f32) (k : Fin k0_t1_loop.trips) :
    m.view.read (Elt F) (m.view.writes (Elt F) (hm.unread (yUpto Y (yOut ks vs KC VT Q QS) k.val))
      [⟨Rect.unit (s := S1x2048x128) (k0_off1 k) S1x256x128.size (k0_off1_inb k), attend ks vs KC VT (qChunk Q k) (qsRow0 QS k) (qsRow1 QS k)⟩])
      = yUpto Y (yOut ks vs KC VT Q QS) (k.val + 1) := by
  funext y
  have hk : k.val < 8 := lt_of_lt_of_eq k.isLt trips_eq
  have hy0 : (y 0).val < 1 := (y 0).isLt
  have hy : (y 1).val < 2048 := (y 1).isLt
  have hoff := k0_off1_eq k
  by_cases h : (y 1).val < 256 * k.val
  · rw [View.read_writes_cons_miss_of_axis (a := 1) (o := 256 * k.val) (n := 256) (ho := by show k0_off1 k 1 = _; rw [hoff]; rfl) (hst := rfl) (hn := rfl) (h := Or.inl h)]
    show m.view.read (Elt F) (hm.unread _) y = _
    rw [hm.read_unread]
    unfold yUpto
    rw [if_pos h, if_pos (by omega)]
  by_cases h' : (y 1).val < 256 * (k.val + 1)
  · rw [View.read_writes_cons_hit_of_coords (x := (ix3 0 (inChunk (y 1)) (y 2) : (Shape.mk 3 ![1, 256, 128]).Idx)) (hx := ?_)]
    · unfold yUpto
      rw [if_pos h']
      have e : chunkOf (y 1) = k := Fin.ext (by show (y 1).val / 256 = k.val; omega)
      unfold yOut
      rw [e]
    · intro a
      match a with
      | ⟨0, _⟩ =>
        show (y 0).val = k0_off1 k 0 + 1 * 0
        rw [show k0_off1 k 0 = 0 from congrFun hoff 0]; omega
      | ⟨1, _⟩ =>
        show (y 1).val = k0_off1 k 1 + 1 * ((y 1).val % 256)
        rw [show k0_off1 k 1 = 256 * k.val from congrFun hoff 1]; omega
      | ⟨2, _⟩ =>
        show (y 2).val = k0_off1 k 2 + 1 * (y 2).val
        rw [show k0_off1 k 2 = 0 from congrFun hoff 2]; omega
  · rw [View.read_writes_cons_miss_of_axis (a := 1) (o := 256 * k.val) (n := 256) (ho := by show k0_off1 k 1 = _; rw [hoff]; rfl) (hst := rfl) (hn := rfl) (h := Or.inr (by omega))]
    show m.view.read (Elt F) (hm.unread _) y = _
    rw [hm.read_unread]
    unfold yUpto
    rw [if_neg h, if_neg h']

/-- The whole loop. -/
theorem loop_triple (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
    (ks : FVec F S16x128 .f32) (vs : Vec F S1x1x16x128 .f32)
    (Q : Vec F S1x2048x128 .fp8e4m3) (QS : Vec F S1x1x16x128 .f32) (KC : Vec F S1x2048x128 .fp8e4m3) (VT : Vec F S128x2048 .fp8e4m3)
    (Y : Vec F S1x2048x128 .bf16) (E : Set ℕ) (K : Unit → sProp 𝕄) :
    iprop(owns (c : Thread nD τ) arg5 fullShare Y ∗ owns (c : Thread nD τ) arg6 fullShare Q ∗ owns (c : Thread nD τ) arg7 fullShare QS ∗ owns (c : Thread nD τ) arg8 fullShare KC
       ∗ owns (c : Thread nD τ) arg12 fullShare VT ∗ (∃ d, owns (c : Thread nD τ) arg13 fullShare d) ∗ (∃ d, owns (c : Thread nD τ) arg14 fullShare d) ∗ (∃ d, owns (c : Thread nD τ) arg15 fullShare d)
       ∗ (∃ d, owns (c : Thread nD τ) arg16 fullShare d) ∗ (∃ d, owns (c : Thread nD τ) arg17 fullShare d)
       ∗ (iprop(owns (c : Thread nD τ) arg5 fullShare (yOut ks vs KC VT Q QS) ∗ owns (c : Thread nD τ) arg6 fullShare Q ∗ owns (c : Thread nD τ) arg7 fullShare QS ∗ owns (c : Thread nD τ) arg8 fullShare KC
       ∗ owns (c : Thread nD τ) arg12 fullShare VT ∗ (∃ d, owns (c : Thread nD τ) arg13 fullShare d) ∗ (∃ d, owns (c : Thread nD τ) arg14 fullShare d) ∗ (∃ d, owns (c : Thread nD τ) arg15 fullShare d)
       ∗ (∃ d, owns (c : Thread nD τ) arg16 fullShare d) ∗ (∃ d, owns (c : Thread nD τ) arg17 fullShare d)) -∗ K ⟨⟩))
     ⊢ wp frame (wpE (defs₀ (F := F)) Variants.none c none) E
        (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ks vs)) K := by
  have hI : ∀ (k : Fin k0_t1_loop.trips) (acc : Unit),
      (iprop(owns (c : Thread nD τ) arg5 fullShare (yUpto Y (yOut ks vs KC VT Q QS) k.val) ∗ owns (c : Thread nD τ) arg6 fullShare Q ∗ owns (c : Thread nD τ) arg7 fullShare QS ∗ owns (c : Thread nD τ) arg8 fullShare KC
       ∗ owns (c : Thread nD τ) arg12 fullShare VT ∗ (∃ d, owns (c : Thread nD τ) arg13 fullShare d) ∗ (∃ d, owns (c : Thread nD τ) arg14 fullShare d) ∗ (∃ d, owns (c : Thread nD τ) arg15 fullShare d)
       ∗ (∃ d, owns (c : Thread nD τ) arg16 fullShare d) ∗ (∃ d, owns (c : Thread nD τ) arg17 fullShare d)) : sProp 𝕄)
      ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ks vs k acc)
        (fun _ => iprop(owns (c : Thread nD τ) arg5 fullShare (yUpto Y (yOut ks vs KC VT Q QS) (k.val + 1)) ∗ owns (c : Thread nD τ) arg6 fullShare Q ∗ owns (c : Thread nD τ) arg7 fullShare QS ∗ owns (c : Thread nD τ) arg8 fullShare KC
       ∗ owns (c : Thread nD τ) arg12 fullShare VT ∗ (∃ d, owns (c : Thread nD τ) arg13 fullShare d) ∗ (∃ d, owns (c : Thread nD τ) arg14 fullShare d) ∗ (∃ d, owns (c : Thread nD τ) arg15 fullShare d)
       ∗ (∃ d, owns (c : Thread nD τ) arg16 fullShare d) ∗ (∃ d, owns (c : Thread nD τ) arg17 fullShare d))) := by
    intro k acc
    iintro ⟨H5, H6, H7, H8, H12, ⟨%s, H13⟩, ⟨%c2, H14⟩, ⟨%off, H15⟩, ⟨%w, H16⟩, ⟨%ps, H17⟩⟩
    iapply ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ks vs k Q QS KC VT).2 (yUpto Y (yOut ks vs KC VT Q QS) k.val) s c2 off w ps E _)
    isplitl [H5]
    · iexact H5
    isplitl [H6]
    · iexact H6
    isplitl [H7]
    · iexact H7
    isplitl [H8]
    · iexact H8
    isplitl [H12]
    · iexact H12
    isplitl [H13]
    · iexact H13
    isplitl [H14]
    · iexact H14
    isplitl [H15]
    · iexact H15
    isplitl [H16]
    · iexact H16
    isplitl [H17]
    · iexact H17
    iintro ⟨H5, Hr⟩
    isplitl [H5]
    · rw [trip_piece]
      unfold owns
      iexists _
      isplitr
      · ipureintro; exact write_chunk arg5 harg5 Y ks vs KC VT Q QS k
      iexact H5
    iexact Hr
  iintro ⟨H5, H6, H7, H8, H12, H13, H14, H15, H16, H17, Hk⟩
  iapply (Scf.wp_for frame (wpE (defs₀ (F := F)) Variants.none c none) E _ _ _ k0_t1_ok (⟨⟩ : Unit) (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ks vs)
    (fun n _ => iprop(owns (c : Thread nD τ) arg5 fullShare (yUpto Y (yOut ks vs KC VT Q QS) n) ∗ owns (c : Thread nD τ) arg6 fullShare Q ∗ owns (c : Thread nD τ) arg7 fullShare QS ∗ owns (c : Thread nD τ) arg8 fullShare KC
       ∗ owns (c : Thread nD τ) arg12 fullShare VT ∗ (∃ d, owns (c : Thread nD τ) arg13 fullShare d) ∗ (∃ d, owns (c : Thread nD τ) arg14 fullShare d) ∗ (∃ d, owns (c : Thread nD τ) arg15 fullShare d)
       ∗ (∃ d, owns (c : Thread nD τ) arg16 fullShare d) ∗ (∃ d, owns (c : Thread nD τ) arg17 fullShare d))) hI)
  isplitr [Hk]
  · rw [yUpto_zero]
    isplitl [H5]
    · iexact H5
    isplitl [H6]
    · iexact H6
    isplitl [H7]
    · iexact H7
    isplitl [H8]
    · iexact H8
    isplitl [H12]
    · iexact H12
    isplitl [H13]
    · iexact H13
    isplitl [H14]
    · iexact H14
    isplitl [H15]
    · iexact H15
    isplitl [H16]
    · iexact H16
    iexact H17
  iintro %acc H
  have e : yUpto Y (yOut ks vs KC VT Q QS) (Scf.trips k0_t1_loop.lb k0_t1_loop.ub k0_t1_loop.st) = yOut ks vs KC VT Q QS :=
    yUpto_end Y (yOut ks vs KC VT Q QS)
  rw [e]
  iapply Hk
  iexact H

end Cert.Kernel.Gen
-- ==== Proof.Kernel.Body.lean ====
/- The kernel body at one grid point: what every buffer it writes holds afterwards. -/
module

public import proofs.«01_k».proof.Proof.Kernel.ReadX
public import proofs.«01_k».proof.Proof.Kernel.Loop

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem full4 (X : Vec F S1x1x16x128 .f32) (j : S1x1x16x128.Idx) :
    X ((Rect.unit (s := S1x1x16x128) ![0, 0, 0, 0] S1x1x16x128.size inb_S1x1x16x128_S1x1x16x128_0_0_0_0).emb j) = X j := by
  congr 1
  funext a; apply Fin.ext
  rw [Rect.emb_apply]
  fin_cases a <;> simp [Rect.unit]

/-- What the query quantisation passes to the loop: the group's key scales and value scales, as loaded. -/
theorem runX_result (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X2 : Vec F S1x2048x128 .bf16) (X9 X11 : Vec F S1x1x16x128 .f32) :
    (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).1 = (k0_pay370 X9, X11) := by
  show (k0_pay370 (arg9.view.readAt (Elt F) (Rect.unit (s := S1x1x16x128) ![0, 0, 0, 0] S1x1x16x128.size inb_S1x1x16x128_S1x1x16x128_0_0_0_0) (harg9.unread X9)),
     arg11.view.readAt (Elt F) (Rect.unit (s := S1x1x16x128) ![0, 0, 0, 0] S1x1x16x128.size inb_S1x1x16x128_S1x1x16x128_0_0_0_0) (harg11.unread X11)) = _
  have e9 : arg9.view.readAt (Elt F) (Rect.unit (s := S1x1x16x128) ![0, 0, 0, 0] S1x1x16x128.size inb_S1x1x16x128_S1x1x16x128_0_0_0_0) (harg9.unread X9) = X9 :=
    funext fun j => (harg9.readAt_unread _ _ j).trans (full4 X9 j)
  have e11 : arg11.view.readAt (Elt F) (Rect.unit (s := S1x1x16x128) ![0, 0, 0, 0] S1x1x16x128.size inb_S1x1x16x128_S1x1x16x128_0_0_0_0) (harg11.unread X11) = X11 :=
    funext fun j => (harg11.readAt_unread _ _ j).trans (full4 X11 j)
  rw [e9, e11]

/-- The attention block of one query head: from the query block `X2` and its group's key and value blocks. -/
def yBlk (X2 X3 X4 : Vec F S1x2048x128 .bf16) : Vec F S1x2048x128 .bf16 :=
  yOut (k0_pay370 (qScales X3)) (qScales X4) (qCodes X3) (qCodesT X4) (qCodes X2) (qScales X2)

/-- The query quantisation and the loop, the group's key and value codes and scales being there. -/
theorem tail_triple (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
    (X2 X3 X4 : Vec F S1x2048x128 .bf16) (E : Set ℕ) (K : PUnit → sProp 𝕄) :
    iprop(owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare (qCodes X3) ∗ owns (c : Thread nD τ) arg9 fullShare (qScales X3) ∗ owns (c : Thread nD τ) arg10 fullShare (qCodes X4) ∗ owns (c : Thread nD τ) arg11 fullShare (qScales X4) ∗ owns (c : Thread nD τ) arg12 fullShare (qCodesT X4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
       ∗ (iprop(owns (c : Thread nD τ) arg2 fullShare X2 ∗ owns (c : Thread nD τ) arg3 fullShare X3 ∗ owns (c : Thread nD τ) arg4 fullShare X4 ∗ owns (c : Thread nD τ) arg5 fullShare (yBlk X2 X3 X4) ∗ owns (c : Thread nD τ) arg6 fullShare (qCodes X2) ∗ owns (c : Thread nD τ) arg7 fullShare (qScales X2) ∗ owns (c : Thread nD τ) arg8 fullShare (qCodes X3) ∗ owns (c : Thread nD τ) arg9 fullShare (qScales X3) ∗ owns (c : Thread nD τ) arg10 fullShare (qCodes X4) ∗ owns (c : Thread nD τ) arg11 fullShare (qScales X4) ∗ owns (c : Thread nD τ) arg12 fullShare (qCodesT X4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
     ⊢ wp frame (wpE (defs₀ (F := F)) Variants.none c none) E (quantX (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 >>= fun r => Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 r.1 r.2)) K := by
  iintro ⟨H2, H3, H4, ⟨%Y, H5⟩, ⟨%Z6, H6⟩, ⟨%Z7, H7⟩, H8, H9, H10, H11, H12, H13, H14, H15, H16, H17, Hk⟩
  rw [wp_bind]
  iapply ((runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 (qScales X3) (qScales X4)).2.2.2 Z6 Z7 E _)
  isplitl [H2]
  · iexact H2
  isplitl [H9]
  · iexact H9
  isplitl [H11]
  · iexact H11
  isplitl [H6]
  · iexact H6
  isplitl [H7]
  · iexact H7
  iintro ⟨H2, H9, H11, ⟨%f6, H6⟩, ⟨%f7, H7⟩⟩
  have ey : yOut (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 (qScales X3) (qScales X4)).1.1 (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 (qScales X3) (qScales X4)).1.2
      (qCodes X3) (qCodesT X4) (qCodes X2) (qScales X2) = yBlk X2 X3 X4 := by rw [runX_result]; rfl
  iapply (loop_triple (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 (qScales X3) (qScales X4)).1.1 (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 (qScales X3) (qScales X4)).1.2 (qCodes X2) (qScales X2) (qCodes X3) (qCodesT X4) Y E K)
  isplitl [H5]
  · iexact H5
  isplitl [H6]
  · unfold owns; iexists _; isplitr
    swap; · iexact H6
    ipureintro; exact read_codesX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 (qScales X3) (qScales X4) f6
  isplitl [H7]
  · unfold owns; iexists _; isplitr
    swap; · iexact H7
    ipureintro; exact read_scalesX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 (qScales X3) (qScales X4) f7
  isplitl [H8]
  · iexact H8
  isplitl [H12]
  · iexact H12
  isplitl [H13]
  · iexact H13
  isplitl [H14]
  · iexact H14
  isplitl [H15]
  · iexact H15
  isplitl [H16]
  · iexact H16
  isplitl [H17]
  · iexact H17
  rw [ey]
  iintro ⟨H5, H6, H7, H8, H12, H13, H14, H15, H16, H17⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  iexact H17

/-- The body at a point that quantises the keys and values: whatever the group's buffers held. -/
theorem body_first (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (h : k0_cond1 i = 1#1)
    (X2 X3 X4 : Vec F S1x2048x128 .bf16) (E : Set ℕ) (K : PUnit → sProp 𝕄) :
    iprop(owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
       ∗ (iprop(owns (c : Thread nD τ) arg2 fullShare X2 ∗ owns (c : Thread nD τ) arg3 fullShare X3 ∗ owns (c : Thread nD τ) arg4 fullShare X4 ∗ owns (c : Thread nD τ) arg5 fullShare (yBlk X2 X3 X4) ∗ owns (c : Thread nD τ) arg6 fullShare (qCodes X2) ∗ owns (c : Thread nD τ) arg7 fullShare (qScales X2) ∗ owns (c : Thread nD τ) arg8 fullShare (qCodes X3) ∗ owns (c : Thread nD τ) arg9 fullShare (qScales X3) ∗ owns (c : Thread nD τ) arg10 fullShare (qCodes X4) ∗ owns (c : Thread nD τ) arg11 fullShare (qScales X4) ∗ owns (c : Thread nD τ) arg12 fullShare (qCodesT X4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
     ⊢ wp frame (wpE (defs₀ (F := F)) Variants.none c none) E (cc0_fp8_gqa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, ⟨%Z8, H8⟩, ⟨%Z9, H9⟩, ⟨%Z10, H10⟩, ⟨%Z11, H11⟩, ⟨%Z12, H12⟩, H13, H14, H15, H16, H17, Hk⟩
  rw [body_split, dif_pos h]
  iapply ((runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.2.2 Z8 Z9 Z10 Z11 Z12 E _)
  isplitl [H3]
  · iexact H3
  isplitl [H4]
  · iexact H4
  isplitl [H8]
  · iexact H8
  isplitl [H9]
  · iexact H9
  isplitl [H10]
  · iexact H10
  isplitl [H11]
  · iexact H11
  isplitl [H12]
  · iexact H12
  iintro ⟨H3, H4, ⟨%f8, H8⟩, ⟨%f9, H9⟩, ⟨%f10, H10⟩, ⟨%f11, H11⟩, ⟨%f12, H12⟩⟩
  rw [← wp_bind]
  iapply (tail_triple (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 E K)
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns; iexists _; isplitr
    swap; · iexact H8
    ipureintro; exact read_codesK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 f8
  isplitl [H9]
  · unfold owns; iexists _; isplitr
    swap; · iexact H9
    ipureintro; exact read_scalesK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 f9
  isplitl [H10]
  · unfold owns; iexists _; isplitr
    swap; · iexact H10
    ipureintro; exact read_codesV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 f10
  isplitl [H11]
  · unfold owns; iexists _; isplitr
    swap; · iexact H11
    ipureintro; exact read_scalesV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 f11
  isplitl [H12]
  · unfold owns; iexists _; isplitr
    swap; · iexact H12
    ipureintro; exact read_codesVT (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 f12
  isplitl [H13]
  · iexact H13
  isplitl [H14]
  · iexact H14
  isplitl [H15]
  · iexact H15
  isplitl [H16]
  · iexact H16
  isplitl [H17]
  · iexact H17
  iexact Hk

/-- The body at a later point of the group: the group's codes and scales are used as they stand. -/
theorem body_later (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (h : ¬ k0_cond1 i = 1#1)
    (X2 X3 X4 : Vec F S1x2048x128 .bf16) (E : Set ℕ) (K : PUnit → sProp 𝕄) :
    iprop(owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare (qCodes X3) ∗ owns (c : Thread nD τ) arg9 fullShare (qScales X3) ∗ owns (c : Thread nD τ) arg10 fullShare (qCodes X4) ∗ owns (c : Thread nD τ) arg11 fullShare (qScales X4) ∗ owns (c : Thread nD τ) arg12 fullShare (qCodesT X4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
       ∗ (iprop(owns (c : Thread nD τ) arg2 fullShare X2 ∗ owns (c : Thread nD τ) arg3 fullShare X3 ∗ owns (c : Thread nD τ) arg4 fullShare X4 ∗ owns (c : Thread nD τ) arg5 fullShare (yBlk X2 X3 X4) ∗ owns (c : Thread nD τ) arg6 fullShare (qCodes X2) ∗ owns (c : Thread nD τ) arg7 fullShare (qScales X2) ∗ owns (c : Thread nD τ) arg8 fullShare (qCodes X3) ∗ owns (c : Thread nD τ) arg9 fullShare (qScales X3) ∗ owns (c : Thread nD τ) arg10 fullShare (qCodes X4) ∗ owns (c : Thread nD τ) arg11 fullShare (qScales X4) ∗ owns (c : Thread nD τ) arg12 fullShare (qCodesT X4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
     ⊢ wp frame (wpE (defs₀ (F := F)) Variants.none c none) E (cc0_fp8_gqa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [body_split, dif_neg h, ← wp_bind, ← wp_bind, pure_bind]
  exact tail_triple (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 E K

end Cert.Kernel.Gen
-- ==== Proof.Kernel.Run.lean ====
/- The whole run: what every array holds at the end, and that the arguments end as they were. -/
module

public import proofs.«01_k».proof.Proof.Kernel.Body
public import proofs.«01_k».proof.Proof.Gen.Kernel.Frame
public import Idealize.ShloMosaic.Lib.Pipeline.TableIdle
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points: the keys and values are quantised at the first of every four -/

theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

theorem index_kept1 : ∀ t : Fin cfg0.N, t.val % 4 ≠ 0 → (cfg0.win 1).index t = (cfg0.win 1).index ⟨t.val - 1, Nat.lt_of_le_of_lt (Nat.sub_le _ _) t.isLt⟩ :=
  (by decide +kernel : ∀ t : Fin grid0.N, t.val % 4 ≠ 0 → win0_1.index t = win0_1.index ⟨t.val - 1, Nat.lt_of_le_of_lt (Nat.sub_le _ _) t.isLt⟩)
theorem index_kept2 : ∀ t : Fin cfg0.N, t.val % 4 ≠ 0 → (cfg0.win 2).index t = (cfg0.win 2).index ⟨t.val - 1, Nat.lt_of_le_of_lt (Nat.sub_le _ _) t.isLt⟩ :=
  (by decide +kernel : ∀ t : Fin grid0.N, t.val % 4 ≠ 0 → win0_2.index t = win0_2.index ⟨t.val - 1, Nat.lt_of_le_of_lt (Nat.sub_le _ _) t.isLt⟩)

theorem idle_iff6 (t : Fin cfg0.N) : cfg0.idle 6 (grid0.coords t) = true ↔ t.val % 4 ≠ 0 := by
  show (!(k0_cond1 (grid0.coords t) == 1#1)) = true ↔ _
  rw [Bool.not_eq_true', beq_eq_false_iff_ne, ne_eq, first_iff]
theorem fresh6 (n : ℕ) (hn : n ≤ cfg0.N) : cfg0.fresh 6 n = decide (n % 4 = 0) :=
  cfg0.fresh_tab 6 (fun n => decide (n % 4 = 0)) rfl (fun t => by
    have hf := flush0_6 t
    have hi := idle_iff6 t
    cases h : (cfg0.win 6).flush t <;> cases h' : cfg0.idle 6 (cfg0.grid.coords t) <;>
      rw [h] at hf <;> rw [show cfg0.idle 6 (grid0.coords t) = _ from h'] at hi <;> simp at hf hi ⊢ <;> omega) n hn
theorem idle_iff7 (t : Fin cfg0.N) : cfg0.idle 7 (grid0.coords t) = true ↔ t.val % 4 ≠ 0 := by
  show (!(k0_cond1 (grid0.coords t) == 1#1)) = true ↔ _
  rw [Bool.not_eq_true', beq_eq_false_iff_ne, ne_eq, first_iff]
theorem fresh7 (n : ℕ) (hn : n ≤ cfg0.N) : cfg0.fresh 7 n = decide (n % 4 = 0) :=
  cfg0.fresh_tab 7 (fun n => decide (n % 4 = 0)) rfl (fun t => by
    have hf := flush0_7 t
    have hi := idle_iff7 t
    cases h : (cfg0.win 7).flush t <;> cases h' : cfg0.idle 7 (cfg0.grid.coords t) <;>
      rw [h] at hf <;> rw [show cfg0.idle 7 (grid0.coords t) = _ from h'] at hi <;> simp at hf hi ⊢ <;> omega) n hn
theorem idle_iff8 (t : Fin cfg0.N) : cfg0.idle 8 (grid0.coords t) = true ↔ t.val % 4 ≠ 0 := by
  show (!(k0_cond1 (grid0.coords t) == 1#1)) = true ↔ _
  rw [Bool.not_eq_true', beq_eq_false_iff_ne, ne_eq, first_iff]
theorem fresh8 (n : ℕ) (hn : n ≤ cfg0.N) : cfg0.fresh 8 n = decide (n % 4 = 0) :=
  cfg0.fresh_tab 8 (fun n => decide (n % 4 = 0)) rfl (fun t => by
    have hf := flush0_8 t
    have hi := idle_iff8 t
    cases h : (cfg0.win 8).flush t <;> cases h' : cfg0.idle 8 (cfg0.grid.coords t) <;>
      rw [h] at hf <;> rw [show cfg0.idle 8 (grid0.coords t) = _ from h'] at hi <;> simp at hf hi ⊢ <;> omega) n hn
theorem idle_iff9 (t : Fin cfg0.N) : cfg0.idle 9 (grid0.coords t) = true ↔ t.val % 4 ≠ 0 := by
  show (!(k0_cond1 (grid0.coords t) == 1#1)) = true ↔ _
  rw [Bool.not_eq_true', beq_eq_false_iff_ne, ne_eq, first_iff]
theorem fresh9 (n : ℕ) (hn : n ≤ cfg0.N) : cfg0.fresh 9 n = decide (n % 4 = 0) :=
  cfg0.fresh_tab 9 (fun n => decide (n % 4 = 0)) rfl (fun t => by
    have hf := flush0_9 t
    have hi := idle_iff9 t
    cases h : (cfg0.win 9).flush t <;> cases h' : cfg0.idle 9 (cfg0.grid.coords t) <;>
      rw [h] at hf <;> rw [show cfg0.idle 9 (grid0.coords t) = _ from h'] at hi <;> simp at hf hi ⊢ <;> omega) n hn

/-! ## The staging and scratch memrefs -/

abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x16x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x16x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x16x128 .f32 := win0_9.stage (cfg0.slots t 9)
abbrev hs0_9 (t : Fin cfg0.N) : (ms0_9 t).IsWhole := hstage0_9 ((cfg0.slots t 9).cast nbuf0_9)
abbrev scM0_0 : Memref sig .tc .vmem S128x2048 .fp8e4m3 := Memref.whole cc0_scratch0
abbrev scM0_1 : Memref sig .tc .vmem S2048x256 .f32 := Memref.whole cc0_scratch1
abbrev scM0_2 : Memref sig .tc .vmem S16x256 .f32 := Memref.whole cc0_scratch2
abbrev scM0_3 : Memref sig .tc .vmem S16x256 .f32 := Memref.whole cc0_scratch3
abbrev scM0_4 : Memref sig .tc .vmem S16x256 .f32 := Memref.whole cc0_scratch4
abbrev scM0_5 : Memref sig .tc .vmem S16x256 .f32 := Memref.whole cc0_scratch5

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- Between the points of one group the transposed value codes stand in their scratch; the rest of the scratch is free. -/
def PhiG (c : Dev nD) (VT : Vec F S128x2048 .fp8e4m3) : sProp 𝕄 :=
  iprop(iprop(owns (c : Thread nD τ) scM0_0 fullShare VT ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiG_out (c : Dev nD) (VT : Vec F S128x2048 .fp8e4m3) : PhiG c VT ⊢ (Pipeline.ΦA spec0 c : sProp 𝕄) := by
  rw [PhiA0_eq]; unfold PhiG
  iintro ⟨⟨H0, H⟩, Hg⟩
  isplitl [H0 H]
  · isplitl [H0]
    · iexists _; iexact H0
    iexact H
  iexact Hg

/-- The region invariant before position `n`. -/
def PhiS (c : Dev nD) (n : ℕ) (hn : n ≤ cfg0.N) : sProp 𝕄 :=
  if h : n % 4 = 0 then Pipeline.ΦA spec0 c else PhiG c (qCodesT (iblk m c 2 ⟨n - 1, by omega⟩))

theorem PhiS_out (c : Dev nD) (n : ℕ) (hn : n ≤ cfg0.N) : PhiS m c n hn ⊢ (Pipeline.ΦA spec0 c : sProp 𝕄) := by
  unfold PhiS
  split
  · exact Idealize.SL.BI.Entails.refl _
  · exact PhiG_out c _

theorem PhiS_succ (c : Dev nD) (t : Fin cfg0.N) : PhiG c (qCodesT (iblk m c 2 t)) ⊢ PhiS m c (t.val + 1) t.isLt := by
  unfold PhiS
  split
  · exact PhiG_out c _
  · exact Idealize.SL.BI.Entails.refl _

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yBlk (iblk m c 0 t) (iblk m c 1 t) (iblk m c 2 t)
    | ⟨4, _⟩ => qCodes (iblk m c 0 t)
    | ⟨5, _⟩ => qScales (iblk m c 0 t)
    | ⟨6, _⟩ => qCodes (iblk m c 1 t)
    | ⟨7, _⟩ => qScales (iblk m c 1 t)
    | ⟨8, _⟩ => qCodes (iblk m c 2 t)
    | ⟨9, _⟩ => qScales (iblk m c 2 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yBlk (iblk m c 0 t) (iblk m c 1 t) (iblk m c 2 t) := by dsimp only [dats]
theorem after0_4 (c : Dev nD) (t : Fin cfg0.N) : (dats m 0 c).after 4 t = qCodes (iblk m c 0 t) := by dsimp only [dats]
theorem after0_5 (c : Dev nD) (t : Fin cfg0.N) : (dats m 0 c).after 5 t = qScales (iblk m c 0 t) := by dsimp only [dats]
theorem after0_6 (c : Dev nD) (t : Fin cfg0.N) : (dats m 0 c).after 6 t = qCodes (iblk m c 1 t) := by dsimp only [dats]
theorem after0_7 (c : Dev nD) (t : Fin cfg0.N) : (dats m 0 c).after 7 t = qScales (iblk m c 1 t) := by dsimp only [dats]
theorem after0_8 (c : Dev nD) (t : Fin cfg0.N) : (dats m 0 c).after 8 t = qCodes (iblk m c 2 t) := by dsimp only [dats]
theorem after0_9 (c : Dev nD) (t : Fin cfg0.N) : (dats m 0 c).after 9 t = qScales (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem fetched1 (c : Dev nD) (t : Fin cfg0.N) (d) : (dats m 0 c).fetched 1 t d = iblk m c 1 t := by
  unfold Dat.fetched Dat.blockOf iblk; rw [A_eq]; try rfl
/-- Within a group the block of window 1 stays. -/
theorem iblk_kept1 (c : Dev nD) (t : Fin cfg0.N) (h : t.val % 4 ≠ 0) : iblk m c 1 t = iblk m c 1 ⟨t.val - 1, by omega⟩ := by
  have e := (dats m 0 c).fetched_congr 1 (index_kept1 t h) rfl (iblk m c 1 t)
  rw [fetched1, fetched1] at e
  exact e

theorem fetched2 (c : Dev nD) (t : Fin cfg0.N) (d) : (dats m 0 c).fetched 2 t d = iblk m c 2 t := by
  unfold Dat.fetched Dat.blockOf iblk; rw [A_eq]; try rfl
/-- Within a group the block of window 2 stays. -/
theorem iblk_kept2 (c : Dev nD) (t : Fin cfg0.N) (h : t.val % 4 ≠ 0) : iblk m c 2 t = iblk m c 2 ⟨t.val - 1, by omega⟩ := by
  have e := (dats m 0 c).fetched_congr 2 (index_kept2 t h) rfl (iblk m c 2 t)
  rw [fetched2, fetched2] at e
  exact e

theorem kept6 (c : Dev nD) (t : Fin cfg0.N) (h : t.val % 4 ≠ 0) : (dats m 0 c).after 6 t = (dats m 0 c).after 6 ⟨t.val - 1, by omega⟩ := by
  rw [after0_6, after0_6, ← iblk_kept1 m c t h]
/-- At a later point of the group the buffer of window 6 holds what the group's first point stored. -/
theorem before0_6 (c : Dev nD) (t : Fin cfg0.N) (h : t.val % 4 ≠ 0) (d) : (dats m 0 c).before 6 t d = qCodes (iblk m c 1 t) := by
  rw [(dats m 0 c).before_out_traj 6 rfl (fun _ _ => rfl) (fun t _ hi _ => kept6 m c t ((idle_iff6 t).mp hi)) t.val t rfl d,
    fresh6 t.val (Nat.le_of_lt t.isLt), if_neg (by simpa using h), ← kept6 m c t h, after0_6]

theorem kept7 (c : Dev nD) (t : Fin cfg0.N) (h : t.val % 4 ≠ 0) : (dats m 0 c).after 7 t = (dats m 0 c).after 7 ⟨t.val - 1, by omega⟩ := by
  rw [after0_7, after0_7, ← iblk_kept1 m c t h]
/-- At a later point of the group the buffer of window 7 holds what the group's first point stored. -/
theorem before0_7 (c : Dev nD) (t : Fin cfg0.N) (h : t.val % 4 ≠ 0) (d) : (dats m 0 c).before 7 t d = qScales (iblk m c 1 t) := by
  rw [(dats m 0 c).before_out_traj 7 rfl (fun _ _ => rfl) (fun t _ hi _ => kept7 m c t ((idle_iff7 t).mp hi)) t.val t rfl d,
    fresh7 t.val (Nat.le_of_lt t.isLt), if_neg (by simpa using h), ← kept7 m c t h, after0_7]

theorem kept8 (c : Dev nD) (t : Fin cfg0.N) (h : t.val % 4 ≠ 0) : (dats m 0 c).after 8 t = (dats m 0 c).after 8 ⟨t.val - 1, by omega⟩ := by
  rw [after0_8, after0_8, ← iblk_kept2 m c t h]
/-- At a later point of the group the buffer of window 8 holds what the group's first point stored. -/
theorem before0_8 (c : Dev nD) (t : Fin cfg0.N) (h : t.val % 4 ≠ 0) (d) : (dats m 0 c).before 8 t d = qCodes (iblk m c 2 t) := by
  rw [(dats m 0 c).before_out_traj 8 rfl (fun _ _ => rfl) (fun t _ hi _ => kept8 m c t ((idle_iff8 t).mp hi)) t.val t rfl d,
    fresh8 t.val (Nat.le_of_lt t.isLt), if_neg (by simpa using h), ← kept8 m c t h, after0_8]

theorem kept9 (c : Dev nD) (t : Fin cfg0.N) (h : t.val % 4 ≠ 0) : (dats m 0 c).after 9 t = (dats m 0 c).after 9 ⟨t.val - 1, by omega⟩ := by
  rw [after0_9, after0_9, ← iblk_kept2 m c t h]
/-- At a later point of the group the buffer of window 9 holds what the group's first point stored. -/
theorem before0_9 (c : Dev nD) (t : Fin cfg0.N) (h : t.val % 4 ≠ 0) (d) : (dats m 0 c).before 9 t d = qScales (iblk m c 2 t) := by
  rw [(dats m 0 c).before_out_traj 9 rfl (fun _ _ => rfl) (fun t _ hi _ => kept9 m c t ((idle_iff9 t).mp hi)) t.val t rfl d,
    fresh9 t.val (Nat.le_of_lt t.isLt), if_neg (by simpa using h), ← kept9 m c t h, after0_9]

/-- A buffer at what the body is to leave is what the obligation asks for, whether the window is idle or not. -/
theorem leaves_of {c : Dev nD} (dat : Dat τ (Elt F) Unit ℕ (UR sig nD τ) ℕ cfg0 c) (w : Fin cfg0.W) (t : Fin cfg0.N)
    (hb : cfg0.idle w (grid0.coords t) = true → dat.before w t (dat.after w t) = dat.after w t) :
    (owns (c : Thread nD τ) ((cfg0.win w).stage (cfg0.slots t w)) fullShare (dat.after w t) : sProp 𝕄) ⊢ dat.leavesExact w t := by
  unfold Dat.leavesExact
  cases hi : cfg0.idle w (cfg0.grid.coords t)
  · exact Idealize.SL.BI.Entails.refl _
  · cases (cfg0.win w).flush t
    · show _ ⊢ iprop(∃ d, owns (c : Thread nD τ) ((cfg0.win w).stage (cfg0.slots t w)) fullShare (dat.before w t d))
      iintro H
      iexists (dat.after w t)
      rw [hb hi]
      iexact H
    · exact Idealize.SL.BI.Entails.refl _

theorem leaves0_0 (c : Dev nD) (t : Fin cfg0.N) : owns (c : Thread nD τ) (ms0_0 t) fullShare (iblk m c 0 t) ⊢ ((dats m 0 c).leavesExact 0 t : sProp 𝕄) := by
  have h := leaves_of (dats m 0 c) 0 t (fun hi => absurd hi Bool.false_ne_true)
  rw [after0_0] at h
  exact h
theorem leaves0_1 (c : Dev nD) (t : Fin cfg0.N) : owns (c : Thread nD τ) (ms0_1 t) fullShare (iblk m c 1 t) ⊢ ((dats m 0 c).leavesExact 1 t : sProp 𝕄) := by
  have h := leaves_of (dats m 0 c) 1 t (fun hi => absurd hi Bool.false_ne_true)
  rw [after0_1] at h
  exact h
theorem leaves0_2 (c : Dev nD) (t : Fin cfg0.N) : owns (c : Thread nD τ) (ms0_2 t) fullShare (iblk m c 2 t) ⊢ ((dats m 0 c).leavesExact 2 t : sProp 𝕄) := by
  have h := leaves_of (dats m 0 c) 2 t (fun hi => absurd hi Bool.false_ne_true)
  rw [after0_2] at h
  exact h
theorem leaves0_3 (c : Dev nD) (t : Fin cfg0.N) : owns (c : Thread nD τ) (ms0_3 t) fullShare (yBlk (iblk m c 0 t) (iblk m c 1 t) (iblk m c 2 t)) ⊢ ((dats m 0 c).leavesExact 3 t : sProp 𝕄) := by
  have h := leaves_of (dats m 0 c) 3 t (fun hi => absurd hi Bool.false_ne_true)
  rw [after0_3] at h
  exact h
theorem leaves0_4 (c : Dev nD) (t : Fin cfg0.N) : owns (c : Thread nD τ) (ms0_4 t) fullShare (qCodes (iblk m c 0 t)) ⊢ ((dats m 0 c).leavesExact 4 t : sProp 𝕄) := by
  have h := leaves_of (dats m 0 c) 4 t (fun hi => absurd hi Bool.false_ne_true)
  rw [after0_4] at h
  exact h
theorem leaves0_5 (c : Dev nD) (t : Fin cfg0.N) : owns (c : Thread nD τ) (ms0_5 t) fullShare (qScales (iblk m c 0 t)) ⊢ ((dats m 0 c).leavesExact 5 t : sProp 𝕄) := by
  have h := leaves_of (dats m 0 c) 5 t (fun hi => absurd hi Bool.false_ne_true)
  rw [after0_5] at h
  exact h
theorem leaves0_6 (c : Dev nD) (t : Fin cfg0.N) : owns (c : Thread nD τ) (ms0_6 t) fullShare (qCodes (iblk m c 1 t)) ⊢ ((dats m 0 c).leavesExact 6 t : sProp 𝕄) := by
  have h := leaves_of (dats m 0 c) 6 t (fun hi => by rw [before0_6 m c t ((idle_iff6 t).mp hi), after0_6])
  rw [after0_6] at h
  exact h
theorem leaves0_7 (c : Dev nD) (t : Fin cfg0.N) : owns (c : Thread nD τ) (ms0_7 t) fullShare (qScales (iblk m c 1 t)) ⊢ ((dats m 0 c).leavesExact 7 t : sProp 𝕄) := by
  have h := leaves_of (dats m 0 c) 7 t (fun hi => by rw [before0_7 m c t ((idle_iff7 t).mp hi), after0_7])
  rw [after0_7] at h
  exact h
theorem leaves0_8 (c : Dev nD) (t : Fin cfg0.N) : owns (c : Thread nD τ) (ms0_8 t) fullShare (qCodes (iblk m c 2 t)) ⊢ ((dats m 0 c).leavesExact 8 t : sProp 𝕄) := by
  have h := leaves_of (dats m 0 c) 8 t (fun hi => by rw [before0_8 m c t ((idle_iff8 t).mp hi), after0_8])
  rw [after0_8] at h
  exact h
theorem leaves0_9 (c : Dev nD) (t : Fin cfg0.N) : owns (c : Thread nD τ) (ms0_9 t) fullShare (qScales (iblk m c 2 t)) ⊢ ((dats m 0 c).leavesExact 9 t : sProp 𝕄) := by
  have h := leaves_of (dats m 0 c) 9 t (fun hi => by rw [before0_9 m c t ((idle_iff9 t).mp hi), after0_9])
  rw [after0_9] at h
  exact h

/-! ## The body obligation -/

def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_castSucc m c t]
  by_cases h0 : t.val % 4 = 0
  · rw [show PhiS m c t.val (Nat.le_of_lt t.isLt) = Pipeline.ΦA spec0 c from dif_pos h0, PhiA0_eq]
    iintro ⟨⟨⟨H12, H13, H14, H15, H16, H17⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩⟩
    iapply (body_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((first_iff t).mpr h0) (iblk m c 0 t) (iblk m c 1 t) (iblk m c 2 t) Set.univ _)
    isplitl [H2]
    · iexact H2
    isplitl [H3]
    · iexact H3
    isplitl [H4]
    · iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexact H12
    isplitl [H13]
    · iexact H13
    isplitl [H14]
    · iexact H14
    isplitl [H15]
    · iexact H15
    isplitl [H16]
    · iexact H16
    isplitl [H17]
    · iexact H17
    iintro ⟨H2, H3, H4, H5, H6, H7, H8, H9, H10, H11, H12, H13, H14, H15, H16, H17⟩
    isplitl [H12 H13 H14 H15 H16 H17 Hg]
    · iapply (PhiS_succ m c t)
      unfold PhiG
      isplitr [Hg]
      · isplitl [H12]
        · iexact H12
        isplitl [H13]
        · iexact H13
        isplitl [H14]
        · iexact H14
        isplitl [H15]
        · iexact H15
        isplitl [H16]
        · iexact H16
        iexact H17
      iexact Hg
    isplitl [Ho]
    · iexact Ho
    isplitl [H2]
    · iapply (leaves0_0 m c t); iexact H2
    isplitl [H3]
    · iapply (leaves0_1 m c t); iexact H3
    isplitl [H4]
    · iapply (leaves0_2 m c t); iexact H4
    isplitl [H5]
    · iapply (leaves0_3 m c t); iexact H5
    isplitl [H6]
    · iapply (leaves0_4 m c t); iexact H6
    isplitl [H7]
    · iapply (leaves0_5 m c t); iexact H7
    isplitl [H8]
    · iapply (leaves0_6 m c t); iexact H8
    isplitl [H9]
    · iapply (leaves0_7 m c t); iexact H9
    isplitl [H10]
    · iapply (leaves0_8 m c t); iexact H10
    iapply (leaves0_9 m c t); iexact H11

  · rw [show PhiS m c t.val (Nat.le_of_lt t.isLt) = PhiG c (qCodesT (iblk m c 2 ⟨t.val - 1, by omega⟩)) from dif_neg h0, ← iblk_kept2 m c t h0]
    simp only [before0_6 m c t h0, before0_7 m c t h0, before0_8 m c t h0, before0_9 m c t h0]
    unfold PhiG
    iintro ⟨⟨⟨H12, H13, H14, H15, H16, H17⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩⟩
    iapply (body_later (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((first_iff t).mp h)) (iblk m c 0 t) (iblk m c 1 t) (iblk m c 2 t) Set.univ _)
    isplitl [H2]
    · iexact H2
    isplitl [H3]
    · iexact H3
    isplitl [H4]
    · iexact H4
    isplitl [H5]
    · iexists _; iexact H5
    isplitl [H6]
    · iexists _; iexact H6
    isplitl [H7]
    · iexists _; iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iintro ⟨H2, H3, H4, H5, H6, H7, H8, H9, H10, H11, H12, H13, H14, H15, H16, H17⟩
    isplitl [H12 H13 H14 H15 H16 H17 Hg]
    · iapply (PhiS_succ m c t)
      unfold PhiG
      isplitr [Hg]
      · isplitl [H12]
        · iexact H12
        isplitl [H13]
        · iexact H13
        isplitl [H14]
        · iexact H14
        isplitl [H15]
        · iexact H15
        isplitl [H16]
        · iexact H16
        iexact H17
      iexact Hg
    isplitl [Ho]
    · iexact Ho
    isplitl [H2]
    · iapply (leaves0_0 m c t); iexact H2
    isplitl [H3]
    · iapply (leaves0_1 m c t); iexact H3
    isplitl [H4]
    · iapply (leaves0_2 m c t); iexact H4
    isplitl [H5]
    · iapply (leaves0_3 m c t); iexact H5
    isplitl [H6]
    · iapply (leaves0_4 m c t); iexact H6
    isplitl [H7]
    · iapply (leaves0_5 m c t); iexact H7
    isplitl [H8]
    · iapply (leaves0_6 m c t); iexact H8
    isplitl [H9]
    · iapply (leaves0_7 m c t); iexact H9
    isplitl [H10]
    · iapply (leaves0_8 m c t); iexact H10
    iapply (leaves0_9 m c t); iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, show PhiS m c 0 (Nat.zero_le _) = Pipeline.ΦA spec0 c from dif_pos rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_out m c _ _

/-! ## The run and the frame -/

set_option backward.isDefEq.respectTransparency.types false in
set_option maxHeartbeats 800000 in
/-- Every execution ends, with every array at what the proof data say and every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel.Gen
-- ==== Proof.KernelIdeal.Split.lean ====
/- The kernel body cut into three programs: the quantisation of a key/value block (run at every fourth
   point), the quantisation of the query block, and the loop over query chunks. -/
module

public import proofs.«01_k».proof.Proof.Gen.KernelIdeal.Loops
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 400000

/-- The branch taken at the first of four points: the keys and the values of one head group quantised. -/
def quantKV (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) :
    Prog (TpuEff nD τ sig (Elt F) Λ₀ .tc) PUnit := do
  let ⟨v2822, v2832⟩ : Σ' (v2822 : FVec F S128x128 .f32), IVec S1x1 32 ← k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  let v2838 : Memref sig .tc .vmem S1x1x16x128 .f32 := arg11.slice (Rect.unit (s := S1x1x16x128) ![0, 0, 0, 0] S1x1x16x128.size inb_S1x1x16x128_S1x1x16x128_0_0_0_0) (fun _ => rfl)
  let v2839 : Memref sig .tc .vmem S16x128 .f32 := v2838.squeeze S16x128 squeezes_S1x1x16x128_S16x128
  let v2840 : Vec F S1x128 .f32 ← Prog.lift (.load v2839 (Rect.unit (s := S16x128) ![15, 0] S1x128.size inb_S16x128_S1x128_15_0).toLoadRect (View.loadsAt_vmem h_S1x128))
  Prog.lift (.store v2839 (Rect.unit (s := S16x128) ![15, 0] S1x128.size inb_S16x128_S1x128_15_0) (k0_pay279 (F := F) v2832) Finset.univ (View.stores_vmem_bits_univ h_S1x128 rfl) (.inl rfl))
  let v2847 : Vec F S128x128 .fp8e4m3 ← Prog.lift (.load arg12 (Rect.unit (s := S128x2048) ![0, 1920] S128x128.size inb_S128x2048_S128x128_0_1920).toLoadRect (View.loadsAt_vmem h_S128x128))
  Prog.lift (.store arg12 (Rect.unit (s := S128x2048) ![0, 1920] S128x128.size inb_S128x2048_S128x128_0_1920) (k0_pay280 v2822) Finset.univ (View.stores_vmem h_S128x128 (harg12.storeExact_slice rfl _ packedfp8e4m3_S128x2048_S128x128_0_1920) (fun _ => rfl)) (.inl rfl))
  pure ⟨⟩

/-- The first load of the query quantisation, and what it passes on. -/
def quantX0 (arg2 : Memref sig .tc .vmem S1x2048x128 .bf16) :
    Prog (TpuEff nD τ sig (Elt F) Λ₀ .tc) (Σ' (v15 : FVec F S128x128 .f32) (v35 : IVec S1x1 32), IVec S1x1 32) := do
  let v13 : Vec F S1x128x128 .bf16 ← Prog.lift (.load arg2 (Rect.unit (s := S1x2048x128) ![0, 0, 0] S1x128x128.size inb_S1x2048x128_S1x128x128_0_0_0).toLoadRect (View.loadsAt_vmem h_S1x128x128))
  pure ⟨k0_pay281 v13, k0_pay282 v13, k0_pay283⟩

/-- The query block quantised, from what the first load passes on; then the group's key and value scales loaded. -/
def quantX1 (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (r : Σ' (v15 : FVec F S128x128 .f32) (v35 : IVec S1x1 32), IVec S1x1 32) :
    Prog (TpuEff nD τ sig (Elt F) Λ₀ .tc) (FVec F S16x128 .f32 × Vec F S1x1x16x128 .f32) := do
  let ⟨v15, v35, v36⟩ := r
  let ⟨v71, v72⟩ : Σ' (v71 : FVec F S128x128 .f32), FVec F S128x128 .f32 ← k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v35 v36
  let ⟨v97, v114⟩ : Σ' (v97 : IVec S1x1 32), FVec F S1x128x128 .fp8e4m3 ← k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v71 v72
  let ⟨v127, v149, v151⟩ : Σ' (v127 : FVec F S128x128 .f32) (v149 : IVec S1x1 1), IVec S1x1 32 ← k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v97 v114
  let ⟨v183, v187⟩ : Σ' (v183 : FVec F S128x128 .f32), FVec F S1 .f32 ← k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v127 v149 v151
  let v228 : IVec S1x1 32 ← k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v183 v187
  let ⟨v239, v265, c0_i32_127⟩ : Σ' (v239 : FVec F S128x128 .f32) (v265 : IVec S1x1 32), BitVec 32 ← k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v228
  let ⟨v295, v300, v301, v302⟩ : Σ' (v295 : FVec F S128x128 .f32) (v300 : FVec F S1x1 .f32) (v301 : IVec S1x256 32), FVec F S1x1 .f32 ← k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v239 v265 c0_i32_127
  let v343 : FVec F S1x1 .f32 ← k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v295 v300 v301 v302
  let ⟨v351, v377, v379, v380⟩ : Σ' (v351 : FVec F S128x128 .f32) (v377 : IVec S1x1 32) (v379 : IVec S1x1 32), IVec S1x1 32 ← k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v343
  let ⟨v407, v415, v417⟩ : Σ' (v407 : FVec F S128x128 .f32) (v415 : FVec F S1x1 .f32), IVec S1x256 32 ← k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v351 v377 v379 v380
  let v457 : FVec F S1x128 .f32 ← k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v407 v415 v417
  let ⟨v463, v489, v495⟩ : Σ' (v463 : FVec F S128x128 .f32) (v489 : IVec S1x1 32), IVec S1x1 32 ← k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v457
  let ⟨v519, v532, c1_i32_260⟩ : Σ' (v519 : FVec F S128x128 .f32) (v532 : IVec S1x256 1), BitVec 32 ← k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v463 v489 v495
  let v569 : FVec F S1x128 .f32 ← k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v519 v532 c1_i32_260
  let ⟨v601, v610, cst_298⟩ : Σ' (v601 : IVec S1x1 32) (v610 : FVec F S128x128 .f32), F .f32 ← k0_part81 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v569
  let ⟨v631, v647⟩ : Σ' (v631 : FVec F S128x128 .f32), IVec S1x256 32 ← k0_part82 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v601 v610 cst_298
  k0_part83 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v631 v647
  let ⟨v713, v724, v725⟩ : Σ' (v713 : IVec S1x1 32) (v724 : FVec F S128x128 .f32), FVec F S128x128 .f32 ← k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  let ⟨v743, v761, c1_i32_375⟩ : Σ' (v743 : FVec F S128x128 .f32) (v761 : IVec S1x1 32), BitVec 32 ← k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v713 v724 v725
  let v797 : Vec F S1x128x128 .bf16 ← k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v743 v761 c1_i32_375
  let ⟨v825, v839⟩ : Σ' (v825 : IVec S1x1 32), FVec F S128x128 .fp8e4m3 ← k0_part87 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v797
  let ⟨v855, v875, v876⟩ : Σ' (v855 : FVec F S128x128 .f32) (v875 : IVec S1x1 32), IVec S1x1 32 ← k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v825 v839
  let v910 : FVec F S16x128 .f32 ← k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v855 v875 v876
  let v911 : Vec F S1x1x16x128 .f32 ← Prog.lift (.load arg11 (Rect.unit (s := S1x1x16x128) ![0, 0, 0, 0] S1x1x16x128.size inb_S1x1x16x128_S1x1x16x128_0_0_0_0).toLoadRect (View.loadsAt_vmem h_S1x1x16x128))
  pure (v910, v911)

/-- The query block quantised; then the group's key and value scales loaded. -/
def quantX (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) :
    Prog (TpuEff nD τ sig (Elt F) Λ₀ .tc) (FVec F S16x128 .f32 × Vec F S1x1x16x128 .f32) :=
  quantX0 arg2 >>= fun r => quantX1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 r

theorem part66_split (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) :
    k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = ((if k0_h1 : k0_cond1 i = 1#1 then quantKV i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 else pure ⟨⟩) >>= fun _ => quantX0 arg2) := by
  rw [k0_part66_eq_skeleton]
  unfold k0_part66_skel
  by_cases h : k0_cond1 i = 1#1
  · rw [dif_pos h, dif_pos h]; unfold quantKV quantX0; simp only [bind_assoc, pure_bind]
  · rw [dif_neg h, dif_neg h]; rfl

/-- The body is the branch, the query quantisation and the loop, in that order. -/
theorem body_split (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
    (E : Set ℕ) (K : PUnit → sProp 𝕄) :
    wp frame (wpE (defs₀ (F := F)) Variants.none c none) E (cc0_fp8_gqa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K
      = wp frame (wpE (defs₀ (F := F)) Variants.none c none) E (if k0_h1 : k0_cond1 i = 1#1 then quantKV i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 else pure ⟨⟩)
          (fun _ => wp frame (wpE (defs₀ (F := F)) Variants.none c none) E (quantX i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
            (fun r => wp frame (wpE (defs₀ (F := F)) Variants.none c none) E
              (Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 r.1 r.2)) K)) := by
  have e : cc0_fp8_gqa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = ((if k0_h1 : k0_cond1 i = 1#1 then quantKV i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 else pure ⟨⟩) >>= fun _ =>
          quantX i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 >>= fun r => Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 r.1 r.2)) := by
    rw [cc0_fp8_gqa_attention_eq_skeleton]
    unfold cc0_fp8_gqa_attention_skel quantX
    rw [part66_split]
    unfold quantX1
    simp only [bind_assoc, pure_bind, bind_pure, bind_pure_unit]
  rw [e, wp_bind, wp_bind]

end Cert.KernelIdeal.Gen
-- ==== Proof.KernelIdeal.Content.lean ====
/- What the blocks of the kernel hold, as functions of the arrays they are computed from. -/
module

public import proofs.«01_k».proof.Proof.KernelIdeal.Split
public import Idealize.ShloMosaic.Lib.Pipeline.ReadBack
public import Idealize.ShloMosaic.Lib.WholeRead
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-! ## The quantiser -/

/-- The codes of one 128 × 128 block: scaled by the block's power of two, clipped, rounded to fp8. -/
def codesBlk (B : Vec F S1x128x128 .bf16) : FVec F S1x128x128 .fp8e4m3 := k0_pay7 (k0_pay5 B) k0_pay6

/-- The scale of one block, along a row of 128 lanes. -/
def scaleRow (B : Vec F S1x128x128 .bf16) : FVec F S1x128 .f32 := k0_pay8 (k0_pay4 B)

/-- The codes of one block, transposed. -/
def codesTBlk (B : Vec F S1x128x128 .bf16) : FVec F S128x128 .fp8e4m3 :=
  k0_pay280 (k0_pay95 (k0_pay92 B) (k0_pay93 B) 1#32)

theorem inb_blk (n : Fin 16) : ∀ a, (![0, 128 * n.val, 0] : Fin 3 → ℕ) a + S1x128x128.size a ≤ S1x2048x128.size a := by
  have := n.isLt
  intro a
  match a with
  | ⟨0, _⟩ => show 0 + 1 ≤ 1; omega
  | ⟨1, _⟩ => show 128 * n.val + 128 ≤ 2048; omega
  | ⟨2, _⟩ => show 0 + 128 ≤ 128; omega

/-- The rectangle of 128 rows the `n`-th block takes of a 2048-row slab. -/
abbrev rBlk (n : Fin 16) : Rect S1x2048x128 := Rect.unit ![0, 128 * n.val, 0] S1x128x128.size (inb_blk n)

/-- The `n`-th block of 128 rows. -/
def blk (X : Vec F S1x2048x128 .bf16) (n : Fin 16) : Vec F S1x128x128 .bf16 := fun j => X ((rBlk n).emb j)

/-- The block a row lies in, and its row in that block. -/
def blkOf (r : Fin 2048) : Fin 16 := ⟨r.val / 128, by omega⟩
def rowOf (r : Fin 2048) : Fin 128 := ⟨r.val % 128, by omega⟩

/-- The codes of a slab. -/
def qCodes (X : Vec F S1x2048x128 .bf16) : Vec F S1x2048x128 .fp8e4m3 :=
  fun y => codesBlk (blk X (blkOf (y 1))) (ix3 0 (rowOf (y 1)) (y 2))

/-- The scales of a slab, each repeated along 128 lanes. -/
def qScales (X : Vec F S1x2048x128 .bf16) : Vec F S1x1x16x128 .f32 :=
  fun y => scaleRow (blk X (y 2)) (ix2 0 (y 3))

/-- The codes of a slab, transposed. -/
def qCodesT (X : Vec F S1x2048x128 .bf16) : Vec F S128x2048 .fp8e4m3 :=
  fun y => codesTBlk (blk X (blkOf (y 1))) (ix2 (y 0) (rowOf (y 1)))

section pieces

variable {m : Memref sig .tc .vmem S1x2048x128 .bf16} (h : m.IsWhole) (X : Vec F S1x2048x128 .bf16)

/-- The block as the kernel loads it. -/
abbrev ldBlk (n : Fin 16) : Vec F S1x128x128 .bf16 := View.readAt (Elt F) m.view (rBlk n).toLoadRect (h.unread X)

theorem ldBlk_eq (n : Fin 16) : ldBlk h X n = blk X n := by
  funext x
  show View.readAt (Elt F) m.view (rBlk n).toLoadRect (h.unread X) x = _
  rw [h.readAt_unread]
  rfl

theorem piece_codes (n : Fin 16) (x : (rBlk n).shape.Idx) :
    codesBlk (ldBlk h X n) x = qCodes X ((rBlk n).emb x) := by
  rw [ldBlk_eq]
  have hx0 : (x 0).val < 1 := (x 0).isLt
  have hx1 : (x 1).val < 128 := (x 1).isLt
  have hn := n.isLt
  have e1 : ((rBlk n).emb x 1).val = 128 * n.val + (x 1).val := by rw [Rect.emb_apply]; simp
  have e2 : ((rBlk n).emb x 2).val = (x 2).val := by rw [Rect.emb_apply]; simp
  have eb : blkOf ((rBlk n).emb x 1) = n := Fin.ext (by unfold blkOf; dsimp only; rw [e1]; omega)
  show _ = codesBlk (blk X (blkOf ((rBlk n).emb x 1))) _
  rw [eb]
  congr 1
  funext a
  match a with
  | ⟨0, _⟩ => exact Fin.ext (by show (x 0).val = 0; omega)
  | ⟨1, _⟩ => exact Fin.ext (by show (x 1).val = ((rBlk n).emb x 1).val % 128; rw [e1]; omega)
  | ⟨2, _⟩ => exact Fin.ext e2.symm

theorem inb_row (n : Fin 16) : ∀ a, (![n.val, 0] : Fin 2 → ℕ) a + S1x128.size a ≤ S16x128.size a := by
  have := n.isLt
  intro a
  match a with
  | ⟨0, _⟩ => show n.val + 1 ≤ 16; omega
  | ⟨1, _⟩ => show 0 + 128 ≤ 128; omega

abbrev rRow (n : Fin 16) : Rect S16x128 := Rect.unit ![n.val, 0] S1x128.size (inb_row n)

theorem reshape_row (h : (⟨4, ![1, 1, 1, 128]⟩ : Shape).numel = (⟨2, ![1, 128]⟩ : Shape).numel) (x : (⟨4, ![1, 1, 1, 128]⟩ : Shape).Idx) :
    Shape.reshapeEquiv h x = ix2 (n0 := 1) (n1 := 128) 0 (x 3) :=
  Shape.reshapeEquiv_eq_of_rowMajor h (by
    have h0 : (x 0).val < 1 := (x 0).isLt
    have h1 : (x 1).val < 1 := (x 1).isLt
    have h2 : (x 2).val < 1 := (x 2).isLt
    rw [Shape.rowMajor_val_four, Shape.rowMajor_val_two]
    show 0 * 128 + (x 3).val = (((x 0).val * 1 + (x 1).val) * 1 + (x 2).val) * 128 + (x 3).val
    omega)

theorem piece_scales (n : Fin 16) {hr : ∀ a, (![0, 0, 0, 0] : Fin 4 → ℕ) a + S1x1x16x128.size a ≤ S1x1x16x128.size a} {h1 h2 h3 h4} {h5 : ∀ a : Fin 4, (Rect.unit (s := S1x1x16x128) ![0, 0, 0, 0] S1x1x16x128.size hr).stride a = 1} {hR}
    (x : ((Rect.unit ![0, 0, 0, 0] S1x1x16x128.size hr).within (((rRow n).consLift ![1, 16, 128] h1 h2).consLift ![1, 1, 16, 128] h3 h4) h5
      : Rect S1x1x16x128).shape.Idx) :
    Rect.payAlong (r := rRow n) hR (scaleRow (ldBlk h X n)) x
      = qScales X (((Rect.unit ![0, 0, 0, 0] S1x1x16x128.size hr).within (((rRow n).consLift ![1, 16, 128] h1 h2).consLift ![1, 1, 16, 128] h3 h4) h5).emb x) := by
  rw [ldBlk_eq]
  have hn := n.isLt
  have h2 : (x 2).val < 1 := (x 2).isLt
  set y := ((Rect.unit ![0, 0, 0, 0] S1x1x16x128.size hr).within (((rRow n).consLift ![1, 16, 128] _ _).consLift ![1, 1, 16, 128] _ _) h5).emb x with hy
  have e2 : (y 2).val = n.val := by rw [hy, Rect.emb_apply]; show 0 + n.val + 1 * (x 2).val = n.val; omega
  have e3 : (y 3).val = (x 3).val := by rw [hy, Rect.emb_apply]; show 0 + 0 + 1 * (x 3).val = (x 3).val; omega
  have e2' : y 2 = n := Fin.ext e2
  show scaleRow (blk X n) (Shape.reshapeEquiv _ x) = scaleRow (blk X (y 2)) (ix2 0 (y 3))
  rw [e2']
  refine congrArg (scaleRow (blk X n)) ((reshape_row _ x).trans ?_)
  exact congrArg (ix2 (n0 := 1) (n1 := 128) 0) (Fin.ext e3.symm)

theorem inb_cols (n : Fin 16) : ∀ a, (![0, 128 * n.val] : Fin 2 → ℕ) a + S128x128.size a ≤ S128x2048.size a := by
  have := n.isLt
  intro a
  match a with
  | ⟨0, _⟩ => show 0 + 128 ≤ 128; omega
  | ⟨1, _⟩ => show 128 * n.val + 128 ≤ 2048; omega

abbrev rCols (n : Fin 16) : Rect S128x2048 := Rect.unit ![0, 128 * n.val] S128x128.size (inb_cols n)

theorem piece_codesT (n : Fin 16) (x : (rCols n).shape.Idx) :
    codesTBlk (ldBlk h X n) x = qCodesT X ((rCols n).emb x) := by
  rw [ldBlk_eq]
  have hx0 : (x 0).val < 128 := (x 0).isLt
  have hx1 : (x 1).val < 128 := (x 1).isLt
  have hn := n.isLt
  have e0 : ((rCols n).emb x 0).val = (x 0).val := by rw [Rect.emb_apply]; simp
  have e1 : ((rCols n).emb x 1).val = 128 * n.val + (x 1).val := by rw [Rect.emb_apply]; simp
  have eb : blkOf ((rCols n).emb x 1) = n := Fin.ext (by unfold blkOf; dsimp only; rw [e1]; omega)
  show _ = codesTBlk (blk X (blkOf ((rCols n).emb x 1))) _
  rw [eb]
  congr 1
  funext a
  match a with
  | ⟨0, _⟩ => exact Fin.ext e0.symm
  | ⟨1, _⟩ => exact Fin.ext (by show (x 1).val = ((rCols n).emb x 1).val % 128; rw [e1]; omega)

end pieces

end Cert.KernelIdeal.Gen
-- ==== Proof.KernelIdeal.RunX.lean ====
/- The quantisation of a query block. -/
module

public import proofs.«01_k».proof.Proof.KernelIdeal.Split

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
set_option sl_exec.squeezeSlice true in
/-- The quantisation of a query block. What each written buffer ends with, as pieces (last first), with the run that finds them. -/
def runX (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (X2 : Vec F S1x2048x128 .bf16) (X9 : Vec F S1x1x16x128 .f32) (X11 : Vec F S1x1x16x128 .f32) :
  Σ' (R : (FVec F S16x128 .f32 × Vec F S1x1x16x128 .f32)), Σ' (L6 : List (View.Piece (Elt F) S1x2048x128 .fp8e4m3)), { L7 : List (View.Piece (Elt F) S1x1x16x128 .f32) // ∀ (Z6 : Vec F S1x2048x128 .fp8e4m3) (Z7 : Vec F S1x1x16x128 .f32) (E : Set ℕ) (K : (FVec F S16x128 .f32 × Vec F S1x1x16x128 .f32) → sProp 𝕄),
     iprop(owns (c : Thread nD τ) arg2 fullShare X2 ∗ owns (c : Thread nD τ) arg9 fullShare X9 ∗ owns (c : Thread nD τ) arg11 fullShare X11 ∗ owns (c : Thread nD τ) arg6 fullShare Z6 ∗ owns (c : Thread nD τ) arg7 fullShare Z7
       ∗ (iprop(owns (c : Thread nD τ) arg2 fullShare X2 ∗ owns (c : Thread nD τ) arg9 fullShare X9 ∗ owns (c : Thread nD τ) arg11 fullShare X11 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K R))
     ⊢ wp frame (wpE (defs₀ (F := F)) Variants.none c none) E (quantX i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun Z6 Z7 E K => ?run⟩
  case run =>
    unfold quantX quantX1 quantX0
    unfold owns
    iintro ⟨⟨%f2, %hf2, H2⟩, ⟨%f9, %hf9, H9⟩, ⟨%f11, %hf11, H11⟩, ⟨%f6, %hf6, H6⟩, ⟨%f7, %hf7, H7⟩, Hk⟩
    obtain rfl := harg2.eq_unread hf2
    obtain rfl := harg9.eq_unread hf9
    obtain rfl := harg11.eq_unread hf11
    obtain rfl := harg6.eq_unread hf6
    obtain rfl := harg7.eq_unread hf7
    sl_exec_parts
    sl_step
    iapply Hk
    isplitl [H2]
    · iexists _; isplitr; · ipureintro; exact harg2.read_unread _
      iexact H2
    isplitl [H9]
    · iexists _; isplitr; · ipureintro; exact harg9.read_unread _
      iexact H9
    isplitl [H11]
    · iexists _; isplitr; · ipureintro; exact harg11.read_unread _
      iexact H11
    isplitl [H6]
    · iexists _; iexact H6
    iexists _; iexact H7

end Cert.KernelIdeal.Gen
-- ==== Proof.KernelIdeal.RunKV.lean ====
/- The quantisation of a key/value block. -/
module

public import proofs.«01_k».proof.Proof.KernelIdeal.Split

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
set_option sl_exec.squeezeSlice true in
/-- The quantisation of a key/value block. What each written buffer ends with, as pieces (last first), with the run that finds them. -/
def runKV (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (X3 : Vec F S1x2048x128 .bf16) (X4 : Vec F S1x2048x128 .bf16) :
  Σ' (L8 : List (View.Piece (Elt F) S1x2048x128 .fp8e4m3)), Σ' (L9 : List (View.Piece (Elt F) S1x1x16x128 .f32)), Σ' (L10 : List (View.Piece (Elt F) S1x2048x128 .fp8e4m3)), Σ' (L11 : List (View.Piece (Elt F) S1x1x16x128 .f32)), { L12 : List (View.Piece (Elt F) S128x2048 .fp8e4m3) // ∀ (Z8 : Vec F S1x2048x128 .fp8e4m3) (Z9 : Vec F S1x1x16x128 .f32) (Z10 : Vec F S1x2048x128 .fp8e4m3) (Z11 : Vec F S1x1x16x128 .f32) (Z12 : Vec F S128x2048 .fp8e4m3) (E : Set ℕ) (K : PUnit → sProp 𝕄),
     iprop(owns (c : Thread nD τ) arg3 fullShare X3 ∗ owns (c : Thread nD τ) arg4 fullShare X4 ∗ owns (c : Thread nD τ) arg8 fullShare Z8 ∗ owns (c : Thread nD τ) arg9 fullShare Z9 ∗ owns (c : Thread nD τ) arg10 fullShare Z10 ∗ owns (c : Thread nD τ) arg11 fullShare Z11 ∗ owns (c : Thread nD τ) arg12 fullShare Z12
       ∗ (iprop(owns (c : Thread nD τ) arg3 fullShare X3 ∗ owns (c : Thread nD τ) arg4 fullShare X4 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
     ⊢ wp frame (wpE (defs₀ (F := F)) Variants.none c none) E (quantKV i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun Z8 Z9 Z10 Z11 Z12 E K => ?run⟩
  case run =>
    unfold quantKV
    unfold owns
    iintro ⟨⟨%f3, %hf3, H3⟩, ⟨%f4, %hf4, H4⟩, ⟨%f8, %hf8, H8⟩, ⟨%f9, %hf9, H9⟩, ⟨%f10, %hf10, H10⟩, ⟨%f11, %hf11, H11⟩, ⟨%f12, %hf12, H12⟩, Hk⟩
    obtain rfl := harg3.eq_unread hf3
    obtain rfl := harg4.eq_unread hf4
    obtain rfl := harg8.eq_unread hf8
    obtain rfl := harg9.eq_unread hf9
    obtain rfl := harg10.eq_unread hf10
    obtain rfl := harg11.eq_unread hf11
    obtain rfl := harg12.eq_unread hf12
    sl_exec_parts
    sl_step
    iapply Hk
    isplitl [H3]
    · iexists _; isplitr; · ipureintro; exact harg3.read_unread _
      iexact H3
    isplitl [H4]
    · iexists _; isplitr; · ipureintro; exact harg4.read_unread _
      iexact H4
    isplitl [H8]
    · iexists _; iexact H8
    isplitl [H9]
    · iexists _; iexact H9
    isplitl [H10]
    · iexists _; iexact H10
    isplitl [H11]
    · iexists _; iexact H11
    iexists _; iexact H12

end Cert.KernelIdeal.Gen
-- ==== Proof.KernelIdeal.ReadX.lean ====
/- What the quantisation runs leave in the buffers they write. -/
module

public import proofs.«01_k».proof.Proof.KernelIdeal.Content
public import proofs.«01_k».proof.Proof.KernelIdeal.RunX
public import proofs.«01_k».proof.Proof.KernelIdeal.RunKV

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem read_codesX (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X2 : Vec F S1x2048x128 .bf16) (X9 X11 : Vec F S1x1x16x128 .f32) (f : _) :
    arg6.view.read (Elt F) (arg6.view.writes (Elt F) f (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.1) = (qCodes X2) := by
  funext y
  have hc := View.cover_of_tiledL (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.1 S1x128x128.size (by sl_kernel_rfl) y
  rw [View.read_writes_eq_canon _ _ _ (View.cover_of_tiledL (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.1 S1x128x128.size (by sl_kernel_rfl))]
  rw [← List.append_nil (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.1]
  refine View.canon_append_of_piecesOf (qCodes X2) [] _ ?_ y hc
  exact ⟨fun x => piece_codes harg2 X2 15 x, fun x => piece_codes harg2 X2 14 x, fun x => piece_codes harg2 X2 13 x, fun x => piece_codes harg2 X2 12 x, fun x => piece_codes harg2 X2 11 x, fun x => piece_codes harg2 X2 10 x, fun x => piece_codes harg2 X2 9 x, fun x => piece_codes harg2 X2 8 x, fun x => piece_codes harg2 X2 7 x, fun x => piece_codes harg2 X2 6 x, fun x => piece_codes harg2 X2 5 x, fun x => piece_codes harg2 X2 4 x, fun x => piece_codes harg2 X2 3 x, fun x => piece_codes harg2 X2 2 x, fun x => piece_codes harg2 X2 1 x, fun x => piece_codes harg2 X2 0 x, trivial⟩

theorem read_scalesX (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X2 : Vec F S1x2048x128 .bf16) (X9 X11 : Vec F S1x1x16x128 .f32) (f : _) :
    arg7.view.read (Elt F) (arg7.view.writes (Elt F) f (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.2.1) = (qScales X2) := by
  funext y
  have hc := View.cover_of_tiledL (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.2.1 ![1, 1, 1, 128] (by sl_kernel_rfl) y
  rw [View.read_writes_eq_canon _ _ _ (View.cover_of_tiledL (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.2.1 ![1, 1, 1, 128] (by sl_kernel_rfl))]
  rw [← List.append_nil (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).2.2.1]
  refine View.canon_append_of_piecesOf (qScales X2) [] _ ?_ y hc
  exact ⟨fun x => piece_scales (h5 := fun _ => rfl) harg2 X2 15 x, fun x => piece_scales (h5 := fun _ => rfl) harg2 X2 14 x, fun x => piece_scales (h5 := fun _ => rfl) harg2 X2 13 x, fun x => piece_scales (h5 := fun _ => rfl) harg2 X2 12 x, fun x => piece_scales (h5 := fun _ => rfl) harg2 X2 11 x, fun x => piece_scales (h5 := fun _ => rfl) harg2 X2 10 x, fun x => piece_scales (h5 := fun _ => rfl) harg2 X2 9 x, fun x => piece_scales (h5 := fun _ => rfl) harg2 X2 8 x, fun x => piece_scales (h5 := fun _ => rfl) harg2 X2 7 x, fun x => piece_scales (h5 := fun _ => rfl) harg2 X2 6 x, fun x => piece_scales (h5 := fun _ => rfl) harg2 X2 5 x, fun x => piece_scales (h5 := fun _ => rfl) harg2 X2 4 x, fun x => piece_scales (h5 := fun _ => rfl) harg2 X2 3 x, fun x => piece_scales (h5 := fun _ => rfl) harg2 X2 2 x, fun x => piece_scales (h5 := fun _ => rfl) harg2 X2 1 x, fun x => piece_scales (h5 := fun _ => rfl) harg2 X2 0 x, trivial⟩

theorem read_codesK (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X3 X4 : Vec F S1x2048x128 .bf16) (f : _) :
    arg8.view.read (Elt F) (arg8.view.writes (Elt F) f (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).1) = (qCodes X3) := by
  funext y
  have hc := View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).1 S1x128x128.size (by sl_kernel_rfl) y
  rw [View.read_writes_eq_canon _ _ _ (View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).1 S1x128x128.size (by sl_kernel_rfl))]
  rw [← List.append_nil (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).1]
  refine View.canon_append_of_piecesOf (qCodes X3) [] _ ?_ y hc
  exact ⟨fun x => piece_codes harg3 X3 15 x, fun x => piece_codes harg3 X3 14 x, fun x => piece_codes harg3 X3 13 x, fun x => piece_codes harg3 X3 12 x, fun x => piece_codes harg3 X3 11 x, fun x => piece_codes harg3 X3 10 x, fun x => piece_codes harg3 X3 9 x, fun x => piece_codes harg3 X3 8 x, fun x => piece_codes harg3 X3 7 x, fun x => piece_codes harg3 X3 6 x, fun x => piece_codes harg3 X3 5 x, fun x => piece_codes harg3 X3 4 x, fun x => piece_codes harg3 X3 3 x, fun x => piece_codes harg3 X3 2 x, fun x => piece_codes harg3 X3 1 x, fun x => piece_codes harg3 X3 0 x, trivial⟩

theorem read_scalesK (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X3 X4 : Vec F S1x2048x128 .bf16) (f : _) :
    arg9.view.read (Elt F) (arg9.view.writes (Elt F) f (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.1) = (qScales X3) := by
  funext y
  have hc := View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.1 ![1, 1, 1, 128] (by sl_kernel_rfl) y
  rw [View.read_writes_eq_canon _ _ _ (View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.1 ![1, 1, 1, 128] (by sl_kernel_rfl))]
  rw [← List.append_nil (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.1]
  refine View.canon_append_of_piecesOf (qScales X3) [] _ ?_ y hc
  exact ⟨fun x => piece_scales (h5 := fun _ => rfl) harg3 X3 15 x, fun x => piece_scales (h5 := fun _ => rfl) harg3 X3 14 x, fun x => piece_scales (h5 := fun _ => rfl) harg3 X3 13 x, fun x => piece_scales (h5 := fun _ => rfl) harg3 X3 12 x, fun x => piece_scales (h5 := fun _ => rfl) harg3 X3 11 x, fun x => piece_scales (h5 := fun _ => rfl) harg3 X3 10 x, fun x => piece_scales (h5 := fun _ => rfl) harg3 X3 9 x, fun x => piece_scales (h5 := fun _ => rfl) harg3 X3 8 x, fun x => piece_scales (h5 := fun _ => rfl) harg3 X3 7 x, fun x => piece_scales (h5 := fun _ => rfl) harg3 X3 6 x, fun x => piece_scales (h5 := fun _ => rfl) harg3 X3 5 x, fun x => piece_scales (h5 := fun _ => rfl) harg3 X3 4 x, fun x => piece_scales (h5 := fun _ => rfl) harg3 X3 3 x, fun x => piece_scales (h5 := fun _ => rfl) harg3 X3 2 x, fun x => piece_scales (h5 := fun _ => rfl) harg3 X3 1 x, fun x => piece_scales (h5 := fun _ => rfl) harg3 X3 0 x, trivial⟩

theorem read_codesV (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X3 X4 : Vec F S1x2048x128 .bf16) (f : _) :
    arg10.view.read (Elt F) (arg10.view.writes (Elt F) f (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.1) = (qCodes X4) := by
  funext y
  have hc := View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.1 S1x128x128.size (by sl_kernel_rfl) y
  rw [View.read_writes_eq_canon _ _ _ (View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.1 S1x128x128.size (by sl_kernel_rfl))]
  rw [← List.append_nil (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.1]
  refine View.canon_append_of_piecesOf (qCodes X4) [] _ ?_ y hc
  exact ⟨fun x => piece_codes harg4 X4 15 x, fun x => piece_codes harg4 X4 14 x, fun x => piece_codes harg4 X4 13 x, fun x => piece_codes harg4 X4 12 x, fun x => piece_codes harg4 X4 11 x, fun x => piece_codes harg4 X4 10 x, fun x => piece_codes harg4 X4 9 x, fun x => piece_codes harg4 X4 8 x, fun x => piece_codes harg4 X4 7 x, fun x => piece_codes harg4 X4 6 x, fun x => piece_codes harg4 X4 5 x, fun x => piece_codes harg4 X4 4 x, fun x => piece_codes harg4 X4 3 x, fun x => piece_codes harg4 X4 2 x, fun x => piece_codes harg4 X4 1 x, fun x => piece_codes harg4 X4 0 x, trivial⟩

theorem read_scalesV (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X3 X4 : Vec F S1x2048x128 .bf16) (f : _) :
    arg11.view.read (Elt F) (arg11.view.writes (Elt F) f (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.1) = (qScales X4) := by
  funext y
  have hc := View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.1 ![1, 1, 1, 128] (by sl_kernel_rfl) y
  rw [View.read_writes_eq_canon _ _ _ (View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.1 ![1, 1, 1, 128] (by sl_kernel_rfl))]
  rw [← List.append_nil (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.1]
  refine View.canon_append_of_piecesOf (qScales X4) [] _ ?_ y hc
  exact ⟨fun x => piece_scales (h5 := fun _ => rfl) harg4 X4 15 x, fun x => piece_scales (h5 := fun _ => rfl) harg4 X4 14 x, fun x => piece_scales (h5 := fun _ => rfl) harg4 X4 13 x, fun x => piece_scales (h5 := fun _ => rfl) harg4 X4 12 x, fun x => piece_scales (h5 := fun _ => rfl) harg4 X4 11 x, fun x => piece_scales (h5 := fun _ => rfl) harg4 X4 10 x, fun x => piece_scales (h5 := fun _ => rfl) harg4 X4 9 x, fun x => piece_scales (h5 := fun _ => rfl) harg4 X4 8 x, fun x => piece_scales (h5 := fun _ => rfl) harg4 X4 7 x, fun x => piece_scales (h5 := fun _ => rfl) harg4 X4 6 x, fun x => piece_scales (h5 := fun _ => rfl) harg4 X4 5 x, fun x => piece_scales (h5 := fun _ => rfl) harg4 X4 4 x, fun x => piece_scales (h5 := fun _ => rfl) harg4 X4 3 x, fun x => piece_scales (h5 := fun _ => rfl) harg4 X4 2 x, fun x => piece_scales (h5 := fun _ => rfl) harg4 X4 1 x, fun x => piece_scales (h5 := fun _ => rfl) harg4 X4 0 x, trivial⟩

theorem read_codesVT (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X3 X4 : Vec F S1x2048x128 .bf16) (f : _) :
    arg12.view.read (Elt F) (arg12.view.writes (Elt F) f (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.2.1) = (qCodesT X4) := by
  funext y
  have hc := View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.2.1 S128x128.size (by sl_kernel_rfl) y
  rw [View.read_writes_eq_canon _ _ _ (View.cover_of_tiledL (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.2.1 S128x128.size (by sl_kernel_rfl))]
  rw [← List.append_nil (runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.2.1]
  refine View.canon_append_of_piecesOf (qCodesT X4) [] _ ?_ y hc
  exact ⟨fun x => piece_codesT harg4 X4 15 x, fun x => piece_codesT harg4 X4 14 x, fun x => piece_codesT harg4 X4 13 x, fun x => piece_codesT harg4 X4 12 x, fun x => piece_codesT harg4 X4 11 x, fun x => piece_codesT harg4 X4 10 x, fun x => piece_codesT harg4 X4 9 x, fun x => piece_codesT harg4 X4 8 x, fun x => piece_codesT harg4 X4 7 x, fun x => piece_codesT harg4 X4 6 x, fun x => piece_codesT harg4 X4 5 x, fun x => piece_codesT harg4 X4 4 x, fun x => piece_codesT harg4 X4 3 x, fun x => piece_codesT harg4 X4 2 x, fun x => piece_codesT harg4 X4 1 x, fun x => piece_codesT harg4 X4 0 x, trivial⟩

end Cert.KernelIdeal.Gen
-- ==== Proof.KernelIdeal.Skel.lean ====
/- The loop body's parts as skeletons, stated without the named constant for the parts that do not use it. -/
module

public import proofs.«01_k».proof.Proof.Gen.KernelIdeal.Skeleton

@[expose] public section

namespace Cert.KernelIdeal

open Idealize.ShloMosaic

variable {F : FTy → Type} [FloatOps F]

theorem k0_part53_eq_skeleton : k0_part53 (F := F) = Gen.k0_part53_skel (F := F) := rfl
theorem k0_part55_eq_skeleton : k0_part55 (F := F) = Gen.k0_part55_skel (F := F) := rfl
theorem k0_part56_eq_skeleton : k0_part56 (F := F) = Gen.k0_part56_skel (F := F) := rfl
theorem k0_part57_eq_skeleton : k0_part57 (F := F) = Gen.k0_part57_skel (F := F) := rfl
theorem k0_part58_eq_skeleton : k0_part58 (F := F) = Gen.k0_part58_skel (F := F) := rfl
theorem k0_part59_eq_skeleton : k0_part59 (F := F) = Gen.k0_part59_skel (F := F) := rfl
theorem k0_part60_eq_skeleton : k0_part60 (F := F) = Gen.k0_part60_skel (F := F) := rfl
theorem k0_part61_eq_skeleton : k0_part61 (F := F) = Gen.k0_part61_skel (F := F) := rfl
theorem k0_part62_eq_skeleton : k0_part62 (F := F) = Gen.k0_part62_skel (F := F) := rfl
theorem k0_part63_eq_skeleton : k0_part63 (F := F) = Gen.k0_part63_skel (F := F) := rfl
theorem k0_part64_eq_skeleton : k0_part64 (F := F) = Gen.k0_part64_skel (F := F) := rfl
theorem k0_part65_eq_skeleton : k0_part65 (F := F) = Gen.k0_part65_skel (F := F) := rfl

end Cert.KernelIdeal
-- ==== Proof.KernelIdeal.Trip.lean ====
/- One trip of the attention loop. -/
module

public import proofs.«01_k».proof.Proof.KernelIdeal.Skel
public import proofs.«01_k».proof.Proof.Gen.KernelIdeal.Loops
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A buffer held at some contents is held at what it reads. -/
theorem owns_some (c : Dev nD) {s : Shape} {e : EltTy} (m : Memref sig .tc .vmem s e) (f : m.view.ty.Contents (Elt F)) :
    (m.view.loc (c : Thread nD τ) ↦[m.view.set]{fullShare} f : sProp 𝕄) ⊢ iprop(∃ d, owns (c : Thread nD τ) m fullShare d) := by
  unfold owns
  iintro H
  iexists (m.view.read (Elt F) f)
  iexists f
  isplitr
  · ipureintro; rfl
  iexact H

set_option maxHeartbeats 4000000 in
def trip (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (v910 : FVec F S16x128 .f32) (v911 : Vec F S1x1x16x128 .f32) (k : Fin k0_t1_loop.trips)
  (Q : Vec F S1x2048x128 .fp8e4m3) (QS : Vec F S1x1x16x128 .f32) (KC : Vec F S1x2048x128 .fp8e4m3) (VT : Vec F S128x2048 .fp8e4m3) :
  { P : List (View.Piece (Elt F) S1x2048x128 .bf16) // ∀ (Y : Vec F S1x2048x128 .bf16) (s : Vec F S2048x256 .f32) (c2 off w ps : Vec F S16x256 .f32) (E : Set ℕ) (K : Unit → sProp 𝕄),
     iprop(owns (c : Thread nD τ) arg5 fullShare Y ∗ owns (c : Thread nD τ) arg6 fullShare Q ∗ owns (c : Thread nD τ) arg7 fullShare QS ∗ owns (c : Thread nD τ) arg8 fullShare KC
       ∗ owns (c : Thread nD τ) arg12 fullShare VT ∗ owns (c : Thread nD τ) arg13 fullShare s ∗ owns (c : Thread nD τ) arg14 fullShare c2 ∗ owns (c : Thread nD τ) arg15 fullShare off
       ∗ owns (c : Thread nD τ) arg16 fullShare w ∗ owns (c : Thread nD τ) arg17 fullShare ps
       ∗ (iprop((arg5.view.loc (c : Thread nD τ) ↦[arg5.view.set]{fullShare} arg5.view.writes (Elt F) (harg5.unread Y) P) ∗ owns (c : Thread nD τ) arg6 fullShare Q ∗ owns (c : Thread nD τ) arg7 fullShare QS ∗ owns (c : Thread nD τ) arg8 fullShare KC
       ∗ owns (c : Thread nD τ) arg12 fullShare VT ∗ (∃ d, owns (c : Thread nD τ) arg13 fullShare d) ∗ (∃ d, owns (c : Thread nD τ) arg14 fullShare d) ∗ (∃ d, owns (c : Thread nD τ) arg15 fullShare d)
       ∗ (∃ d, owns (c : Thread nD τ) arg16 fullShare d) ∗ (∃ d, owns (c : Thread nD τ) arg17 fullShare d)) -∗ K ⟨⟩))
     ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v910 v911 k ()) K } := by
  refine ⟨?_, fun Y s c2 off w ps E K => ?run⟩
  case run =>
    unfold k0_t1_body
    unfold owns
    iintro ⟨⟨%f5, %hf5, H5⟩, ⟨%f6, %hf6, H6⟩, ⟨%f7, %hf7, H7⟩, ⟨%f8, %hf8, H8⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg5.eq_unread hf5; obtain rfl := harg6.eq_unread hf6; obtain rfl := harg7.eq_unread hf7; obtain rfl := harg8.eq_unread hf8
    obtain rfl := harg12.eq_unread hf12; obtain rfl := harg13.eq_unread hf13; obtain rfl := harg14.eq_unread hf14; obtain rfl := harg15.eq_unread hf15
    obtain rfl := harg16.eq_unread hf16; obtain rfl := harg17.eq_unread hf17
    sl_exec_parts
    sl_step
    iapply Hk
    isplitl [H5]
    · iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H12]
    · iexists _; isplitr; · ipureintro; exact harg12.read_unread _
      iexact H12
    isplitl [H13]
    · iapply (owns_some c arg13 _); iexact H13
    isplitl [H14]
    · iapply (owns_some c arg14 _); iexact H14
    isplitl [H15]
    · iapply (owns_some c arg15 _); iexact H15
    isplitl [H16]
    · iapply (owns_some c arg16 _); iexact H16
    iapply (owns_some c arg17 _); iexact H17

end Cert.KernelIdeal.Gen
-- ==== Proof.KernelIdeal.Chunk.lean ====
/- What one trip of the loop leaves: 256 rows of attention, as a function of what it reads. -/
module

public import proofs.«01_k».proof.Proof.KernelIdeal.Content
public import proofs.«01_k».proof.Proof.KernelIdeal.Trip
public import Idealize.ShloMosaic.Lib.Pipeline.ValueKit.Acc

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-! ## Windows of the scratch buffers -/

/-- The 128 keys from key `o` on of the scores. -/
def sAt (S : Vec F S2048x256 .f32) (o : ℕ) : Vec F S128x256 .f32 :=
  fun j => S (ix2 (⟨(o + (j 0).val) % 2048, Nat.mod_lt _ (by norm_num)⟩ : Fin 2048) (j 1))

/-- The 128 queries from query `o` on of the scores. -/
def halfAt (S : Vec F S2048x256 .f32) (o : ℕ) : Vec F S2048x128 .f32 :=
  fun j => S (ix2 (j 0) (⟨(o + (j 1).val) % 256, Nat.mod_lt _ (by norm_num)⟩ : Fin 256))

/-- Row `n` of a table with one row per key block. -/
def rowAt (C : Vec F S16x256 .f32) (n : ℕ) : Vec F S1x256 .f32 :=
  fun j => C (ix2 (⟨(n + (j 0).val) % 16, Nat.mod_lt _ (by norm_num)⟩ : Fin 16) (j 1))

/-- The 128 keys from key `o` on of the transposed value codes. -/
def vtAt (VT : Vec F S128x2048 .fp8e4m3) (o : ℕ) : Vec F S128x128 .fp8e4m3 :=
  fun j => VT (ix2 (j 0) (⟨(o + (j 1).val) % 2048, Nat.mod_lt _ (by norm_num)⟩ : Fin 2048))

/-- Two tables side by side. -/
def beside (a b : Vec F S16x128 .f32) : Vec F S16x256 .f32 :=
  fun y => if h : (y 1).val < 128 then a (ix2 (y 0) ⟨(y 1).val, h⟩)
    else b (ix2 (y 0) (⟨((y 1).val - 128) % 128, Nat.mod_lt _ (by norm_num)⟩ : Fin 128))

/-! ## The tables of one half (128 queries) -/

/-- The scores' factor per key block, times log₂ e. -/
abbrev halfC2 (ks : FVec F S16x128 .f32) (q : Vec F S1x1x1x128 .f32) : FVec F S16x128 .f32 := k0_pay219 (k0_pay212 ks q)
/-- The row maximum plus the exponent of the block's largest probability. -/
abbrev halfOff (ks : FVec F S16x128 .f32) (q : Vec F S1x1x1x128 .f32) (s : Vec F S2048x128 .f32) : FVec F S16x128 .f32 :=
  k0_pay220 (k0_pay214 ks q s) (k0_pay215 ks q s) k0_pay216
/-- The scale of the block's probabilities. -/
abbrev halfPs (ks : FVec F S16x128 .f32) (q : Vec F S1x1x1x128 .f32) (s : Vec F S2048x128 .f32) : FVec F S16x128 .f32 :=
  k0_pay221 (k0_pay215 ks q s) k0_pay216
/-- That scale times the value block's. -/
abbrev halfW (ks : FVec F S16x128 .f32) (vs : Vec F S1x1x16x128 .f32) (q : Vec F S1x1x1x128 .f32) (s : Vec F S2048x128 .f32) : FVec F S16x128 .f32 :=
  k0_pay223 (k0_pay222 (k0_pay1 vs) (k0_pay215 ks q s) k0_pay216)

/-! ## The sweep over the key blocks -/

section sweep

variable (S : Vec F S2048x256 .f32) (C2 Off Ps W : Vec F S16x256 .f32) (VT : Vec F S128x2048 .fp8e4m3)

/-- The probabilities of key block `n`, over the block's scale. -/
def probAt (n : ℕ) : FVec F S128x256 .f32 := k0_pay238 (sAt S (128 * n)) (rowAt C2 n) (rowAt Off n)

/-- The denominators after the first `n` key blocks. -/
def denAt : ℕ → FVec F S1x256 .f32
  | 0 => k0_pay237
  | n + 1 => k0_pay244 (denAt n) (sAt S (128 * n)) (rowAt C2 n) (rowAt Off n) (rowAt Ps n)

/-- The numerators after the first `n` key blocks. -/
def numAt : ℕ → FVec F S128x256 .f32
  | 0 => k0_pay236
  | n + 1 => k0_pay239 (numAt n) (probAt S C2 Off n) (vtAt VT (128 * n)) (rowAt W n)

/-- The 256 output rows. -/
def sweep : FVec F S1x256x128 .bf16 :=
  k0_pay2 (denAt S C2 Off Ps 15) (numAt S C2 Off W VT 15) (probAt S C2 Off 15) (rowAt Ps 15) (vtAt VT 1920) (rowAt W 15)

end sweep

/-- The 256 query codes of chunk `k`, and the scale row of its first and second half. -/
def qChunk (Q : Vec F S1x2048x128 .fp8e4m3) (k : Fin k0_t1_loop.trips) : Vec F S1x256x128 .fp8e4m3 :=
  fun j => Q ((Rect.unit (s := S1x2048x128) (k0_off1 k) S1x256x128.size (k0_off1_inb k)).emb j)
def qsRow0 (QS : Vec F S1x1x16x128 .f32) (k : Fin k0_t1_loop.trips) : Vec F S1x1x1x128 .f32 :=
  fun j => QS ((Rect.unit (s := S1x1x16x128) (k0_off2 k 0#32) S1x1x1x128.size (k0_off2_inb k 0)).emb j)
def qsRow1 (QS : Vec F S1x1x16x128 .f32) (k : Fin k0_t1_loop.trips) : Vec F S1x1x1x128 .f32 :=
  fun j => QS ((Rect.unit (s := S1x1x16x128) (k0_off2 k 1#32) S1x1x1x128.size (k0_off2_inb k 1)).emb j)

/-- 256 rows of attention: scores, the tables of both halves, the sweep. -/
def attend (ks : FVec F S16x128 .f32) (vs : Vec F S1x1x16x128 .f32) (KC : Vec F S1x2048x128 .fp8e4m3) (VT : Vec F S128x2048 .fp8e4m3)
    (qc : Vec F S1x256x128 .fp8e4m3) (q0 q1 : Vec F S1x1x1x128 .f32) : FVec F S1x256x128 .bf16 :=
  let S : Vec F S2048x256 .f32 := k0_pay211 KC qc
  sweep S (beside (halfC2 ks q0) (halfC2 ks q1)) (beside (halfOff ks q0 (halfAt S 0)) (halfOff ks q1 (halfAt S 128)))
    (beside (halfPs ks q0 (halfAt S 0)) (halfPs ks q1 (halfAt S 128)))
    (beside (halfW ks vs q0 (halfAt S 0)) (halfW ks vs q1 (halfAt S 128))) VT

/-! ## The loads of a trip read these windows -/

section reads

variable {m13 : Memref sig .tc .vmem S2048x256 .f32} {m : Memref sig .tc .vmem S16x256 .f32}

theorem rd_s (w : Vec F S2048x256 .f32) (o : ℕ) (inb inb') :
    m13.view.readCov [(⟨Rect.unit ![0, 0] (no_index S2048x256.size) inb, w⟩ : View.Piece (Elt F) S2048x256 .f32)]
      (Rect.unit (s := S2048x256) ![o, 0] (no_index S128x256.size) inb').toLoadRect = sAt w o := by
  have h0 : o + 128 ≤ 2048 := inb' 0
  rw [View.readCov_eq_canon', View.canon_cons_unit_lit inb w [] (by decide)]
  funext j
  have hj : (j 0).val < 128 := (j 0).isLt
  refine congrArg w (funext fun a => ?_)
  match a with
  | ⟨0, _⟩ => exact Fin.ext (by show o + 1 * (j 0).val = (o + (j 0).val) % 2048; omega)
  | ⟨1, _⟩ => exact Fin.ext (by show 0 + 1 * (j 1).val = (j 1).val; omega)

theorem rd_half (w : Vec F S2048x256 .f32) (o : ℕ) (inb inb') :
    m13.view.readCov [(⟨Rect.unit ![0, 0] (no_index S2048x256.size) inb, w⟩ : View.Piece (Elt F) S2048x256 .f32)]
      (Rect.unit (s := S2048x256) ![0, o] (no_index S2048x128.size) inb').toLoadRect = halfAt w o := by
  have h0 : o + 128 ≤ 256 := inb' 1
  rw [View.readCov_eq_canon', View.canon_cons_unit_lit inb w [] (by decide)]
  funext j
  have hj : (j 1).val < 128 := (j 1).isLt
  refine congrArg w (funext fun a => ?_)
  match a with
  | ⟨0, _⟩ => exact Fin.ext (by show 0 + 1 * (j 0).val = (j 0).val; omega)
  | ⟨1, _⟩ => exact Fin.ext (by show o + 1 * (j 1).val = (o + (j 1).val) % 256; omega)

theorem canon_beside (a b : Vec F S16x128 .f32) (inb0 inb1) :
    View.canon [(⟨Rect.unit ![0, 128] S16x128.size inb1, b⟩ : View.Piece (Elt F) S16x256 .f32), ⟨Rect.unit ![0, 0] S16x128.size inb0, a⟩]
      = beside a b := by
  funext y
  have hc := View.cover_of_tiledL [(⟨Rect.unit ![0, 128] S16x128.size inb1, b⟩ : View.Piece (Elt F) S16x256 .f32), ⟨Rect.unit ![0, 0] S16x128.size inb0, a⟩]
    S16x128.size (by sl_kernel_rfl) y
  refine View.canon_append_of_piecesOf (beside a b) [] [(⟨Rect.unit ![0, 128] S16x128.size inb1, b⟩ : View.Piece (Elt F) S16x256 .f32), ⟨Rect.unit ![0, 0] S16x128.size inb0, a⟩] ?_ y hc
  refine ⟨fun x => ?_, fun x => ?_, trivial⟩
  · have hx : (x 1).val < 128 := (x 1).isLt
    have e : ¬ ((Rect.unit (s := S16x256) ![0, 128] S16x128.size inb1).emb x 1).val < 128 := by
      show ¬ 128 + 1 * (x 1).val < 128; omega
    unfold beside
    rw [dif_neg e]
    refine congrArg b (funext fun a => ?_)
    match a with
    | ⟨0, _⟩ => exact Fin.ext (by show (x 0).val = 0 + 1 * (x 0).val; omega)
    | ⟨1, _⟩ => exact Fin.ext (by show (x 1).val = (128 + 1 * (x 1).val - 128) % 128; omega)
  · have hx : (x 1).val < 128 := (x 1).isLt
    have e : ((Rect.unit (s := S16x256) ![0, 0] S16x128.size inb0).emb x 1).val < 128 := by
      show 0 + 1 * (x 1).val < 128; omega
    unfold beside
    rw [dif_pos e]
    refine congrArg a (funext fun a => ?_)
    match a with
    | ⟨0, _⟩ => exact Fin.ext (by show (x 0).val = 0 + 1 * (x 0).val; omega)
    | ⟨1, _⟩ => exact Fin.ext (by show (x 1).val = 0 + 1 * (x 1).val; omega)

theorem rd_row (a b : Vec F S16x128 .f32) (n : ℕ) (inb0 inb1 inb') :
    m.view.readCov [(⟨Rect.unit ![0, 128] (no_index S16x128.size) inb1, b⟩ : View.Piece (Elt F) S16x256 .f32), ⟨Rect.unit ![0, 0] (no_index S16x128.size) inb0, a⟩]
      (Rect.unit (s := S16x256) ![n, 0] (no_index S1x256.size) inb').toLoadRect = rowAt (beside a b) n := by
  have h0 : n + 1 ≤ 16 := inb' 0
  rw [View.readCov_eq_canon', canon_beside]
  funext j
  have hj : (j 0).val < 1 := (j 0).isLt
  refine congrArg (beside a b) (funext fun a => ?_)
  match a with
  | ⟨0, _⟩ => exact Fin.ext (by show n + 1 * (j 0).val = (n + (j 0).val) % 16; omega)
  | ⟨1, _⟩ => exact Fin.ext (by show 0 + 1 * (j 1).val = (j 1).val; omega)

theorem rd_vt {m12 : Memref sig .tc .vmem S128x2048 .fp8e4m3} (h : m12.IsWhole) (VT : Vec F S128x2048 .fp8e4m3) (o : ℕ) (inb') :
    View.readAt (Elt F) m12.view (Rect.unit (s := S128x2048) ![0, o] (no_index S128x128.size) inb').toLoadRect (h.unread VT) = vtAt VT o := by
  have h0 : o + 128 ≤ 2048 := inb' 1
  funext j
  rw [h.readAt_unread]
  have hj : (j 1).val < 128 := (j 1).isLt
  refine congrArg VT (funext fun a => ?_)
  match a with
  | ⟨0, _⟩ => exact Fin.ext (by show 0 + 1 * (j 0).val = (j 0).val; omega)
  | ⟨1, _⟩ => exact Fin.ext (by show o + 1 * (j 1).val = (o + (j 1).val) % 2048; omega)

theorem rd_whole3 {m8 : Memref sig .tc .vmem S1x2048x128 .fp8e4m3} (h : m8.IsWhole) (X : Vec F S1x2048x128 .fp8e4m3) (inb') :
    View.readAt (Elt F) m8.view (Rect.unit ![0, 0, 0] (no_index S1x2048x128.size) inb').toLoadRect (h.unread X) = X := by
  funext j
  rw [h.readAt_unread]
  refine congrArg X (funext fun a => ?_)
  match a with
  | ⟨0, _⟩ => exact Fin.ext (by show 0 + 1 * (j 0).val = (j 0).val; omega)
  | ⟨1, _⟩ => exact Fin.ext (by show 0 + 1 * (j 1).val = (j 1).val; omega)
  | ⟨2, _⟩ => exact Fin.ext (by show 0 + 1 * (j 2).val = (j 2).val; omega)

theorem rd_chunk {m6 : Memref sig .tc .vmem S1x2048x128 .fp8e4m3} (h : m6.IsWhole) (Q : Vec F S1x2048x128 .fp8e4m3) (k : Fin k0_t1_loop.trips) (inb') :
    View.readAt (Elt F) m6.view (Rect.unit (s := S1x2048x128) (k0_off1 k) (no_index S1x256x128.size) inb').toLoadRect (h.unread Q) = qChunk Q k := by
  funext j
  rw [h.readAt_unread]; rfl

theorem rd_qs0 {m7 : Memref sig .tc .vmem S1x1x16x128 .f32} (h : m7.IsWhole) (QS : Vec F S1x1x16x128 .f32) (k : Fin k0_t1_loop.trips) (inb') :
    View.readAt (Elt F) m7.view (Rect.unit (s := S1x1x16x128) (k0_off2 k 0#32) (no_index S1x1x1x128.size) inb').toLoadRect (h.unread QS) = qsRow0 QS k := by
  funext j
  rw [h.readAt_unread]; rfl

theorem rd_qs1 {m7 : Memref sig .tc .vmem S1x1x16x128 .f32} (h : m7.IsWhole) (QS : Vec F S1x1x16x128 .f32) (k : Fin k0_t1_loop.trips) (inb') :
    View.readAt (Elt F) m7.view (Rect.unit (s := S1x1x16x128) (k0_off2 k 1#32) (no_index S1x1x1x128.size) inb').toLoadRect (h.unread QS) = qsRow1 QS k := by
  funext j
  rw [h.readAt_unread]; rfl

end reads

/-! ## The second half's tables are the first half's, at its own queries -/

section halves

variable (ks : FVec F S16x128 .f32) (vs : Vec F S1x1x16x128 .f32) (q : Vec F S1x1x1x128 .f32) (s : Vec F S2048x128 .f32)

theorem half1_c2 : k0_pay232 (k0_pay224 ks q) = halfC2 ks q := rfl
theorem half1_off : k0_pay233 (k0_pay226 ks q s) (k0_pay227 ks q s) (k0_pay228 ks q s) k0_pay229 = halfOff ks q s := rfl
theorem half1_ps : k0_pay234 (k0_pay227 ks q s) (k0_pay228 ks q s) k0_pay229 = halfPs ks q s := rfl
theorem half1_w : k0_pay235 (k0_pay1 vs) (k0_pay227 ks q s) (k0_pay228 ks q s) k0_pay229 = halfW ks vs q s := rfl

end halves

/-- The one piece a trip stores. -/
theorem trip_piece (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
    (v910 : FVec F S16x128 .f32) (v911 : Vec F S1x1x16x128 .f32) (k : Fin k0_t1_loop.trips)
    (Q : Vec F S1x2048x128 .fp8e4m3) (QS : Vec F S1x1x16x128 .f32) (KC : Vec F S1x2048x128 .fp8e4m3) (VT : Vec F S128x2048 .fp8e4m3) :
    (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v910 v911 k Q QS KC VT).1
      = [⟨Rect.unit (s := S1x2048x128) (k0_off1 k) S1x256x128.size (k0_off1_inb k),
          attend v910 v911 KC VT (qChunk Q k) (qsRow0 QS k) (qsRow1 QS k)⟩] := by
  unfold trip
  frame_open
  simp only [rd_s, rd_half, rd_row, rd_vt, rd_whole3, rd_chunk, rd_qs0, rd_qs1, half1_c2, half1_off, half1_ps, half1_w]
  unfold attend
  dsimp only
  generalize beside (halfW v910 v911 (qsRow0 QS k) _) _ = W
  generalize beside (halfPs v910 (qsRow0 QS k) _) _ = Ps
  generalize beside (halfOff v910 (qsRow0 QS k) _) _ = Off
  generalize beside (halfC2 v910 (qsRow0 QS k)) _ = C2
  generalize k0_pay211 KC (qChunk Q k) = S
  rfl

end Cert.KernelIdeal.Gen
-- ==== Proof.KernelIdeal.Loop.lean ====
/- The loop: eight trips of 256 rows fill the output block. -/
module

public import proofs.«01_k».proof.Proof.KernelIdeal.Chunk

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

theorem trips_eq : k0_t1_loop.trips = 8 := by decide

/-- The chunk a row lies in, and its row in that chunk. -/
def chunkOf (r : Fin 2048) : Fin k0_t1_loop.trips := ⟨r.val / 256, by rw [trips_eq]; omega⟩
def inChunk (r : Fin 2048) : Fin 256 := ⟨r.val % 256, by omega⟩

/-- The output block. -/
def yOut (ks : FVec F S16x128 .f32) (vs : Vec F S1x1x16x128 .f32) (KC : Vec F S1x2048x128 .fp8e4m3) (VT : Vec F S128x2048 .fp8e4m3)
    (Q : Vec F S1x2048x128 .fp8e4m3) (QS : Vec F S1x1x16x128 .f32) : Vec F S1x2048x128 .bf16 :=
  fun y => attend ks vs KC VT (qChunk Q (chunkOf (y 1))) (qsRow0 QS (chunkOf (y 1))) (qsRow1 QS (chunkOf (y 1))) (ix3 0 (inChunk (y 1)) (y 2))

/-- The output block after the first `n` trips. -/
def yUpto (Y G : Vec F S1x2048x128 .bf16) (n : ℕ) : Vec F S1x2048x128 .bf16 := fun y => if (y 1).val < 256 * n then G y else Y y

theorem yUpto_zero (Y G : Vec F S1x2048x128 .bf16) : yUpto Y G 0 = Y := by
  funext y; unfold yUpto; rw [if_neg (by omega)]

theorem yUpto_end (Y G : Vec F S1x2048x128 .bf16) : yUpto Y G k0_t1_loop.trips = G := by
  funext y
  have h : (y 1).val < 2048 := (y 1).isLt
  unfold yUpto; rw [if_pos (by rw [trips_eq]; omega)]

/-- A trip writes its chunk over what was there. -/
theorem write_chunk (m : Memref sig .tc .vmem S1x2048x128 .bf16) (hm : m.IsWhole) (Y : Vec F S1x2048x128 .bf16)
    (ks : FVec F S16x128 .f32) (vs : Vec F S1x1x16x128 .f32) (KC : Vec F S1x2048x128 .fp8e4m3) (VT : Vec F S128x2048 .fp8e4m3)
    (Q : Vec F S1x2048x128 .fp8e4m3) (QS : Vec F S1x1x16x128 .f32) (k : Fin k0_t1_loop.trips) :
    m.view.read (Elt F) (m.view.writes (Elt F) (hm.unread (yUpto Y (yOut ks vs KC VT Q QS) k.val))
      [⟨Rect.unit (s := S1x2048x128) (k0_off1 k) S1x256x128.size (k0_off1_inb k), attend ks vs KC VT (qChunk Q k) (qsRow0 QS k) (qsRow1 QS k)⟩])
      = yUpto Y (yOut ks vs KC VT Q QS) (k.val + 1) := by
  funext y
  have hk : k.val < 8 := lt_of_lt_of_eq k.isLt trips_eq
  have hy0 : (y 0).val < 1 := (y 0).isLt
  have hy : (y 1).val < 2048 := (y 1).isLt
  have hoff := k0_off1_eq k
  by_cases h : (y 1).val < 256 * k.val
  · rw [View.read_writes_cons_miss_of_axis (a := 1) (o := 256 * k.val) (n := 256) (ho := by show k0_off1 k 1 = _; rw [hoff]; rfl) (hst := rfl) (hn := rfl) (h := Or.inl h)]
    show m.view.read (Elt F) (hm.unread _) y = _
    rw [hm.read_unread]
    unfold yUpto
    rw [if_pos h, if_pos (by omega)]
  by_cases h' : (y 1).val < 256 * (k.val + 1)
  · rw [View.read_writes_cons_hit_of_coords (x := (ix3 0 (inChunk (y 1)) (y 2) : (Shape.mk 3 ![1, 256, 128]).Idx)) (hx := ?_)]
    · unfold yUpto
      rw [if_pos h']
      have e : chunkOf (y 1) = k := Fin.ext (by show (y 1).val / 256 = k.val; omega)
      unfold yOut
      rw [e]
    · intro a
      match a with
      | ⟨0, _⟩ =>
        show (y 0).val = k0_off1 k 0 + 1 * 0
        rw [show k0_off1 k 0 = 0 from congrFun hoff 0]; omega
      | ⟨1, _⟩ =>
        show (y 1).val = k0_off1 k 1 + 1 * ((y 1).val % 256)
        rw [show k0_off1 k 1 = 256 * k.val from congrFun hoff 1]; omega
      | ⟨2, _⟩ =>
        show (y 2).val = k0_off1 k 2 + 1 * (y 2).val
        rw [show k0_off1 k 2 = 0 from congrFun hoff 2]; omega
  · rw [View.read_writes_cons_miss_of_axis (a := 1) (o := 256 * k.val) (n := 256) (ho := by show k0_off1 k 1 = _; rw [hoff]; rfl) (hst := rfl) (hn := rfl) (h := Or.inr (by omega))]
    show m.view.read (Elt F) (hm.unread _) y = _
    rw [hm.read_unread]
    unfold yUpto
    rw [if_neg h, if_neg h']

/-- The whole loop. -/
theorem loop_triple (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
    (ks : FVec F S16x128 .f32) (vs : Vec F S1x1x16x128 .f32)
    (Q : Vec F S1x2048x128 .fp8e4m3) (QS : Vec F S1x1x16x128 .f32) (KC : Vec F S1x2048x128 .fp8e4m3) (VT : Vec F S128x2048 .fp8e4m3)
    (Y : Vec F S1x2048x128 .bf16) (E : Set ℕ) (K : Unit → sProp 𝕄) :
    iprop(owns (c : Thread nD τ) arg5 fullShare Y ∗ owns (c : Thread nD τ) arg6 fullShare Q ∗ owns (c : Thread nD τ) arg7 fullShare QS ∗ owns (c : Thread nD τ) arg8 fullShare KC
       ∗ owns (c : Thread nD τ) arg12 fullShare VT ∗ (∃ d, owns (c : Thread nD τ) arg13 fullShare d) ∗ (∃ d, owns (c : Thread nD τ) arg14 fullShare d) ∗ (∃ d, owns (c : Thread nD τ) arg15 fullShare d)
       ∗ (∃ d, owns (c : Thread nD τ) arg16 fullShare d) ∗ (∃ d, owns (c : Thread nD τ) arg17 fullShare d)
       ∗ (iprop(owns (c : Thread nD τ) arg5 fullShare (yOut ks vs KC VT Q QS) ∗ owns (c : Thread nD τ) arg6 fullShare Q ∗ owns (c : Thread nD τ) arg7 fullShare QS ∗ owns (c : Thread nD τ) arg8 fullShare KC
       ∗ owns (c : Thread nD τ) arg12 fullShare VT ∗ (∃ d, owns (c : Thread nD τ) arg13 fullShare d) ∗ (∃ d, owns (c : Thread nD τ) arg14 fullShare d) ∗ (∃ d, owns (c : Thread nD τ) arg15 fullShare d)
       ∗ (∃ d, owns (c : Thread nD τ) arg16 fullShare d) ∗ (∃ d, owns (c : Thread nD τ) arg17 fullShare d)) -∗ K ⟨⟩))
     ⊢ wp frame (wpE (defs₀ (F := F)) Variants.none c none) E
        (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ks vs)) K := by
  have hI : ∀ (k : Fin k0_t1_loop.trips) (acc : Unit),
      (iprop(owns (c : Thread nD τ) arg5 fullShare (yUpto Y (yOut ks vs KC VT Q QS) k.val) ∗ owns (c : Thread nD τ) arg6 fullShare Q ∗ owns (c : Thread nD τ) arg7 fullShare QS ∗ owns (c : Thread nD τ) arg8 fullShare KC
       ∗ owns (c : Thread nD τ) arg12 fullShare VT ∗ (∃ d, owns (c : Thread nD τ) arg13 fullShare d) ∗ (∃ d, owns (c : Thread nD τ) arg14 fullShare d) ∗ (∃ d, owns (c : Thread nD τ) arg15 fullShare d)
       ∗ (∃ d, owns (c : Thread nD τ) arg16 fullShare d) ∗ (∃ d, owns (c : Thread nD τ) arg17 fullShare d)) : sProp 𝕄)
      ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ks vs k acc)
        (fun _ => iprop(owns (c : Thread nD τ) arg5 fullShare (yUpto Y (yOut ks vs KC VT Q QS) (k.val + 1)) ∗ owns (c : Thread nD τ) arg6 fullShare Q ∗ owns (c : Thread nD τ) arg7 fullShare QS ∗ owns (c : Thread nD τ) arg8 fullShare KC
       ∗ owns (c : Thread nD τ) arg12 fullShare VT ∗ (∃ d, owns (c : Thread nD τ) arg13 fullShare d) ∗ (∃ d, owns (c : Thread nD τ) arg14 fullShare d) ∗ (∃ d, owns (c : Thread nD τ) arg15 fullShare d)
       ∗ (∃ d, owns (c : Thread nD τ) arg16 fullShare d) ∗ (∃ d, owns (c : Thread nD τ) arg17 fullShare d))) := by
    intro k acc
    iintro ⟨H5, H6, H7, H8, H12, ⟨%s, H13⟩, ⟨%c2, H14⟩, ⟨%off, H15⟩, ⟨%w, H16⟩, ⟨%ps, H17⟩⟩
    iapply ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ks vs k Q QS KC VT).2 (yUpto Y (yOut ks vs KC VT Q QS) k.val) s c2 off w ps E _)
    isplitl [H5]
    · iexact H5
    isplitl [H6]
    · iexact H6
    isplitl [H7]
    · iexact H7
    isplitl [H8]
    · iexact H8
    isplitl [H12]
    · iexact H12
    isplitl [H13]
    · iexact H13
    isplitl [H14]
    · iexact H14
    isplitl [H15]
    · iexact H15
    isplitl [H16]
    · iexact H16
    isplitl [H17]
    · iexact H17
    iintro ⟨H5, Hr⟩
    isplitl [H5]
    · rw [trip_piece]
      unfold owns
      iexists _
      isplitr
      · ipureintro; exact write_chunk arg5 harg5 Y ks vs KC VT Q QS k
      iexact H5
    iexact Hr
  iintro ⟨H5, H6, H7, H8, H12, H13, H14, H15, H16, H17, Hk⟩
  iapply (Scf.wp_for frame (wpE (defs₀ (F := F)) Variants.none c none) E _ _ _ k0_t1_ok (⟨⟩ : Unit) (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ks vs)
    (fun n _ => iprop(owns (c : Thread nD τ) arg5 fullShare (yUpto Y (yOut ks vs KC VT Q QS) n) ∗ owns (c : Thread nD τ) arg6 fullShare Q ∗ owns (c : Thread nD τ) arg7 fullShare QS ∗ owns (c : Thread nD τ) arg8 fullShare KC
       ∗ owns (c : Thread nD τ) arg12 fullShare VT ∗ (∃ d, owns (c : Thread nD τ) arg13 fullShare d) ∗ (∃ d, owns (c : Thread nD τ) arg14 fullShare d) ∗ (∃ d, owns (c : Thread nD τ) arg15 fullShare d)
       ∗ (∃ d, owns (c : Thread nD τ) arg16 fullShare d) ∗ (∃ d, owns (c : Thread nD τ) arg17 fullShare d))) hI)
  isplitr [Hk]
  · rw [yUpto_zero]
    isplitl [H5]
    · iexact H5
    isplitl [H6]
    · iexact H6
    isplitl [H7]
    · iexact H7
    isplitl [H8]
    · iexact H8
    isplitl [H12]
    · iexact H12
    isplitl [H13]
    · iexact H13
    isplitl [H14]
    · iexact H14
    isplitl [H15]
    · iexact H15
    isplitl [H16]
    · iexact H16
    iexact H17
  iintro %acc H
  have e : yUpto Y (yOut ks vs KC VT Q QS) (Scf.trips k0_t1_loop.lb k0_t1_loop.ub k0_t1_loop.st) = yOut ks vs KC VT Q QS :=
    yUpto_end Y (yOut ks vs KC VT Q QS)
  rw [e]
  iapply Hk
  iexact H

end Cert.KernelIdeal.Gen
-- ==== Proof.KernelIdeal.Body.lean ====
/- The kernel body at one grid point: what every buffer it writes holds afterwards. -/
module

public import proofs.«01_k».proof.Proof.KernelIdeal.ReadX
public import proofs.«01_k».proof.Proof.KernelIdeal.Loop

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem full4 (X : Vec F S1x1x16x128 .f32) (j : S1x1x16x128.Idx) :
    X ((Rect.unit (s := S1x1x16x128) ![0, 0, 0, 0] S1x1x16x128.size inb_S1x1x16x128_S1x1x16x128_0_0_0_0).emb j) = X j := by
  congr 1
  funext a; apply Fin.ext
  rw [Rect.emb_apply]
  fin_cases a <;> simp [Rect.unit]

/-- What the query quantisation passes to the loop: the group's key scales and value scales, as loaded. -/
theorem runX_result (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (X2 : Vec F S1x2048x128 .bf16) (X9 X11 : Vec F S1x1x16x128 .f32) :
    (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X9 X11).1 = (k0_pay370 X9, X11) := by
  show (k0_pay370 (arg9.view.readAt (Elt F) (Rect.unit (s := S1x1x16x128) ![0, 0, 0, 0] S1x1x16x128.size inb_S1x1x16x128_S1x1x16x128_0_0_0_0) (harg9.unread X9)),
     arg11.view.readAt (Elt F) (Rect.unit (s := S1x1x16x128) ![0, 0, 0, 0] S1x1x16x128.size inb_S1x1x16x128_S1x1x16x128_0_0_0_0) (harg11.unread X11)) = _
  have e9 : arg9.view.readAt (Elt F) (Rect.unit (s := S1x1x16x128) ![0, 0, 0, 0] S1x1x16x128.size inb_S1x1x16x128_S1x1x16x128_0_0_0_0) (harg9.unread X9) = X9 :=
    funext fun j => (harg9.readAt_unread _ _ j).trans (full4 X9 j)
  have e11 : arg11.view.readAt (Elt F) (Rect.unit (s := S1x1x16x128) ![0, 0, 0, 0] S1x1x16x128.size inb_S1x1x16x128_S1x1x16x128_0_0_0_0) (harg11.unread X11) = X11 :=
    funext fun j => (harg11.readAt_unread _ _ j).trans (full4 X11 j)
  rw [e9, e11]

/-- The attention block of one query head: from the query block `X2` and its group's key and value blocks. -/
def yBlk (X2 X3 X4 : Vec F S1x2048x128 .bf16) : Vec F S1x2048x128 .bf16 :=
  yOut (k0_pay370 (qScales X3)) (qScales X4) (qCodes X3) (qCodesT X4) (qCodes X2) (qScales X2)

/-- The query quantisation and the loop, the group's key and value codes and scales being there. -/
theorem tail_triple (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
    (X2 X3 X4 : Vec F S1x2048x128 .bf16) (E : Set ℕ) (K : PUnit → sProp 𝕄) :
    iprop(owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare (qCodes X3) ∗ owns (c : Thread nD τ) arg9 fullShare (qScales X3) ∗ owns (c : Thread nD τ) arg10 fullShare (qCodes X4) ∗ owns (c : Thread nD τ) arg11 fullShare (qScales X4) ∗ owns (c : Thread nD τ) arg12 fullShare (qCodesT X4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
       ∗ (iprop(owns (c : Thread nD τ) arg2 fullShare X2 ∗ owns (c : Thread nD τ) arg3 fullShare X3 ∗ owns (c : Thread nD τ) arg4 fullShare X4 ∗ owns (c : Thread nD τ) arg5 fullShare (yBlk X2 X3 X4) ∗ owns (c : Thread nD τ) arg6 fullShare (qCodes X2) ∗ owns (c : Thread nD τ) arg7 fullShare (qScales X2) ∗ owns (c : Thread nD τ) arg8 fullShare (qCodes X3) ∗ owns (c : Thread nD τ) arg9 fullShare (qScales X3) ∗ owns (c : Thread nD τ) arg10 fullShare (qCodes X4) ∗ owns (c : Thread nD τ) arg11 fullShare (qScales X4) ∗ owns (c : Thread nD τ) arg12 fullShare (qCodesT X4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
     ⊢ wp frame (wpE (defs₀ (F := F)) Variants.none c none) E (quantX (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 >>= fun r => Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 r.1 r.2)) K := by
  iintro ⟨H2, H3, H4, ⟨%Y, H5⟩, ⟨%Z6, H6⟩, ⟨%Z7, H7⟩, H8, H9, H10, H11, H12, H13, H14, H15, H16, H17, Hk⟩
  rw [wp_bind]
  iapply ((runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 (qScales X3) (qScales X4)).2.2.2 Z6 Z7 E _)
  isplitl [H2]
  · iexact H2
  isplitl [H9]
  · iexact H9
  isplitl [H11]
  · iexact H11
  isplitl [H6]
  · iexact H6
  isplitl [H7]
  · iexact H7
  iintro ⟨H2, H9, H11, ⟨%f6, H6⟩, ⟨%f7, H7⟩⟩
  have ey : yOut (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 (qScales X3) (qScales X4)).1.1 (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 (qScales X3) (qScales X4)).1.2
      (qCodes X3) (qCodesT X4) (qCodes X2) (qScales X2) = yBlk X2 X3 X4 := by rw [runX_result]; rfl
  iapply (loop_triple (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 (qScales X3) (qScales X4)).1.1 (runX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 (qScales X3) (qScales X4)).1.2 (qCodes X2) (qScales X2) (qCodes X3) (qCodesT X4) Y E K)
  isplitl [H5]
  · iexact H5
  isplitl [H6]
  · unfold owns; iexists _; isplitr
    swap; · iexact H6
    ipureintro; exact read_codesX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 (qScales X3) (qScales X4) f6
  isplitl [H7]
  · unfold owns; iexists _; isplitr
    swap; · iexact H7
    ipureintro; exact read_scalesX (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 (qScales X3) (qScales X4) f7
  isplitl [H8]
  · iexact H8
  isplitl [H12]
  · iexact H12
  isplitl [H13]
  · iexact H13
  isplitl [H14]
  · iexact H14
  isplitl [H15]
  · iexact H15
  isplitl [H16]
  · iexact H16
  isplitl [H17]
  · iexact H17
  rw [ey]
  iintro ⟨H5, H6, H7, H8, H12, H13, H14, H15, H16, H17⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  iexact H17

/-- The body at a point that quantises the keys and values: whatever the group's buffers held. -/
theorem body_first (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (h : k0_cond1 i = 1#1)
    (X2 X3 X4 : Vec F S1x2048x128 .bf16) (E : Set ℕ) (K : PUnit → sProp 𝕄) :
    iprop(owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
       ∗ (iprop(owns (c : Thread nD τ) arg2 fullShare X2 ∗ owns (c : Thread nD τ) arg3 fullShare X3 ∗ owns (c : Thread nD τ) arg4 fullShare X4 ∗ owns (c : Thread nD τ) arg5 fullShare (yBlk X2 X3 X4) ∗ owns (c : Thread nD τ) arg6 fullShare (qCodes X2) ∗ owns (c : Thread nD τ) arg7 fullShare (qScales X2) ∗ owns (c : Thread nD τ) arg8 fullShare (qCodes X3) ∗ owns (c : Thread nD τ) arg9 fullShare (qScales X3) ∗ owns (c : Thread nD τ) arg10 fullShare (qCodes X4) ∗ owns (c : Thread nD τ) arg11 fullShare (qScales X4) ∗ owns (c : Thread nD τ) arg12 fullShare (qCodesT X4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
     ⊢ wp frame (wpE (defs₀ (F := F)) Variants.none c none) E (cc0_fp8_gqa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, ⟨%Z8, H8⟩, ⟨%Z9, H9⟩, ⟨%Z10, H10⟩, ⟨%Z11, H11⟩, ⟨%Z12, H12⟩, H13, H14, H15, H16, H17, Hk⟩
  rw [body_split, dif_pos h]
  iapply ((runKV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4).2.2.2.2.2 Z8 Z9 Z10 Z11 Z12 E _)
  isplitl [H3]
  · iexact H3
  isplitl [H4]
  · iexact H4
  isplitl [H8]
  · iexact H8
  isplitl [H9]
  · iexact H9
  isplitl [H10]
  · iexact H10
  isplitl [H11]
  · iexact H11
  isplitl [H12]
  · iexact H12
  iintro ⟨H3, H4, ⟨%f8, H8⟩, ⟨%f9, H9⟩, ⟨%f10, H10⟩, ⟨%f11, H11⟩, ⟨%f12, H12⟩⟩
  rw [← wp_bind]
  iapply (tail_triple (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 E K)
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns; iexists _; isplitr
    swap; · iexact H8
    ipureintro; exact read_codesK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 f8
  isplitl [H9]
  · unfold owns; iexists _; isplitr
    swap; · iexact H9
    ipureintro; exact read_scalesK (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 f9
  isplitl [H10]
  · unfold owns; iexists _; isplitr
    swap; · iexact H10
    ipureintro; exact read_codesV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 f10
  isplitl [H11]
  · unfold owns; iexists _; isplitr
    swap; · iexact H11
    ipureintro; exact read_scalesV (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 f11
  isplitl [H12]
  · unfold owns; iexists _; isplitr
    swap; · iexact H12
    ipureintro; exact read_codesVT (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 f12
  isplitl [H13]
  · iexact H13
  isplitl [H14]
  · iexact H14
  isplitl [H15]
  · iexact H15
  isplitl [H16]
  · iexact H16
  isplitl [H17]
  · iexact H17
  iexact Hk

/-- The body at a later point of the group: the group's codes and scales are used as they stand. -/
theorem body_later (c : Dev nD) (i : grid0.Coords) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x1x16x128 .f32) (harg7 : arg7.IsWhole)
  (arg8 : Memref sig .tc .vmem S1x2048x128 .fp8e4m3) (harg8 : arg8.IsWhole)
  (arg9 : Memref sig .tc .vmem S1x1x16x128 .f32) (harg9 : arg9.IsWhole)
  (arg10 : Memref sig .tc .vmem S1x2048x128 .fp8e4m3) (harg10 : arg10.IsWhole)
  (arg11 : Memref sig .tc .vmem S1x1x16x128 .f32) (harg11 : arg11.IsWhole)
  (arg12 : Memref sig .tc .vmem S128x2048 .fp8e4m3) (harg12 : arg12.IsWhole)
  (arg13 : Memref sig .tc .vmem S2048x256 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole) (h : ¬ k0_cond1 i = 1#1)
    (X2 X3 X4 : Vec F S1x2048x128 .bf16) (E : Set ℕ) (K : PUnit → sProp 𝕄) :
    iprop(owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare (qCodes X3) ∗ owns (c : Thread nD τ) arg9 fullShare (qScales X3) ∗ owns (c : Thread nD τ) arg10 fullShare (qCodes X4) ∗ owns (c : Thread nD τ) arg11 fullShare (qScales X4) ∗ owns (c : Thread nD τ) arg12 fullShare (qCodesT X4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
       ∗ (iprop(owns (c : Thread nD τ) arg2 fullShare X2 ∗ owns (c : Thread nD τ) arg3 fullShare X3 ∗ owns (c : Thread nD τ) arg4 fullShare X4 ∗ owns (c : Thread nD τ) arg5 fullShare (yBlk X2 X3 X4) ∗ owns (c : Thread nD τ) arg6 fullShare (qCodes X2) ∗ owns (c : Thread nD τ) arg7 fullShare (qScales X2) ∗ owns (c : Thread nD τ) arg8 fullShare (qCodes X3) ∗ owns (c : Thread nD τ) arg9 fullShare (qScales X3) ∗ owns (c : Thread nD τ) arg10 fullShare (qCodes X4) ∗ owns (c : Thread nD τ) arg11 fullShare (qScales X4) ∗ owns (c : Thread nD τ) arg12 fullShare (qCodesT X4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
     ⊢ wp frame (wpE (defs₀ (F := F)) Variants.none c none) E (cc0_fp8_gqa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [body_split, dif_neg h, ← wp_bind, ← wp_bind, pure_bind]
  exact tail_triple (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 E K

end Cert.KernelIdeal.Gen
-- ==== Proof.KernelIdeal.Run.lean ====
/- The whole run: what every array holds at the end, and that the arguments end as they were. -/
module

public import proofs.«01_k».proof.Proof.KernelIdeal.Body
public import proofs.«01_k».proof.Proof.Gen.KernelIdeal.Frame
public import Idealize.ShloMosaic.Lib.Pipeline.TableIdle
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points: the keys and values are quantised at the first of every four -/

theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

theorem index_kept1 : ∀ t : Fin cfg0.N, t.val % 4 ≠ 0 → (cfg0.win 1).index t = (cfg0.win 1).index ⟨t.val - 1, Nat.lt_of_le_of_lt (Nat.sub_le _ _) t.isLt⟩ :=
  (by decide +kernel : ∀ t : Fin grid0.N, t.val % 4 ≠ 0 → win0_1.index t = win0_1.index ⟨t.val - 1, Nat.lt_of_le_of_lt (Nat.sub_le _ _) t.isLt⟩)
theorem index_kept2 : ∀ t : Fin cfg0.N, t.val % 4 ≠ 0 → (cfg0.win 2).index t = (cfg0.win 2).index ⟨t.val - 1, Nat.lt_of_le_of_lt (Nat.sub_le _ _) t.isLt⟩ :=
  (by decide +kernel : ∀ t : Fin grid0.N, t.val % 4 ≠ 0 → win0_2.index t = win0_2.index ⟨t.val - 1, Nat.lt_of_le_of_lt (Nat.sub_le _ _) t.isLt⟩)

theorem idle_iff6 (t : Fin cfg0.N) : cfg0.idle 6 (grid0.coords t) = true ↔ t.val % 4 ≠ 0 := by
  show (!(k0_cond1 (grid0.coords t) == 1#1)) = true ↔ _
  rw [Bool.not_eq_true', beq_eq_false_iff_ne, ne_eq, first_iff]
theorem fresh6 (n : ℕ) (hn : n ≤ cfg0.N) : cfg0.fresh 6 n = decide (n % 4 = 0) :=
  cfg0.fresh_tab 6 (fun n => decide (n % 4 = 0)) rfl (fun t => by
    have hf := flush0_6 t
    have hi := idle_iff6 t
    cases h : (cfg0.win 6).flush t <;> cases h' : cfg0.idle 6 (cfg0.grid.coords t) <;>
      rw [h] at hf <;> rw [show cfg0.idle 6 (grid0.coords t) = _ from h'] at hi <;> simp at hf hi ⊢ <;> omega) n hn
theorem idle_iff7 (t : Fin cfg0.N) : cfg0.idle 7 (grid0.coords t) = true ↔ t.val % 4 ≠ 0 := by
  show (!(k0_cond1 (grid0.coords t) == 1#1)) = true ↔ _
  rw [Bool.not_eq_true', beq_eq_false_iff_ne, ne_eq, first_iff]
theorem fresh7 (n : ℕ) (hn : n ≤ cfg0.N) : cfg0.fresh 7 n = decide (n % 4 = 0) :=
  cfg0.fresh_tab 7 (fun n => decide (n % 4 = 0)) rfl (fun t => by
    have hf := flush0_7 t
    have hi := idle_iff7 t
    cases h : (cfg0.win 7).flush t <;> cases h' : cfg0.idle 7 (cfg0.grid.coords t) <;>
      rw [h] at hf <;> rw [show cfg0.idle 7 (grid0.coords t) = _ from h'] at hi <;> simp at hf hi ⊢ <;> omega) n hn
theorem idle_iff8 (t : Fin cfg0.N) : cfg0.idle 8 (grid0.coords t) = true ↔ t.val % 4 ≠ 0 := by
  show (!(k0_cond1 (grid0.coords t) == 1#1)) = true ↔ _
  rw [Bool.not_eq_true', beq_eq_false_iff_ne, ne_eq, first_iff]
theorem fresh8 (n : ℕ) (hn : n ≤ cfg0.N) : cfg0.fresh 8 n = decide (n % 4 = 0) :=
  cfg0.fresh_tab 8 (fun n => decide (n % 4 = 0)) rfl (fun t => by
    have hf := flush0_8 t
    have hi := idle_iff8 t
    cases h : (cfg0.win 8).flush t <;> cases h' : cfg0.idle 8 (cfg0.grid.coords t) <;>
      rw [h] at hf <;> rw [show cfg0.idle 8 (grid0.coords t) = _ from h'] at hi <;> simp at hf hi ⊢ <;> omega) n hn
theorem idle_iff9 (t : Fin cfg0.N) : cfg0.idle 9 (grid0.coords t) = true ↔ t.val % 4 ≠ 0 := by
  show (!(k0_cond1 (grid0.coords t) == 1#1)) = true ↔ _
  rw [Bool.not_eq_true', beq_eq_false_iff_ne, ne_eq, first_iff]
theorem fresh9 (n : ℕ) (hn : n ≤ cfg0.N) : cfg0.fresh 9 n = decide (n % 4 = 0) :=
  cfg0.fresh_tab 9 (fun n => decide (n % 4 = 0)) rfl (fun t => by
    have hf := flush0_9 t
    have hi := idle_iff9 t
    cases h : (cfg0.win 9).flush t <;> cases h' : cfg0.idle 9 (cfg0.grid.coords t) <;>
      rw [h] at hf <;> rw [show cfg0.idle 9 (grid0.coords t) = _ from h'] at hi <;> simp at hf hi ⊢ <;> omega) n hn

/-! ## The staging and scratch memrefs -/

abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x16x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x16x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x16x128 .f32 := win0_9.stage (cfg0.slots t 9)
abbrev hs0_9 (t : Fin cfg0.N) : (ms0_9 t).IsWhole := hstage0_9 ((cfg0.slots t 9).cast nbuf0_9)
abbrev scM0_0 : Memref sig .tc .vmem S128x2048 .fp8e4m3 := Memref.whole cc0_scratch0
abbrev scM0_1 : Memref sig .tc .vmem S2048x256 .f32 := Memref.whole cc0_scratch1
abbrev scM0_2 : Memref sig .tc .vmem S16x256 .f32 := Memref.whole cc0_scratch2
abbrev scM0_3 : Memref sig .tc .vmem S16x256 .f32 := Memref.whole cc0_scratch3
abbrev scM0_4 : Memref sig .tc .vmem S16x256 .f32 := Memref.whole cc0_scratch4
abbrev scM0_5 : Memref sig .tc .vmem S16x256 .f32 := Memref.whole cc0_scratch5

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- Between the points of one group the transposed value codes stand in their scratch; the rest of the scratch is free. -/
def PhiG (c : Dev nD) (VT : Vec F S128x2048 .fp8e4m3) : sProp 𝕄 :=
  iprop(iprop(owns (c : Thread nD τ) scM0_0 fullShare VT ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiG_out (c : Dev nD) (VT : Vec F S128x2048 .fp8e4m3) : PhiG c VT ⊢ (Pipeline.ΦA spec0 c : sProp 𝕄) := by
  rw [PhiA0_eq]; unfold PhiG
  iintro ⟨⟨H0, H⟩, Hg⟩
  isplitl [H0 H]
  · isplitl [H0]
    · iexists _; iexact H0
    iexact H
  iexact Hg

/-- The region invariant before position `n`. -/
def PhiS (c : Dev nD) (n : ℕ) (hn : n ≤ cfg0.N) : sProp 𝕄 :=
  if h : n % 4 = 0 then Pipeline.ΦA spec0 c else PhiG c (qCodesT (iblk m c 2 ⟨n - 1, by omega⟩))

theorem PhiS_out (c : Dev nD) (n : ℕ) (hn : n ≤ cfg0.N) : PhiS m c n hn ⊢ (Pipeline.ΦA spec0 c : sProp 𝕄) := by
  unfold PhiS
  split
  · exact Idealize.SL.BI.Entails.refl _
  · exact PhiG_out c _

theorem PhiS_succ (c : Dev nD) (t : Fin cfg0.N) : PhiG c (qCodesT (iblk m c 2 t)) ⊢ PhiS m c (t.val + 1) t.isLt := by
  unfold PhiS
  split
  · exact PhiG_out c _
  · exact Idealize.SL.BI.Entails.refl _

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yBlk (iblk m c 0 t) (iblk m c 1 t) (iblk m c 2 t)
    | ⟨4, _⟩ => qCodes (iblk m c 0 t)
    | ⟨5, _⟩ => qScales (iblk m c 0 t)
    | ⟨6, _⟩ => qCodes (iblk m c 1 t)
    | ⟨7, _⟩ => qScales (iblk m c 1 t)
    | ⟨8, _⟩ => qCodes (iblk m c 2 t)
    | ⟨9, _⟩ => qScales (iblk m c 2 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yBlk (iblk m c 0 t) (iblk m c 1 t) (iblk m c 2 t) := by dsimp only [dats]
theorem after0_4 (c : Dev nD) (t : Fin cfg0.N) : (dats m 0 c).after 4 t = qCodes (iblk m c 0 t) := by dsimp only [dats]
theorem after0_5 (c : Dev nD) (t : Fin cfg0.N) : (dats m 0 c).after 5 t = qScales (iblk m c 0 t) := by dsimp only [dats]
theorem after0_6 (c : Dev nD) (t : Fin cfg0.N) : (dats m 0 c).after 6 t = qCodes (iblk m c 1 t) := by dsimp only [dats]
theorem after0_7 (c : Dev nD) (t : Fin cfg0.N) : (dats m 0 c).after 7 t = qScales (iblk m c 1 t) := by dsimp only [dats]
theorem after0_8 (c : Dev nD) (t : Fin cfg0.N) : (dats m 0 c).after 8 t = qCodes (iblk m c 2 t) := by dsimp only [dats]
theorem after0_9 (c : Dev nD) (t : Fin cfg0.N) : (dats m 0 c).after 9 t = qScales (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem fetched1 (c : Dev nD) (t : Fin cfg0.N) (d) : (dats m 0 c).fetched 1 t d = iblk m c 1 t := by
  unfold Dat.fetched Dat.blockOf iblk; rw [A_eq]; try rfl
/-- Within a group the block of window 1 stays. -/
theorem iblk_kept1 (c : Dev nD) (t : Fin cfg0.N) (h : t.val % 4 ≠ 0) : iblk m c 1 t = iblk m c 1 ⟨t.val - 1, by omega⟩ := by
  have e := (dats m 0 c).fetched_congr 1 (index_kept1 t h) rfl (iblk m c 1 t)
  rw [fetched1, fetched1] at e
  exact e

theorem fetched2 (c : Dev nD) (t : Fin cfg0.N) (d) : (dats m 0 c).fetched 2 t d = iblk m c 2 t := by
  unfold Dat.fetched Dat.blockOf iblk; rw [A_eq]; try rfl
/-- Within a group the block of window 2 stays. -/
theorem iblk_kept2 (c : Dev nD) (t : Fin cfg0.N) (h : t.val % 4 ≠ 0) : iblk m c 2 t = iblk m c 2 ⟨t.val - 1, by omega⟩ := by
  have e := (dats m 0 c).fetched_congr 2 (index_kept2 t h) rfl (iblk m c 2 t)
  rw [fetched2, fetched2] at e
  exact e

theorem kept6 (c : Dev nD) (t : Fin cfg0.N) (h : t.val % 4 ≠ 0) : (dats m 0 c).after 6 t = (dats m 0 c).after 6 ⟨t.val - 1, by omega⟩ := by
  rw [after0_6, after0_6, ← iblk_kept1 m c t h]
/-- At a later point of the group the buffer of window 6 holds what the group's first point stored. -/
theorem before0_6 (c : Dev nD) (t : Fin cfg0.N) (h : t.val % 4 ≠ 0) (d) : (dats m 0 c).before 6 t d = qCodes (iblk m c 1 t) := by
  rw [(dats m 0 c).before_out_traj 6 rfl (fun _ _ => rfl) (fun t _ hi _ => kept6 m c t ((idle_iff6 t).mp hi)) t.val t rfl d,
    fresh6 t.val (Nat.le_of_lt t.isLt), if_neg (by simpa using h), ← kept6 m c t h, after0_6]

theorem kept7 (c : Dev nD) (t : Fin cfg0.N) (h : t.val % 4 ≠ 0) : (dats m 0 c).after 7 t = (dats m 0 c).after 7 ⟨t.val - 1, by omega⟩ := by
  rw [after0_7, after0_7, ← iblk_kept1 m c t h]
/-- At a later point of the group the buffer of window 7 holds what the group's first point stored. -/
theorem before0_7 (c : Dev nD) (t : Fin cfg0.N) (h : t.val % 4 ≠ 0) (d) : (dats m 0 c).before 7 t d = qScales (iblk m c 1 t) := by
  rw [(dats m 0 c).before_out_traj 7 rfl (fun _ _ => rfl) (fun t _ hi _ => kept7 m c t ((idle_iff7 t).mp hi)) t.val t rfl d,
    fresh7 t.val (Nat.le_of_lt t.isLt), if_neg (by simpa using h), ← kept7 m c t h, after0_7]

theorem kept8 (c : Dev nD) (t : Fin cfg0.N) (h : t.val % 4 ≠ 0) : (dats m 0 c).after 8 t = (dats m 0 c).after 8 ⟨t.val - 1, by omega⟩ := by
  rw [after0_8, after0_8, ← iblk_kept2 m c t h]
/-- At a later point of the group the buffer of window 8 holds what the group's first point stored. -/
theorem before0_8 (c : Dev nD) (t : Fin cfg0.N) (h : t.val % 4 ≠ 0) (d) : (dats m 0 c).before 8 t d = qCodes (iblk m c 2 t) := by
  rw [(dats m 0 c).before_out_traj 8 rfl (fun _ _ => rfl) (fun t _ hi _ => kept8 m c t ((idle_iff8 t).mp hi)) t.val t rfl d,
    fresh8 t.val (Nat.le_of_lt t.isLt), if_neg (by simpa using h), ← kept8 m c t h, after0_8]

theorem kept9 (c : Dev nD) (t : Fin cfg0.N) (h : t.val % 4 ≠ 0) : (dats m 0 c).after 9 t = (dats m 0 c).after 9 ⟨t.val - 1, by omega⟩ := by
  rw [after0_9, after0_9, ← iblk_kept2 m c t h]
/-- At a later point of the group the buffer of window 9 holds what the group's first point stored. -/
theorem before0_9 (c : Dev nD) (t : Fin cfg0.N) (h : t.val % 4 ≠ 0) (d) : (dats m 0 c).before 9 t d = qScales (iblk m c 2 t) := by
  rw [(dats m 0 c).before_out_traj 9 rfl (fun _ _ => rfl) (fun t _ hi _ => kept9 m c t ((idle_iff9 t).mp hi)) t.val t rfl d,
    fresh9 t.val (Nat.le_of_lt t.isLt), if_neg (by simpa using h), ← kept9 m c t h, after0_9]

/-- A buffer at what the body is to leave is what the obligation asks for, whether the window is idle or not. -/
theorem leaves_of {c : Dev nD} (dat : Dat τ (Elt F) Unit ℕ (UR sig nD τ) ℕ cfg0 c) (w : Fin cfg0.W) (t : Fin cfg0.N)
    (hb : cfg0.idle w (grid0.coords t) = true → dat.before w t (dat.after w t) = dat.after w t) :
    (owns (c : Thread nD τ) ((cfg0.win w).stage (cfg0.slots t w)) fullShare (dat.after w t) : sProp 𝕄) ⊢ dat.leavesExact w t := by
  unfold Dat.leavesExact
  cases hi : cfg0.idle w (cfg0.grid.coords t)
  · exact Idealize.SL.BI.Entails.refl _
  · cases (cfg0.win w).flush t
    · show _ ⊢ iprop(∃ d, owns (c : Thread nD τ) ((cfg0.win w).stage (cfg0.slots t w)) fullShare (dat.before w t d))
      iintro H
      iexists (dat.after w t)
      rw [hb hi]
      iexact H
    · exact Idealize.SL.BI.Entails.refl _

theorem leaves0_0 (c : Dev nD) (t : Fin cfg0.N) : owns (c : Thread nD τ) (ms0_0 t) fullShare (iblk m c 0 t) ⊢ ((dats m 0 c).leavesExact 0 t : sProp 𝕄) := by
  have h := leaves_of (dats m 0 c) 0 t (fun hi => absurd hi Bool.false_ne_true)
  rw [after0_0] at h
  exact h
theorem leaves0_1 (c : Dev nD) (t : Fin cfg0.N) : owns (c : Thread nD τ) (ms0_1 t) fullShare (iblk m c 1 t) ⊢ ((dats m 0 c).leavesExact 1 t : sProp 𝕄) := by
  have h := leaves_of (dats m 0 c) 1 t (fun hi => absurd hi Bool.false_ne_true)
  rw [after0_1] at h
  exact h
theorem leaves0_2 (c : Dev nD) (t : Fin cfg0.N) : owns (c : Thread nD τ) (ms0_2 t) fullShare (iblk m c 2 t) ⊢ ((dats m 0 c).leavesExact 2 t : sProp 𝕄) := by
  have h := leaves_of (dats m 0 c) 2 t (fun hi => absurd hi Bool.false_ne_true)
  rw [after0_2] at h
  exact h
theorem leaves0_3 (c : Dev nD) (t : Fin cfg0.N) : owns (c : Thread nD τ) (ms0_3 t) fullShare (yBlk (iblk m c 0 t) (iblk m c 1 t) (iblk m c 2 t)) ⊢ ((dats m 0 c).leavesExact 3 t : sProp 𝕄) := by
  have h := leaves_of (dats m 0 c) 3 t (fun hi => absurd hi Bool.false_ne_true)
  rw [after0_3] at h
  exact h
theorem leaves0_4 (c : Dev nD) (t : Fin cfg0.N) : owns (c : Thread nD τ) (ms0_4 t) fullShare (qCodes (iblk m c 0 t)) ⊢ ((dats m 0 c).leavesExact 4 t : sProp 𝕄) := by
  have h := leaves_of (dats m 0 c) 4 t (fun hi => absurd hi Bool.false_ne_true)
  rw [after0_4] at h
  exact h
theorem leaves0_5 (c : Dev nD) (t : Fin cfg0.N) : owns (c : Thread nD τ) (ms0_5 t) fullShare (qScales (iblk m c 0 t)) ⊢ ((dats m 0 c).leavesExact 5 t : sProp 𝕄) := by
  have h := leaves_of (dats m 0 c) 5 t (fun hi => absurd hi Bool.false_ne_true)
  rw [after0_5] at h
  exact h
theorem leaves0_6 (c : Dev nD) (t : Fin cfg0.N) : owns (c : Thread nD τ) (ms0_6 t) fullShare (qCodes (iblk m c 1 t)) ⊢ ((dats m 0 c).leavesExact 6 t : sProp 𝕄) := by
  have h := leaves_of (dats m 0 c) 6 t (fun hi => by rw [before0_6 m c t ((idle_iff6 t).mp hi), after0_6])
  rw [after0_6] at h
  exact h
theorem leaves0_7 (c : Dev nD) (t : Fin cfg0.N) : owns (c : Thread nD τ) (ms0_7 t) fullShare (qScales (iblk m c 1 t)) ⊢ ((dats m 0 c).leavesExact 7 t : sProp 𝕄) := by
  have h := leaves_of (dats m 0 c) 7 t (fun hi => by rw [before0_7 m c t ((idle_iff7 t).mp hi), after0_7])
  rw [after0_7] at h
  exact h
theorem leaves0_8 (c : Dev nD) (t : Fin cfg0.N) : owns (c : Thread nD τ) (ms0_8 t) fullShare (qCodes (iblk m c 2 t)) ⊢ ((dats m 0 c).leavesExact 8 t : sProp 𝕄) := by
  have h := leaves_of (dats m 0 c) 8 t (fun hi => by rw [before0_8 m c t ((idle_iff8 t).mp hi), after0_8])
  rw [after0_8] at h
  exact h
theorem leaves0_9 (c : Dev nD) (t : Fin cfg0.N) : owns (c : Thread nD τ) (ms0_9 t) fullShare (qScales (iblk m c 2 t)) ⊢ ((dats m 0 c).leavesExact 9 t : sProp 𝕄) := by
  have h := leaves_of (dats m 0 c) 9 t (fun hi => by rw [before0_9 m c t ((idle_iff9 t).mp hi), after0_9])
  rw [after0_9] at h
  exact h

/-! ## The body obligation -/

def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_castSucc m c t]
  by_cases h0 : t.val % 4 = 0
  · rw [show PhiS m c t.val (Nat.le_of_lt t.isLt) = Pipeline.ΦA spec0 c from dif_pos h0, PhiA0_eq]
    iintro ⟨⟨⟨H12, H13, H14, H15, H16, H17⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩⟩
    iapply (body_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((first_iff t).mpr h0) (iblk m c 0 t) (iblk m c 1 t) (iblk m c 2 t) Set.univ _)
    isplitl [H2]
    · iexact H2
    isplitl [H3]
    · iexact H3
    isplitl [H4]
    · iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexact H12
    isplitl [H13]
    · iexact H13
    isplitl [H14]
    · iexact H14
    isplitl [H15]
    · iexact H15
    isplitl [H16]
    · iexact H16
    isplitl [H17]
    · iexact H17
    iintro ⟨H2, H3, H4, H5, H6, H7, H8, H9, H10, H11, H12, H13, H14, H15, H16, H17⟩
    isplitl [H12 H13 H14 H15 H16 H17 Hg]
    · iapply (PhiS_succ m c t)
      unfold PhiG
      isplitr [Hg]
      · isplitl [H12]
        · iexact H12
        isplitl [H13]
        · iexact H13
        isplitl [H14]
        · iexact H14
        isplitl [H15]
        · iexact H15
        isplitl [H16]
        · iexact H16
        iexact H17
      iexact Hg
    isplitl [Ho]
    · iexact Ho
    isplitl [H2]
    · iapply (leaves0_0 m c t); iexact H2
    isplitl [H3]
    · iapply (leaves0_1 m c t); iexact H3
    isplitl [H4]
    · iapply (leaves0_2 m c t); iexact H4
    isplitl [H5]
    · iapply (leaves0_3 m c t); iexact H5
    isplitl [H6]
    · iapply (leaves0_4 m c t); iexact H6
    isplitl [H7]
    · iapply (leaves0_5 m c t); iexact H7
    isplitl [H8]
    · iapply (leaves0_6 m c t); iexact H8
    isplitl [H9]
    · iapply (leaves0_7 m c t); iexact H9
    isplitl [H10]
    · iapply (leaves0_8 m c t); iexact H10
    iapply (leaves0_9 m c t); iexact H11

  · rw [show PhiS m c t.val (Nat.le_of_lt t.isLt) = PhiG c (qCodesT (iblk m c 2 ⟨t.val - 1, by omega⟩)) from dif_neg h0, ← iblk_kept2 m c t h0]
    simp only [before0_6 m c t h0, before0_7 m c t h0, before0_8 m c t h0, before0_9 m c t h0]
    unfold PhiG
    iintro ⟨⟨⟨H12, H13, H14, H15, H16, H17⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩⟩
    iapply (body_later (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((first_iff t).mp h)) (iblk m c 0 t) (iblk m c 1 t) (iblk m c 2 t) Set.univ _)
    isplitl [H2]
    · iexact H2
    isplitl [H3]
    · iexact H3
    isplitl [H4]
    · iexact H4
    isplitl [H5]
    · iexists _; iexact H5
    isplitl [H6]
    · iexists _; iexact H6
    isplitl [H7]
    · iexists _; iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iintro ⟨H2, H3, H4, H5, H6, H7, H8, H9, H10, H11, H12, H13, H14, H15, H16, H17⟩
    isplitl [H12 H13 H14 H15 H16 H17 Hg]
    · iapply (PhiS_succ m c t)
      unfold PhiG
      isplitr [Hg]
      · isplitl [H12]
        · iexact H12
        isplitl [H13]
        · iexact H13
        isplitl [H14]
        · iexact H14
        isplitl [H15]
        · iexact H15
        isplitl [H16]
        · iexact H16
        iexact H17
      iexact Hg
    isplitl [Ho]
    · iexact Ho
    isplitl [H2]
    · iapply (leaves0_0 m c t); iexact H2
    isplitl [H3]
    · iapply (leaves0_1 m c t); iexact H3
    isplitl [H4]
    · iapply (leaves0_2 m c t); iexact H4
    isplitl [H5]
    · iapply (leaves0_3 m c t); iexact H5
    isplitl [H6]
    · iapply (leaves0_4 m c t); iexact H6
    isplitl [H7]
    · iapply (leaves0_5 m c t); iexact H7
    isplitl [H8]
    · iapply (leaves0_6 m c t); iexact H8
    isplitl [H9]
    · iapply (leaves0_7 m c t); iexact H9
    isplitl [H10]
    · iapply (leaves0_8 m c t); iexact H10
    iapply (leaves0_9 m c t); iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, show PhiS m c 0 (Nat.zero_le _) = Pipeline.ΦA spec0 c from dif_pos rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_out m c _ _

/-! ## The run and the frame -/

set_option backward.isDefEq.respectTransparency.types false in
set_option maxHeartbeats 800000 in
/-- Every execution ends, with every array at what the proof data say and every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Gen
-- ==== Proof.Value.Scale.lean ====
/- The power-of-two scale of a block, over the reals: the exponent word the kernel counts out of the thresholds,
   the power it builds from that word, and the power the reference writes with logarithms, are one number. -/
module

public import Idealize.ShloMosaic.Lib.Pipeline.ValueKit
public import Idealize.ShloMosaic.Lib.Pointwise

@[expose] public section

noncomputable section

namespace Cert.Fp8

open Idealize.ShloMosaic

/-- The exponent of the scale of a block whose largest magnitude over 448 is `z`. -/
def expo (z : ℝ) : ℤ := if z < (2 : ℝ) ^ (-126 : ℤ) then 0 else ⌊Real.log z / Real.log 2⌋ + 1

/-- The scale of a block whose largest magnitude over 448 is `z`. -/
def pow2 (z : ℝ) : ℝ := (2 : ℝ) ^ expo z

theorem pow2_pos (z : ℝ) : 0 < pow2 z := by unfold pow2; positivity

/-- A normal word with no sign and no fraction is a power of two. -/
theorem ieee_pow (b : BitVec 32) (n : ℕ) (h0 : 0 < n) (h : n < 255) (e1 : (b.extractLsb' 23 8).toNat = n)
    (e2 : (b.extractLsb' 0 23).toNat = 0) (e3 : (b.extractLsb' 31 1 == 1#1) = false) :
    Ideal.ofBits .f32 b = (((2 : ℝ) ^ ((n : ℤ) - 127) : ℝ) : EReal) := by
  show Ideal.ieee 8 23 b = _
  unfold Ideal.ieee
  have hn : ¬ (b.extractLsb' 23 8).toNat = 2 ^ 8 - 1 := by rw [e1]; omega
  have hn' : ¬ (b.extractLsb' 23 8).toNat = 0 := by rw [e1]; omega
  refine (if_neg hn).trans ((if_neg hn').trans ?_)
  rw [e3, e1, e2]
  refine congrArg (fun r : ℝ => (r : EReal)) ?_
  have hz : (n : ℤ) - 127 = ((n : ℤ) - (2 ^ (8 - 1) - 1) - ((23 : ℕ) : ℤ)) + 23 := by norm_num
  rw [hz, zpow_add₀ (by norm_num : (2 : ℝ) ≠ 0)]
  norm_num
  ring

/-- The word whose exponent field is `n` and whose other bits are zero is a power of two. -/
theorem field_word (n : ℕ) (h0 : 0 < n) (h : n < 255) :
    Ideal.ofBits .f32 (IntOp.shli ArithUnit.vector (BitVec.ofNat 32 n) 23#32) = (((2 : ℝ) ^ ((n : ℤ) - 127) : ℝ) : EReal) := by
  have hs : IntOp.shli ArithUnit.vector (BitVec.ofNat 32 n) 23#32 = BitVec.ofNat 32 n <<< (23#32 : BitVec 32) := by
    exact if_pos (by decide)
  rw [hs]
  refine ieee_pow _ n h0 h ?_ ?_ ?_
  · simp [BitVec.extractLsb'_toNat, BitVec.toNat_shiftLeft, Nat.shiftLeft_eq, Nat.shiftRight_eq_div_pow]; omega
  · simp [BitVec.extractLsb'_toNat, BitVec.toNat_shiftLeft, Nat.shiftLeft_eq, Nat.shiftRight_eq_div_pow]
  · have e3 : ((BitVec.ofNat 32 n <<< (23#32 : BitVec 32)).extractLsb' 31 1) = 0#1 := by
      apply BitVec.eq_of_toNat_eq
      simp [BitVec.extractLsb'_toNat, BitVec.toNat_shiftLeft, Nat.shiftLeft_eq, Nat.shiftRight_eq_div_pow]; omega
    rw [e3]; rfl

theorem zero_word : Ideal.ofBits .f32 (IntOp.shli ArithUnit.vector (BitVec.ofNat 32 0) 23#32) = 0 := by
  have hs : IntOp.shli ArithUnit.vector (BitVec.ofNat 32 0) 23#32 = 0#32 := by decide
  rw [hs]; simp [Ideal.ofBits, Ideal.ieee]

theorem top_word : Ideal.ofBits .f32 (IntOp.shli ArithUnit.vector (BitVec.ofNat 32 255) 23#32) = ⊤ := by
  have hs : IntOp.shli ArithUnit.vector (BitVec.ofNat 32 255) 23#32 = 0x7F800000#32 := by decide
  rw [hs]; simp [Ideal.ofBits, Ideal.ieee]

/-- How many thresholds above the first `z` reaches. -/
def reached (z : ℝ) : ℤ := if z < (2 : ℝ) ^ (-126 : ℤ) then 0 else ⌊Real.log z / Real.log 2⌋ + 127

theorem le_log {z : ℝ} (hz : 0 < z) (k : ℤ) : (2 : ℝ) ^ k ≤ z ↔ k ≤ ⌊Real.log z / Real.log 2⌋ := by
  rw [Int.le_floor, le_div_iff₀ (Real.log_pos (by norm_num)), ← Real.log_zpow,
    Real.log_le_log_iff (by positivity) hz]

theorem log_bounds {z : ℝ} (h1 : ¬ z < (2 : ℝ) ^ (-126 : ℤ)) (h2 : z < (2 : ℝ) ^ (126 : ℤ)) :
    -126 ≤ ⌊Real.log z / Real.log 2⌋ ∧ ⌊Real.log z / Real.log 2⌋ < 126 := by
  have hz : 0 < z := lt_of_lt_of_le (by positivity) (not_lt.1 h1)
  refine ⟨(le_log hz _).1 (not_lt.1 h1), ?_⟩
  by_contra h
  exact absurd ((le_log hz 126).2 (not_lt.1 h)) (not_le.2 h2)

theorem expo_bounds {z : ℝ} (h2 : z < (2 : ℝ) ^ (126 : ℤ)) : -125 ≤ expo z ∧ expo z ≤ 126 := by
  unfold expo
  split
  · omega
  · next h => have := log_bounds h h2; omega

theorem thr_le {z : ℝ} (h0 : 0 ≤ z) (h2 : z < (2 : ℝ) ^ (126 : ℤ)) (l : Fin 256) :
    Ideal.ofBits .f32 (IntOp.shli ArithUnit.vector (BitVec.ofNat 32 ↑l) 23#32) ≤ (z : EReal) ↔ (l.val : ℤ) ≤ reached z := by
  unfold reached
  rcases Nat.eq_zero_or_pos l.val with hl | hl
  · rw [hl, zero_word]
    refine ⟨fun _ => ?_, fun _ => by exact_mod_cast h0⟩
    split
    · simp
    · next h => have := log_bounds h h2; push_cast; omega
  · rcases Nat.lt_or_ge l.val 255 with h255 | h255
    · rw [field_word _ hl h255, EReal.coe_le_coe_iff]
      split
      · next h =>
        refine ⟨fun hle => ?_, fun hle => by omega⟩
        exact absurd (lt_of_le_of_lt hle h)
          (not_lt.2 (zpow_le_zpow_right₀ (by norm_num) (by omega)))
      · next h =>
        rw [le_log (lt_of_lt_of_le (by positivity) (not_lt.1 h))]; omega
    · have : l.val = 255 := by have := l.isLt; omega
      rw [this, top_word]
      refine ⟨fun h => absurd h (by simp), fun h => ?_⟩
      split at h
      · omega
      · next hh => have := log_bounds hh h2; omega

/-- The kernel's exponent word out of the quotient `z`. -/
def expWord (z : EReal) : BitVec 32 :=
  Scalar.select
    (IntOp.cmpi CmpIPredicate.eq
      (IntOp.subi (Finset.fold IntOp.addi (0#32)
        (fun x : Fin 256 => if Ideal.ofBits FTy.f32 (IntOp.shli ArithUnit.vector (BitVec.ofNat 32 ↑x) 23#32) ≤ z then 1#32 else 0#32)
        Finset.univ) 1#32) 0#32)
    (0#32)
    (IntOp.subi (IntOp.subi (Finset.fold IntOp.addi (0#32)
        (fun x : Fin 256 => if Ideal.ofBits FTy.f32 (IntOp.shli ArithUnit.vector (BitVec.ofNat 32 ↑x) 23#32) ≤ z then 1#32 else 0#32)
        Finset.univ) 1#32) 126#32)

theorem fold_count {ι : Type} (p : ι → Prop) [DecidablePred p] (S : Finset ι) :
    S.fold IntOp.addi (0#32) (fun k => if p k then 1#32 else 0#32) = BitVec.ofNat 32 (S.filter p).card := by
  classical
  induction S using Finset.induction_on with
  | empty => rfl
  | insert a S ha ih =>
    rw [Finset.fold_insert ha, ih, Finset.filter_insert]
    by_cases h : p a
    · rw [if_pos h, if_pos h, Finset.card_insert_of_notMem (fun hm => ha (Finset.mem_filter.1 hm).1)]
      show 1#32 + BitVec.ofNat 32 _ = BitVec.ofNat 32 (_ + 1)
      rw [BitVec.ofNat_add, BitVec.add_comm]
    · rw [if_neg h, if_neg h]
      show 0#32 + _ = _
      rw [BitVec.zero_add]

theorem reached_bounds {z : ℝ} (h2 : z < (2 : ℝ) ^ (126 : ℤ)) : 0 ≤ reached z ∧ reached z ≤ 253 := by
  unfold reached
  split
  · omega
  · next h => have := log_bounds h h2; omega

theorem card_reached {z : ℝ} (h0 : 0 ≤ z) (h2 : z < (2 : ℝ) ^ (126 : ℤ)) :
    (Finset.univ.filter fun l : Fin 256 =>
      Ideal.ofBits .f32 (IntOp.shli ArithUnit.vector (BitVec.ofNat 32 ↑l) 23#32) ≤ (z : EReal)).card = (reached z).toNat + 1 := by
  have hb := reached_bounds h2
  have : (Finset.univ.filter fun l : Fin 256 =>
      Ideal.ofBits .f32 (IntOp.shli ArithUnit.vector (BitVec.ofNat 32 ↑l) 23#32) ≤ (z : EReal))
      = Finset.Iic (⟨(reached z).toNat, by omega⟩ : Fin 256) := by
    ext l
    simp only [Finset.mem_filter, Finset.mem_univ, true_and, Finset.mem_Iic, thr_le h0 h2 l, Fin.le_def]
    omega
  rw [this, Fin.card_Iic]

/-- The kernel's exponent word is the exponent. -/
theorem expWord_coe {z : ℝ} (h0 : 0 ≤ z) (h2 : z < (2 : ℝ) ^ (126 : ℤ)) : expWord (z : EReal) = BitVec.ofInt 32 (expo z) := by
  have hb := reached_bounds h2
  unfold expWord
  rw [fold_count, card_reached h0 h2]
  have e : IntOp.subi (BitVec.ofNat 32 ((reached z).toNat + 1)) 1#32 = BitVec.ofNat 32 (reached z).toNat := by
    show BitVec.ofNat 32 ((reached z).toNat + 1) - 1#32 = _
    rw [BitVec.ofNat_add, BitVec.add_sub_cancel]
  rw [e]
  unfold expo
  by_cases h : z < (2 : ℝ) ^ (-126 : ℤ)
  · have hr : reached z = 0 := by unfold reached; rw [if_pos h]
    rw [if_pos h, hr]
    rfl
  · have hr : reached z = ⌊Real.log z / Real.log 2⌋ + 127 := by unfold reached; rw [if_neg h]
    have hl := log_bounds h h2
    rw [if_neg h]
    have hne : IntOp.cmpi CmpIPredicate.eq (BitVec.ofNat 32 (reached z).toNat) 0#32 = 0#1 := by
      have : BitVec.ofNat 32 (reached z).toNat ≠ 0#32 := by
        intro hh
        have := congrArg BitVec.toNat hh
        simp only [BitVec.toNat_ofNat] at this
        omega
      simp [IntOp.cmpi, this]
      exact congrArg BitVec.ofBool (beq_eq_false_iff_ne.2 this)
    rw [hne]
    show BitVec.ofNat 32 (reached z).toNat - 126#32 = _
    have e2 : (reached z).toNat = (⌊Real.log z / Real.log 2⌋ + 1).toNat + 0 ∨ True := Or.inr trivial
    apply BitVec.eq_of_toInt_eq
    rw [BitVec.toInt_sub, BitVec.toInt_ofInt, BitVec.toInt_ofNat', BitVec.toInt_ofNat']
    have : ((reached z).toNat : ℤ) = reached z := Int.toNat_of_nonneg hb.1
    simp only [Int.bmod_def]
    omega

theorem ofInt_add (E : ℤ) (h : -127 ≤ E) (h' : E < 1000) :
    IntOp.addi (BitVec.ofInt 32 E) 127#32 = BitVec.ofNat 32 (E + 127).toNat := by
  show BitVec.ofInt 32 E + 127#32 = _
  apply BitVec.eq_of_toInt_eq
  rw [BitVec.toInt_add, BitVec.toInt_ofInt, BitVec.toInt_ofNat', BitVec.toInt_ofNat']
  simp only [Int.bmod_def]
  omega

theorem ofInt_neg (E : ℤ) : IntOp.subi 0#32 (BitVec.ofInt 32 E) = BitVec.ofInt 32 (-E) := by
  show 0#32 - BitVec.ofInt 32 E = _
  apply BitVec.eq_of_toInt_eq
  rw [BitVec.toInt_sub, BitVec.toInt_ofInt, BitVec.toInt_ofInt, BitVec.toInt_ofNat']
  simp only [Int.bmod_def]
  omega

/-- The power the kernel builds from an exponent word. -/
theorem pow_word (E : ℤ) (h : -126 ≤ E) (h' : E ≤ 127) :
    Ideal.ofBits .f32 (IntOp.shli ArithUnit.vector (IntOp.addi (BitVec.ofInt 32 E) 127#32) 23#32) = (((2 : ℝ) ^ E : ℝ) : EReal) := by
  rw [ofInt_add E (by omega) (by omega), field_word _ (by omega) (by omega)]
  congr 2
  omega

theorem toInt_expo {z : ℝ} (h2 : z < (2 : ℝ) ^ (126 : ℤ)) : (BitVec.ofInt 32 (expo z)).toInt = expo z := by
  have := expo_bounds h2
  rw [BitVec.toInt_ofInt, Int.bmod_def]
  omega

/-- The scale as the kernel builds it. -/
theorem scale_word {z : ℝ} (h0 : 0 ≤ z) (h2 : z < (2 : ℝ) ^ (126 : ℤ)) :
    Ideal.ofBits .f32 (IntOp.shli ArithUnit.vector (IntOp.addi (expWord (z : EReal)) 127#32) 23#32) = ((pow2 z : ℝ) : EReal) := by
  have := expo_bounds h2
  rw [expWord_coe h0 h2, pow_word _ (by omega) (by omega), pow2]

/-- The inverse of the scale as the kernel builds it. -/
theorem inv_scale_word {z : ℝ} (h0 : 0 ≤ z) (h2 : z < (2 : ℝ) ^ (126 : ℤ)) :
    Ideal.ofBits .f32 (IntOp.shli ArithUnit.vector (IntOp.addi (IntOp.subi 0#32 (expWord (z : EReal))) 127#32) 23#32)
      = (((pow2 z)⁻¹ : ℝ) : EReal) := by
  have := expo_bounds h2
  rw [expWord_coe h0 h2, ofInt_neg, pow_word _ (by omega) (by omega), pow2, zpow_neg]

end Cert.Fp8
-- ==== Proof.Value.Core.lean ====
/- The mathematics of one query block against all key blocks, in the real numbers: the kernel's maximum in powers of
   two, with the exponent of the probability block folded into the offset, is the reference's softmax numerator divided
   by the scale of its block. -/
module

public import proofs.«01_k».proof.Proof.Value.Scale

@[expose] public section

noncomputable section

namespace Cert.Fp8

open Idealize.ShloMosaic

/-- The largest of finitely many numbers. -/
def top {n : ℕ} [NeZero n] (f : Fin n → ℝ) : ℝ := Finset.univ.sup' ⟨0, Finset.mem_univ _⟩ f

section top
variable {n k : ℕ} [NeZero n] [NeZero k]

theorem le_top (f : Fin n → ℝ) (i : Fin n) : f i ≤ top f := Finset.le_sup' f (Finset.mem_univ i)

theorem top_le {f : Fin n → ℝ} {c : ℝ} (h : ∀ i, f i ≤ c) : top f ≤ c := Finset.sup'_le _ _ fun i _ => h i

theorem exists_top (f : Fin n → ℝ) : ∃ i, top f = f i := by
  obtain ⟨i, -, h⟩ := Finset.exists_mem_eq_sup' (⟨0, Finset.mem_univ _⟩ : (Finset.univ : Finset (Fin n)).Nonempty) f
  exact ⟨i, h⟩

theorem top_map (f : Fin n → ℝ) (g : ℝ → ℝ) (hg : Monotone g) : top (fun i => g (f i)) = g (top f) := by
  apply le_antisymm
  · exact top_le fun i => hg (le_top f i)
  · obtain ⟨i, h⟩ := exists_top f
    rw [h]; exact le_top (fun i => g (f i)) i

theorem top_comm (f : Fin n → Fin k → ℝ) : (top fun a => top fun b => f a b) = top fun b => top fun a => f a b := by
  apply le_antisymm
  · exact top_le fun a => top_le fun b => (le_top (fun a => f a b) a).trans (le_top (fun b => top fun a => f a b) b)
  · exact top_le fun b => top_le fun a => (le_top (fun b => f a b) b).trans (le_top (fun a => top fun b => f a b) a)

theorem top_nonneg {f : Fin n → ℝ} (h : ∀ i, 0 ≤ f i) : 0 ≤ top f := (h 0).trans (le_top f 0)

end top

/-- Key (or query) `v` of block `n`. -/
def key (n : Fin 16) (v : Fin 128) : Fin 2048 := ⟨128 * n.val + v.val, by have := n.isLt; have := v.isLt; omega⟩

/-- The block of a key, and its place there. -/
def keyBlk (j : Fin 2048) : Fin 16 := ⟨j.val / 128, by have := j.isLt; omega⟩
def keyRow (j : Fin 2048) : Fin 128 := ⟨j.val % 128, Nat.mod_lt _ (by norm_num)⟩

theorem key_blk_row (j : Fin 2048) : key (keyBlk j) (keyRow j) = j := Fin.ext (Nat.div_add_mod _ _)
theorem keyBlk_key (n : Fin 16) (v : Fin 128) : keyBlk (key n v) = n :=
  Fin.ext (by show (128 * n.val + v.val) / 128 = n.val; have := v.isLt; omega)
theorem keyRow_key (n : Fin 16) (v : Fin 128) : keyRow (key n v) = v :=
  Fin.ext (by show (128 * n.val + v.val) % 128 = v.val; have := v.isLt; omega)

/-- Keys are pairs of a block and a place. -/
def keyEquiv : Fin 16 × Fin 128 ≃ Fin 2048 where
  toFun p := key p.1 p.2
  invFun j := (keyBlk j, keyRow j)
  left_inv p := by simp [keyBlk_key, keyRow_key]
  right_inv j := key_blk_row j

theorem top_key (f : Fin 2048 → ℝ) : top f = top fun n => top fun v => f (key n v) := by
  apply le_antisymm
  · refine top_le fun j => ?_
    rw [← key_blk_row j]
    exact (le_top (fun v => f (key (keyBlk j) v)) (keyRow j)).trans (le_top (fun n => top fun v => f (key n v)) (keyBlk j))
  · exact top_le fun n => top_le fun v => le_top f _

theorem sum_key (f : Fin 2048 → ℝ) : ∑ j, f j = ∑ n, ∑ v, f (key n v) := by
  rw [← Fintype.sum_prod_type' (f := fun n v => f (key n v))]
  exact (Equiv.sum_comp keyEquiv f).symm

/-- The binary word nearest to 1/448, as a number. -/
def inv448 : ℝ := 9586981 * (2 : ℝ) ^ (-32 : ℤ)

theorem inv448_word : Ideal.ofBits .f32 0x3B124925#32 = ((inv448 : ℝ) : EReal) := by
  simp [Ideal.ofBits, Ideal.ieee, inv448, -EReal.coe_mul]

theorem inv448_pos : 0 < inv448 := by unfold inv448; positivity
theorem inv448_lt : inv448 < (2 : ℝ) ^ (-8 : ℤ) := by unfold inv448; norm_num

/-- The scale of a block whose largest magnitude is `a`. -/
def bscale (a : ℝ) : ℝ := pow2 (a * inv448)

theorem bscale_pos (a : ℝ) : 0 < bscale a := pow2_pos _

/-- Clipping to the range of the codes. -/
def clip (r : ℝ) : ℝ := min 448 (max (-448) r)

/-- The largest magnitude of a block. -/
def amax (t : Fin 128 → Fin 128 → ℝ) : ℝ := top fun u => top fun d => |t u d|

/-- A code of a block. -/
def code (t : Fin 128 → Fin 128 → ℝ) (u d : Fin 128) : ℝ := clip (t u d / bscale (amax t))

/-- The kernel's constant: one over the root of the head size, in powers of two. -/
def kconst : ℝ := (Real.sqrt 128)⁻¹ * (Real.log 2)⁻¹

section attention
variable (S : Fin 16 → Fin 128 → Fin 128 → ℝ) (qs : ℝ) (ks : Fin 16 → ℝ)

/-- The reference's score of query `u` and key `v` of block `n`. -/
def sc (n : Fin 16) (v u : Fin 128) : ℝ := S n v u * (qs / Real.sqrt 128) * ks n
/-- The reference's largest score of a query. -/
def rmax (u : Fin 128) : ℝ := top fun n => top fun v => sc S qs ks n v u
/-- The reference's softmax numerator. -/
def prob (n : Fin 16) (v u : Fin 128) : ℝ := Real.exp (sc S qs ks n v u - rmax S qs ks u)
/-- The largest numerator of a block. -/
def pmax (n : Fin 16) : ℝ := top fun u => top fun v => prob S qs ks n v u

/-- The kernel's factor of key block `n`. -/
def c2 (n : Fin 16) : ℝ := qs * kconst * ks n
/-- The kernel's largest score of a query in a block. -/
def bmax (n : Fin 16) (u : Fin 128) : ℝ := top (fun v => S n v u) * c2 qs ks n
/-- The kernel's largest score of a query. -/
def kmax (u : Fin 128) : ℝ := top fun n => bmax S qs ks n u
/-- The kernel's largest probability of a block. -/
def kpmax (n : Fin 16) : ℝ := (2 : ℝ) ^ (top fun u => bmax S qs ks n u - kmax S qs ks u)
/-- The kernel's scaled probability. -/
def kprob (n : Fin 16) (v u : Fin 128) : ℝ :=
  (2 : ℝ) ^ (S n v u * c2 qs ks n - (kmax S qs ks u + (expo (kpmax S qs ks n * inv448) : ℝ)))

variable {qs ks} (hq : 0 < qs) (hk : ∀ n, 0 < ks n)

theorem log2_pos : 0 < Real.log 2 := Real.log_pos (by norm_num)

theorem kconst_pos : 0 < kconst := mul_pos (inv_pos.2 (Real.sqrt_pos.2 (by norm_num))) (inv_pos.2 log2_pos)

theorem score_eq (n : Fin 16) (v u : Fin 128) : S n v u * c2 qs ks n = sc S qs ks n v u * (Real.log 2)⁻¹ := by
  unfold c2 sc kconst; rw [div_eq_mul_inv]; ring

include hq hk

theorem bmax_eq (n : Fin 16) (u : Fin 128) :
    bmax S qs ks n u = (top fun v => sc S qs ks n v u) * (Real.log 2)⁻¹ := by
  have h1 : Monotone fun r : ℝ => r * c2 qs ks n := fun a b h =>
    mul_le_mul_of_nonneg_right h (mul_pos (mul_pos hq kconst_pos) (hk n)).le
  have h2 : Monotone fun r : ℝ => r * (Real.log 2)⁻¹ := fun a b h =>
    mul_le_mul_of_nonneg_right h (inv_pos.2 log2_pos).le
  unfold bmax
  rw [← top_map _ _ h1, ← top_map _ _ h2]
  simp only [score_eq]

theorem kmax_eq (u : Fin 128) : kmax S qs ks u = rmax S qs ks u * (Real.log 2)⁻¹ := by
  have h2 : Monotone fun r : ℝ => r * (Real.log 2)⁻¹ := fun a b h =>
    mul_le_mul_of_nonneg_right h (inv_pos.2 log2_pos).le
  unfold kmax rmax
  rw [← top_map _ _ h2]
  simp only [bmax_eq S hq hk]

omit hq hk in
theorem two_rpow (r : ℝ) : (2 : ℝ) ^ (r * (Real.log 2)⁻¹) = Real.exp r := by
  rw [Real.rpow_def_of_pos (by norm_num)]
  congr 1
  have := log2_pos.ne'
  field_simp

theorem kpmax_eq (n : Fin 16) : kpmax S qs ks n = pmax S qs ks n := by
  have h : ∀ u, bmax S qs ks n u - kmax S qs ks u
      = ((top fun v => sc S qs ks n v u) - rmax S qs ks u) * (Real.log 2)⁻¹ := fun u => by
    rw [bmax_eq S hq hk, kmax_eq S hq hk]; ring
  have h2 : Monotone fun r : ℝ => r * (Real.log 2)⁻¹ := fun a b h =>
    mul_le_mul_of_nonneg_right h (inv_pos.2 log2_pos).le
  unfold kpmax pmax prob
  simp only [h]
  rw [top_map _ _ h2, two_rpow, ← top_map _ _ Real.exp_monotone]
  congr 1; funext u
  exact (top_map (fun v => sc S qs ks n v u) (fun r => Real.exp (r - rmax S qs ks u))
    (fun a b h => Real.exp_le_exp.2 (by linarith))).symm

/-- The kernel's scaled probability is the numerator over the scale of its block. -/
theorem kprob_eq (n : Fin 16) (v u : Fin 128) :
    kprob S qs ks n v u = prob S qs ks n v u / bscale (pmax S qs ks n) := by
  unfold kprob prob bscale pow2
  rw [kpmax_eq S hq hk, kmax_eq S hq hk, score_eq, ← sub_sub, ← sub_mul, Real.rpow_sub (by norm_num), two_rpow,
    Real.rpow_intCast]

omit hq hk in
theorem prob_pos (n : Fin 16) (v u : Fin 128) : 0 < prob S qs ks n v u := Real.exp_pos _

omit hq hk in
theorem prob_le (n : Fin 16) (v u : Fin 128) : prob S qs ks n v u ≤ 1 := by
  unfold prob
  rw [← Real.exp_zero]
  refine Real.exp_le_exp.2 (sub_nonpos.2 ?_)
  exact (le_top (fun v => sc S qs ks n v u) v).trans (le_top (fun n => top fun v => sc S qs ks n v u) n)

omit hq hk in
theorem pmax_bounds (n : Fin 16) : 0 ≤ pmax S qs ks n ∧ pmax S qs ks n ≤ 1 :=
  ⟨top_nonneg fun u => top_nonneg fun v => (prob_pos S n v u).le, top_le fun u => top_le fun v => prob_le S n v u⟩

end attention

/-- The softmax denominator of a query. -/
def den (S : Fin 16 → Fin 128 → Fin 128 → ℝ) (qs : ℝ) (ks : Fin 16 → ℝ) (u : Fin 128) : ℝ :=
  ∑ n, ∑ v, prob S qs ks n v u

/-- The weighted sum of values of a query, of one feature. -/
def num (S : Fin 16 → Fin 128 → Fin 128 → ℝ) (qs : ℝ) (ks vs : Fin 16 → ℝ) (V : Fin 16 → Fin 128 → ℝ) (u : Fin 128) : ℝ :=
  ∑ n, (∑ v, clip (prob S qs ks n v u / bscale (pmax S qs ks n)) * V n v) * (bscale (pmax S qs ks n) * vs n)

theorem den_pos (S : Fin 16 → Fin 128 → Fin 128 → ℝ) (qs : ℝ) (ks : Fin 16 → ℝ) (u : Fin 128) : 0 < den S qs ks u :=
  Finset.sum_pos (fun n _ => Finset.sum_pos (fun v _ => prob_pos S n v u) ⟨0, Finset.mem_univ _⟩) ⟨0, Finset.mem_univ _⟩

/-- The kernel's denominator. -/
theorem den_kernel (S : Fin 16 → Fin 128 → Fin 128 → ℝ) {qs : ℝ} {ks : Fin 16 → ℝ} (hq : 0 < qs) (hk : ∀ n, 0 < ks n)
    (u : Fin 128) : ∑ n, (∑ v, kprob S qs ks n v u) * bscale (pmax S qs ks n) = den S qs ks u := by
  unfold den
  refine Finset.sum_congr rfl fun n _ => ?_
  rw [Finset.sum_mul]
  refine Finset.sum_congr rfl fun v _ => ?_
  rw [kprob_eq S hq hk, div_mul_cancel₀ _ (bscale_pos _).ne']

end Cert.Fp8
-- ==== Proof.Value.Conv.lean ====
/- Extended reals that are numbers: maxima, magnitudes, clipping and the reference's scale, read as real numbers. -/
module

public import proofs.«01_k».proof.Proof.Value.Core

@[expose] public section

noncomputable section

namespace Cert.Fp8

open Idealize.ShloMosaic

theorem bot_word : Ideal.ofBits .f32 0xFF800000#32 = (⊥ : EReal) := by simp [Ideal.ofBits, Ideal.ieee]

theorem fold_top {n : ℕ} [NeZero n] (f : Fin n → ℝ) :
    Finset.univ.fold max (Ideal.ofBits .f32 0xFF800000#32) (fun k => ((f k : ℝ) : EReal)) = ((top f : ℝ) : EReal) := by
  rw [bot_word]
  apply le_antisymm
  · rw [Finset.fold_max_le]
    exact ⟨bot_le, fun k _ => EReal.coe_le_coe_iff.2 (le_top f k)⟩
  · obtain ⟨i, h⟩ := exists_top f
    rw [Finset.le_fold_max]
    exact Or.inr ⟨i, Finset.mem_univ _, by rw [h]⟩

theorem max_coe (a b : ℝ) : max (a : EReal) (b : EReal) = ((max a b : ℝ) : EReal) :=
  (EReal.coe_strictMono.monotone.map_max).symm

theorem min_coe (a b : ℝ) : min (a : EReal) (b : EReal) = ((min a b : ℝ) : EReal) :=
  (EReal.coe_strictMono.monotone.map_min).symm

theorem absf_coe (r : ℝ) : (FloatOps.absf (F := Ideal) (φ := .f32) (r : EReal)) = ((|r| : ℝ) : EReal) := by
  show max (r : EReal) (-(r : EReal)) = _
  rw [← EReal.coe_neg, max_coe]; rfl

theorem word_448 : Ideal.ofBits .f32 0x43E00000#32 = ((448 : ℝ) : EReal) := by
  simp [Ideal.ofBits, Ideal.ieee, -EReal.coe_mul]; norm_num

theorem word_neg448 : Ideal.ofBits .f32 0xC3E00000#32 = ((-448 : ℝ) : EReal) := by
  simp [Ideal.ofBits, Ideal.ieee, -EReal.coe_mul]; norm_num

theorem clip_coe (r : ℝ) :
    min (Ideal.ofBits .f32 0x43E00000#32) (max (Ideal.ofBits .f32 0xC3E00000#32) (r : EReal)) = ((clip r : ℝ) : EReal) := by
  rw [word_448, word_neg448, max_coe, min_coe]; rfl

theorem div_coe_coe (a : ℝ) {b : ℝ} (h : b ≠ 0) : Ideal.div (a : EReal) (b : EReal) = ((a / b : ℝ) : EReal) := by
  rw [Ideal.div_coe h, ← EReal.coe_mul, mul_one_div]

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem word_two : Ideal.ofBits .f32 0x40000000#32 = ((2 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

theorem word_zero : Ideal.ofBits .f32 0x00000000#32 = ((0 : ℝ) : EReal) := by
  simp [Ideal.ofBits, Ideal.ieee]

theorem word_128 : Ideal.ofBits .f32 0x43000000#32 = ((128 : ℝ) : EReal) := by
  simp [Ideal.ofBits, Ideal.ieee, -EReal.coe_mul]; norm_num

theorem word_min : Ideal.ofBits .f32 0x00800000#32 = (((2 : ℝ) ^ (-126 : ℤ) : ℝ) : EReal) := by
  simp [Ideal.ofBits, Ideal.ieee, -EReal.coe_mul]; norm_num

/-- The reference's scale of the largest magnitude `a`. -/
def refScale (a : EReal) : EReal :=
  Ideal.pow (Ideal.ofBits .f32 0x40000000#32)
    (Scalar.select (Ideal.cmp .olt (a * Ideal.ofBits .f32 0x3B124925#32) (Ideal.ofBits .f32 0x00800000#32))
      (Ideal.ofBits .f32 0x00000000#32)
      (Ideal.liftRound Int.floor
        (Ideal.div (Ideal.log (a * Ideal.ofBits .f32 0x3B124925#32)) (Ideal.log (Ideal.ofBits .f32 0x40000000#32)))
        + Ideal.ofBits .f32 0x3F800000#32))

/-- The reference's scale is the power of two. -/
theorem refScale_coe (a : ℝ) : refScale (a : EReal) = ((bscale a : ℝ) : EReal) := by
  unfold refScale
  rw [word_two, word_min, word_zero, word_one, inv448_word, ← EReal.coe_mul]
  unfold bscale pow2 expo
  by_cases h : a * inv448 < (2 : ℝ) ^ (-126 : ℤ)
  · have hc : Ideal.cmp .olt ((a * inv448 : ℝ) : EReal) (((2 : ℝ) ^ (-126 : ℤ) : ℝ) : EReal) = 1#1 := by
      show BitVec.ofBool (decide (_ < _)) = 1#1
      rw [decide_eq_true (EReal.coe_lt_coe_iff.2 h)]; rfl
    rw [hc, if_pos h]
    show Ideal.pow _ ((0 : ℝ) : EReal) = _
    rw [Ideal.pow_coe_coe]
    simp
  · have hc : Ideal.cmp .olt ((a * inv448 : ℝ) : EReal) (((2 : ℝ) ^ (-126 : ℤ) : ℝ) : EReal) = 0#1 := by
      show BitVec.ofBool (decide (_ < _)) = 0#1
      rw [decide_eq_false fun h' => h (EReal.coe_lt_coe_iff.1 h')]; rfl
    have hp : 0 < a * inv448 := lt_of_lt_of_le (by positivity) (not_lt.1 h)
    rw [hc, if_neg h]
    show Ideal.pow _ (Ideal.liftRound Int.floor (Ideal.div (Ideal.log _) (Ideal.log _)) + _) = _
    rw [Ideal.log_coe, Ideal.log_coe, if_neg (not_le.2 hp), if_neg (by norm_num), div_coe_coe _ log2_pos.ne',
      Ideal.liftRound_coe, ← EReal.coe_add, Ideal.pow_coe_coe]
    congr 1
    show (2 : ℝ) ^ (((⌊Real.log (a * inv448) / Real.log 2⌋ : ℤ) : ℝ) + 1) = _
    rw [← Real.rpow_intCast]
    push_cast
    rfl

/-- The bound on the magnitude of an input. -/
def inMax : ℝ := 255 * (2 : ℝ) ^ (120 : ℤ)

theorem quot_lt {a : ℝ} (h : a ≤ inMax) : a * inv448 < (2 : ℝ) ^ (126 : ℤ) := by
  have h1 : a * inv448 ≤ inMax * inv448 := mul_le_mul_of_nonneg_right h inv448_pos.le
  refine lt_of_le_of_lt h1 ?_
  unfold inMax inv448
  norm_num

theorem amax_nonneg (t : Fin 128 → Fin 128 → ℝ) : 0 ≤ amax t := top_nonneg fun u => top_nonneg fun d => abs_nonneg _

theorem amax_le {t : Fin 128 → Fin 128 → ℝ} (h : ∀ u d, |t u d| ≤ inMax) : amax t ≤ inMax := top_le fun u => top_le fun d => h u d

theorem kscale {a : ℝ} (h0 : 0 ≤ a) (h : a ≤ inMax) :
    Ideal.ofBits .f32 (IntOp.shli ArithUnit.vector (IntOp.addi (expWord ((a : EReal) * Ideal.ofBits .f32 0x3B124925#32)) 127#32) 23#32)
      = ((bscale a : ℝ) : EReal) := by
  rw [inv448_word, ← EReal.coe_mul, scale_word (mul_nonneg h0 inv448_pos.le) (quot_lt h)]; rfl

theorem kinv_scale {a : ℝ} (h0 : 0 ≤ a) (h : a ≤ inMax) :
    Ideal.ofBits .f32 (IntOp.shli ArithUnit.vector (IntOp.addi (IntOp.subi 0#32
      (expWord ((a : EReal) * Ideal.ofBits .f32 0x3B124925#32))) 127#32) 23#32) = (((bscale a)⁻¹ : ℝ) : EReal) := by
  rw [inv448_word, ← EReal.coe_mul, inv_scale_word (mul_nonneg h0 inv448_pos.le) (quot_lt h)]; rfl

end Cert.Fp8
-- ==== Proof.Value.RefStages.lean ====
/- The reference's stages as functions of arrays: the quantiser of each argument, and the attention over the codes. -/
module

public import proofs.«01_k».proof.Proof.Gen.ReferenceIdeal.Value
public import proofs.«01_k».proof.Proof.Value.Conv
public import Idealize.ShloMosaic.Lib.StableHlo.RunRead
public import Idealize.ShloMosaic.Lib.Pipeline.ValueKit
public import Idealize.ShloMosaic.Lib.Claim

@[expose] public section

set_option maxRecDepth 16384

noncomputable section

namespace Cert.ReferenceIdeal.Val

open Cert.ReferenceIdeal Cert.ReferenceIdeal.Gen Idealize.ShloMosaic Idealize.ShloMosaic.TcCoe

section generic
variable {S : Shape} (h : S_.BroadcastsInDim S ![])

/-- A constant word over a shape. -/
def lit (w : BitVec 32) : FVec Ideal S .f32 := broadcastInDim S ![] h (constant S_ .f32 w)

/-- The scale of each largest magnitude. -/
def gScale (a : FVec Ideal S .f32) : FVec Ideal S .f32 :=
  Host.powf (lit h 0x40000000#32)
    (select (cmpf .olt (mulf a (lit h 0x3B124925#32)) (lit h 0x00800000#32)) (lit h 0x00000000#32)
      (addf (Host.floor (Host.divf (Host.log (mulf a (lit h 0x3B124925#32)))
        (broadcastInDim S ![] h (Host.log (constant S_ .f32 0x40000000#32))))) (lit h 0x3F800000#32)))

/-- The clip to ±448. -/
def gClip (a : FVec Ideal S .f32) : FVec Ideal S .f32 := minimumf (maximumf a (lit h 0xC3E00000#32)) (lit h 0x43E00000#32)
end generic

/-- The argument of a maximum fold's start. -/
def bot : FVec Ideal S_ .f32 := constant S_ .f32 0xFF800000#32
/-- The start of a sum. -/
def zero : FVec Ideal S_ .f32 := constant S_ .f32 0x00000000#32

/-- The queries by block, token, head and dim. -/
def xIn (A : FVec Ideal S8x2048x4096 .bf16) : FVec Ideal S8x16x128x32x128 .f32 :=
  shapeCast S8x16x128x32x128 (extf .f32 A bitsLt_bf16_f32 : FVec Ideal S8x2048x4096 .f32) shapeCasts_S8x2048x4096_S8x16x128x32x128
/-- The largest magnitude of each query block. -/
def xAmax (Y : FVec Ideal S8x16x128x32x128 .f32) : FVec Ideal S8x16x32 .f32 :=
  Host.reduce FloatOps.maximumf (Host.reduce FloatOps.maximumf (Host.absf Y) bot reducesTo_S8x16x128x32x128_S8x16x128x32_d4 h_S_) bot
    reducesTo_S8x16x128x32_S8x16x32_d2 h_S_
def xScale (A : FVec Ideal S8x2048x4096 .bf16) : FVec Ideal S8x16x32 .f32 := gScale bcast_S_S8x16x32 (xAmax (xIn A))
def xDiv (Y : FVec Ideal S8x16x128x32x128 .f32) (s : FVec Ideal S8x16x32 .f32) : FVec Ideal S8x16x128x32x128 .f32 :=
  Host.divf Y (broadcastInDim S8x16x128x32x128 ![0, 1, 2, 3, 4] bcast_S8x16x1x32x1_S8x16x128x32x128_0_1_2_3_4
    (broadcastInDim S8x16x1x32x1 ![0, 1, 3] bcast_S8x16x32_S8x16x1x32x1_0_1_3 s))
def xCode (A : FVec Ideal S8x2048x4096 .bf16) : FVec Ideal S8x16x128x32x128 .f32 := gClip bcast_S_S8x16x128x32x128 (xDiv (xIn A) (xScale A))
def xQ (A : FVec Ideal S8x2048x4096 .bf16) : FVec Ideal S8x2048x32x128 .f32 := shapeCast S8x2048x32x128 (xCode A) shapeCasts_S8x16x128x32x128_S8x2048x32x128
def xQS (A : FVec Ideal S8x2048x4096 .bf16) : FVec Ideal S8x32x16 .f32 := transpose S8x32x16 [0, 2, 1] (xScale A) transposes_S8x16x32_S8x32x16_0_2_1
/-- The query codes in the layout of the queries. -/
def xFlat (A : FVec Ideal S8x2048x4096 .bf16) : FVec Ideal S8x2048x4096 .f32 := shapeCast S8x2048x4096 (xQ A) shapeCasts_S8x2048x32x128_S8x2048x4096
/-- The query scales, one for each lane. -/
def xLanes (A : FVec Ideal S8x2048x4096 .bf16) : FVec Ideal S8x32x16x128 .f32 :=
  broadcastInDim S8x32x16x128 ![0, 1, 2, 3] bcast_S8x32x16x1_S8x32x16x128_0_1_2_3
    (broadcastInDim S8x32x16x1 ![0, 1, 2] bcast_S8x32x16_S8x32x16x1_0_1_2 (xQS A))

/-- The keys or the values by block, token, head and dim. -/
def kIn (A : FVec Ideal S8x2048x1024 .bf16) : FVec Ideal S8x16x128x8x128 .f32 :=
  shapeCast S8x16x128x8x128 (extf .f32 A bitsLt_bf16_f32 : FVec Ideal S8x2048x1024 .f32) shapeCasts_S8x2048x1024_S8x16x128x8x128
def kAmax (Y : FVec Ideal S8x16x128x8x128 .f32) : FVec Ideal S8x16x8 .f32 :=
  Host.reduce FloatOps.maximumf (Host.reduce FloatOps.maximumf (Host.absf Y) bot reducesTo_S8x16x128x8x128_S8x16x128x8_d4 h_S_) bot
    reducesTo_S8x16x128x8_S8x16x8_d2 h_S_
def kScale (A : FVec Ideal S8x2048x1024 .bf16) : FVec Ideal S8x16x8 .f32 := gScale bcast_S_S8x16x8 (kAmax (kIn A))
def kDiv (Y : FVec Ideal S8x16x128x8x128 .f32) (s : FVec Ideal S8x16x8 .f32) : FVec Ideal S8x16x128x8x128 .f32 :=
  Host.divf Y (broadcastInDim S8x16x128x8x128 ![0, 1, 2, 3, 4] bcast_S8x16x1x8x1_S8x16x128x8x128_0_1_2_3_4
    (broadcastInDim S8x16x1x8x1 ![0, 1, 3] bcast_S8x16x8_S8x16x1x8x1_0_1_3 s))
def kCode (A : FVec Ideal S8x2048x1024 .bf16) : FVec Ideal S8x16x128x8x128 .f32 := gClip bcast_S_S8x16x128x8x128 (kDiv (kIn A) (kScale A))
def kQ (A : FVec Ideal S8x2048x1024 .bf16) : FVec Ideal S8x2048x8x128 .f32 := shapeCast S8x2048x8x128 (kCode A) shapeCasts_S8x16x128x8x128_S8x2048x8x128
def kQS (A : FVec Ideal S8x2048x1024 .bf16) : FVec Ideal S8x8x16 .f32 := transpose S8x8x16 [0, 2, 1] (kScale A) transposes_S8x16x8_S8x8x16_0_2_1
def kFlat (A : FVec Ideal S8x2048x1024 .bf16) : FVec Ideal S8x2048x1024 .f32 := shapeCast S8x2048x1024 (kQ A) shapeCasts_S8x2048x8x128_S8x2048x1024
def kLanes (A : FVec Ideal S8x2048x1024 .bf16) : FVec Ideal S8x8x16x128 .f32 :=
  broadcastInDim S8x8x16x128 ![0, 1, 2, 3] bcast_S8x8x16x1_S8x8x16x128_0_1_2_3
    (broadcastInDim S8x8x16x1 ![0, 1, 2] bcast_S8x8x16_S8x8x16x1_0_1_2 (kQS A))
/-- Codes repeated for each query head. -/
def kRep (A : FVec Ideal S8x2048x1024 .bf16) : FVec Ideal S8x2048x32x128 .f32 :=
  shapeCast S8x2048x32x128 (broadcastInDim S8x2048x8x4x128 ![0, 1, 2, 4] bcast_S8x2048x8x128_S8x2048x8x4x128_0_1_2_4 (kQ A) : FVec Ideal S8x2048x8x4x128 .f32)
    shapeCasts_S8x2048x8x4x128_S8x2048x32x128
/-- Scales repeated for each query head. -/
def kSRep (A : FVec Ideal S8x2048x1024 .bf16) : FVec Ideal S8x32x16 .f32 :=
  shapeCast S8x32x16 (broadcastInDim S8x8x4x16 ![0, 1, 3] bcast_S8x8x16_S8x8x4x16_0_1_3 (kQS A) : FVec Ideal S8x8x4x16 .f32) shapeCasts_S8x8x4x16_S8x32x16

section attention
/-- A block scale at each token. -/
def tokens (s : FVec Ideal S8x32x16 .f32) : FVec Ideal S8x32x2048 .f32 :=
  shapeCast S8x32x2048 (broadcastInDim S8x32x16x128 ![0, 1, 2] bcast_S8x32x16_S8x32x16x128_0_1_2 s : FVec Ideal S8x32x16x128 .f32) shapeCasts_S8x32x16x128_S8x32x2048
/-- One number for each query, over the keys. -/
def overKeys (s : FVec Ideal S8x32x2048 .f32) : FVec Ideal S8x32x2048x2048 .f32 :=
  broadcastInDim S8x32x2048x2048 ![0, 1, 2, 3] bcast_S8x32x2048x1_S8x32x2048x2048_0_1_2_3
    (broadcastInDim S8x32x2048x1 ![0, 1, 2] bcast_S8x32x2048_S8x32x2048x1_0_1_2 s)
/-- One number for each key, over the queries. -/
def overQueries (s : FVec Ideal S8x32x2048 .f32) : FVec Ideal S8x32x2048x2048 .f32 :=
  broadcastInDim S8x32x2048x2048 ![0, 1, 2, 3] bcast_S8x32x1x2048_S8x32x2048x2048_0_1_2_3
    (broadcastInDim S8x32x1x2048 ![0, 1, 3] bcast_S8x32x2048_S8x32x1x2048_0_1_3 s)
def qk (Q K : FVec Ideal S8x2048x32x128 .f32) : FVec Ideal S8x32x2048x2048 .f32 :=
  Host.dotGeneral dot_S8x2048x32x128_S8x2048x32x128_S8x32x2048x2048_3_3_1_1_02_02 none Q K
def score (Q K : FVec Ideal S8x2048x32x128 .f32) (qs ks : FVec Ideal S8x32x16 .f32) : FVec Ideal S8x32x2048x2048 .f32 :=
  mulf (mulf (qk Q K) (overKeys (Host.divf (tokens qs) (broadcastInDim S8x32x2048 ![] bcast_S_S8x32x2048 (Host.sqrt (constant S_ .f32 0x43000000#32))))))
    (overQueries (tokens ks))
def prb (S : FVec Ideal S8x32x2048x2048 .f32) : FVec Ideal S8x32x2048x2048 .f32 :=
  Host.exp (subf S (overKeys (Host.reduce FloatOps.maximumf S bot reducesTo_S8x32x2048x2048_S8x32x2048_d3 h_S_)))
def den (P : FVec Ideal S8x32x2048x2048 .f32) : FVec Ideal S8x32x2048 .f32 := Host.reduceAdd P zero reducesTo_S8x32x2048x2048_S8x32x2048_d3 h_S_
/-- The probabilities by key block. -/
def byBlock (P : FVec Ideal S8x32x2048x2048 .f32) : FVec Ideal S8x32x2048x16x128 .f32 := shapeCast S8x32x2048x16x128 P shapeCasts_S8x32x2048x2048_S8x32x2048x16x128
/-- The largest probability of each block of queries and keys. -/
def pAmax (P : FVec Ideal S8x32x2048x16x128 .f32) : FVec Ideal S8x32x16x16 .f32 :=
  Host.reduce FloatOps.maximumf
    (shapeCast S8x32x16x128x16 (Host.reduce FloatOps.maximumf P bot reducesTo_S8x32x2048x16x128_S8x32x2048x16_d4 h_S_ : FVec Ideal S8x32x2048x16 .f32)
      shapeCasts_S8x32x2048x16_S8x32x16x128x16 : FVec Ideal S8x32x16x128x16 .f32) bot reducesTo_S8x32x16x128x16_S8x32x16x16_d3 h_S_
def pScale (P : FVec Ideal S8x32x2048x16x128 .f32) : FVec Ideal S8x32x16x16 .f32 := gScale bcast_S_S8x32x16x16 (pAmax P)
/-- The probability scale of each query and key block. -/
def pRows (s : FVec Ideal S8x32x16x16 .f32) : FVec Ideal S8x32x2048x16 .f32 :=
  shapeCast S8x32x2048x16 (broadcastInDim S8x32x16x128x16 ![0, 1, 2, 4] bcast_S8x32x16x16_S8x32x16x128x16_0_1_2_4 s : FVec Ideal S8x32x16x128x16 .f32)
    shapeCasts_S8x32x16x128x16_S8x32x2048x16
def pCode (P : FVec Ideal S8x32x2048x16x128 .f32) (r : FVec Ideal S8x32x2048x16 .f32) : FVec Ideal S8x32x2048x16x128 .f32 :=
  gClip bcast_S_S8x32x2048x16x128 (Host.divf P (broadcastInDim S8x32x2048x16x128 ![0, 1, 2, 3, 4] bcast_S8x32x2048x16x1_S8x32x2048x16x128_0_1_2_3_4
    (broadcastInDim S8x32x2048x16x1 ![0, 1, 2, 3] bcast_S8x32x2048x16_S8x32x2048x16x1_0_1_2_3 r)))
def vBlocks (V : FVec Ideal S8x2048x32x128 .f32) : FVec Ideal S8x16x128x32x128 .f32 := shapeCast S8x16x128x32x128 V shapeCasts_S8x2048x32x128_S8x16x128x32x128
def pv (C : FVec Ideal S8x32x2048x16x128 .f32) (V : FVec Ideal S8x16x128x32x128 .f32) : FVec Ideal S8x32x16x2048x128 .f32 :=
  Host.dotGeneral dot_S8x32x2048x16x128_S8x16x128x32x128_S8x32x16x2048x128_4_2_2_4_013_031 none C V
/-- The weight of each block's product. -/
def weight (r : FVec Ideal S8x32x2048x16 .f32) (vs : FVec Ideal S8x32x16 .f32) : FVec Ideal S8x32x16x2048 .f32 :=
  mulf (transpose S8x32x16x2048 [0, 1, 3, 2] r transposes_S8x32x2048x16_S8x32x16x2048_0_1_3_2)
    (broadcastInDim S8x32x16x2048 ![0, 1, 2, 3] bcast_S8x32x16x1_S8x32x16x2048_0_1_2_3
      (broadcastInDim S8x32x16x1 ![0, 1, 2] bcast_S8x32x16_S8x32x16x1_0_1_2 vs))
def acc (D : FVec Ideal S8x32x16x2048x128 .f32) (w : FVec Ideal S8x32x16x2048 .f32) : FVec Ideal S8x32x2048x128 .f32 :=
  Host.reduceAdd (mulf D (broadcastInDim S8x32x16x2048x128 ![0, 1, 2, 3, 4] bcast_S8x32x16x2048x1_S8x32x16x2048x128_0_1_2_3_4
      (broadcastInDim S8x32x16x2048x1 ![0, 1, 2, 3] bcast_S8x32x16x2048_S8x32x16x2048x1_0_1_2_3 w))) zero reducesTo_S8x32x16x2048x128_S8x32x2048x128_d2 h_S_
def quot (a : FVec Ideal S8x32x2048x128 .f32) (l : FVec Ideal S8x32x2048 .f32) : FVec Ideal S8x32x2048x128 .f32 :=
  Host.divf a (broadcastInDim S8x32x2048x128 ![0, 1, 2, 3] bcast_S8x32x2048x1_S8x32x2048x128_0_1_2_3
    (broadcastInDim S8x32x2048x1 ![0, 1, 2] bcast_S8x32x2048_S8x32x2048x1_0_1_2 l))
def outp (o : FVec Ideal S8x32x2048x128 .f32) : FVec Ideal S8x2048x4096 .bf16 :=
  truncf .bf16 (shapeCast S8x2048x4096 (transpose S8x2048x32x128 [0, 2, 1, 3] o transposes_S8x32x2048x128_S8x2048x32x128_0_2_1_3 : FVec Ideal S8x2048x32x128 .f32)
    shapeCasts_S8x2048x32x128_S8x2048x4096 : FVec Ideal S8x2048x4096 .f32) bitsLt_bf16_f32
/-- The output from the probabilities. -/
def fromP (P : FVec Ideal S8x32x2048x2048 .f32) (V : FVec Ideal S8x2048x32x128 .f32) (vs : FVec Ideal S8x32x16 .f32) : FVec Ideal S8x2048x4096 .bf16 :=
  outp (quot (acc (pv (pCode (byBlock P) (pRows (pScale (byBlock P)))) (vBlocks V)) (weight (pRows (pScale (byBlock P))) vs)) (den P))
end attention

/-- The attention output. -/
def yRef (X : FVec Ideal S8x2048x4096 .bf16) (K V : FVec Ideal S8x2048x1024 .bf16) : FVec Ideal S8x2048x4096 .bf16 :=
  fromP (prb (score (xQ X) (kRep K) (xQS X) (kSRep K))) (kRep V) (kSRep V)

end Cert.ReferenceIdeal.Val
-- ==== Proof.Value.Quant.lean ====
/- The kernel's quantised blocks, read at an index: codes and scales as real numbers. -/
module

public import proofs.«01_k».proof.Proof.KernelIdeal.Run
public import proofs.«01_k».proof.Proof.Value.Conv
public import Idealize.ShloMosaic.Lib.Pointwise.IndexBridge

@[expose] public section

set_option maxRecDepth 16384

noncomputable section

namespace Cert.KernelIdeal.Val

open Cert.KernelIdeal Cert.KernelIdeal.Gen Cert.Fp8 Idealize.ShloMosaic Idealize.ShloMosaic.TcCoe

section block
variable (B : FVec Ideal S1x128x128 .bf16) (t : Fin 128 → Fin 128 → ℝ) (hB : ∀ u d, B (ix3 0 u d) = ((t u d : ℝ) : EReal))
  (ht : ∀ u d, |t u d| ≤ inMax)
include hB

theorem amax_fold : Finset.univ.fold max (Ideal.ofBits FTy.f32 4286578688#32)
      (fun x : Fin 128 => Finset.univ.fold max (Ideal.ofBits FTy.f32 4286578688#32)
        (fun x_1 : Fin 128 => FloatOps.absf (F := Ideal) (φ := .f32) (B (ix3 0 x_1 x)))) = ((amax t : ℝ) : EReal) := by
  simp only [hB, absf_coe, fold_top]
  rw [top_comm]; rfl

theorem pay4_at : k0_pay4 (F := Ideal) B (ix2 0 0) = expWord (((amax t : ℝ) : EReal) * Ideal.ofBits .f32 0x3B124925#32) := by
  pointwise [k0_pay4, k0_pay3]
  rw [amax_fold B t hB]
  rfl

theorem pay94_at : Scalar.select (IntOp.cmpi CmpIPredicate.eq (IntOp.subi (k0_pay93 (F := Ideal) B (ix2 0 0)) 1#32) 0#32) (0#32)
    (IntOp.subi (IntOp.subi (k0_pay93 (F := Ideal) B (ix2 0 0)) 1#32) 126#32)
      = expWord (((amax t : ℝ) : EReal) * Ideal.ofBits .f32 0x3B124925#32) := by
  pointwise [k0_pay93, k0_pay92]
  rw [amax_fold B t hB]
  rfl

include ht

theorem codesBlk_at (u d : Fin 128) : codesBlk (F := Ideal) B (ix3 0 u d) = ((code t u d : ℝ) : EReal) := by
  pointwise [codesBlk, k0_pay7, k0_pay5, k0_pay6, k0_pay3]
  rw [pay4_at B t hB, kinv_scale (amax_nonneg t) (amax_le ht), hB, ← EReal.coe_mul, clip_coe]
  rfl

theorem codesTBlk_at (u d : Fin 128) : codesTBlk (F := Ideal) B (ix2 d u) = ((code t u d : ℝ) : EReal) := by
  pointwise [codesTBlk, k0_pay280, k0_pay95, k0_pay92, k0_pay94]
  rw [pay94_at B t hB, kinv_scale (amax_nonneg t) (amax_le ht), hB, ← EReal.coe_mul, clip_coe]
  rfl

theorem scaleRow_at (d : Fin 128) : scaleRow (F := Ideal) B (ix2 0 d) = ((bscale (amax t) : ℝ) : EReal) := by
  pointwise [scaleRow, k0_pay8]
  rw [pay4_at B t hB, kscale (amax_nonneg t) (amax_le ht)]

end block

section slab
variable (X : FVec Ideal S1x2048x128 .bf16) (x : Fin 2048 → Fin 128 → ℝ) (hX : ∀ i d, X (ix3 0 i d) = ((x i d : ℝ) : EReal))
  (hx : ∀ i d, |x i d| ≤ inMax)

/-- Block `n` of a slab. -/
def blkR (n : Fin 16) : Fin 128 → Fin 128 → ℝ := fun u d => x (key n u) d

/-- The codes of a slab. -/
def codeR (i : Fin 2048) (d : Fin 128) : ℝ := code (blkR x (keyBlk i)) (keyRow i) d
/-- The scale of a block of a slab. -/
def scaleR (n : Fin 16) : ℝ := bscale (amax (blkR x n))

include hX
theorem blk_at (n : Fin 16) (u d : Fin 128) : blk (F := Ideal) X n (ix3 0 u d) = ((blkR x n u d : ℝ) : EReal) := by
  rw [blkR, ← hX]
  have e1 : ((rBlk n).emb (ix3 0 u d) 1).val = 128 * n.val + u.val := by
    rw [Rect.emb_apply]; simp
  have e2 : ((rBlk n).emb (ix3 0 u d) 2).val = d.val := by
    rw [Rect.emb_apply]; simp
  refine congrArg X ?_
  funext a
  match a with
  | ⟨0, _⟩ => exact Fin.ext (by show 0 + 0 = 0; rfl)
  | ⟨1, _⟩ => exact Fin.ext e1
  | ⟨2, _⟩ => exact Fin.ext e2

include hx
theorem qCodes_at (i : Fin 2048) (d : Fin 128) : qCodes (F := Ideal) X (ix3 0 i d) = ((codeR x i d : ℝ) : EReal) :=
  codesBlk_at _ _ (blk_at X x hX (keyBlk i)) (fun u d => hx _ _) (keyRow i) d

theorem qCodesT_at (i : Fin 2048) (d : Fin 128) : qCodesT (F := Ideal) X (ix2 d i) = ((codeR x i d : ℝ) : EReal) :=
  codesTBlk_at _ _ (blk_at X x hX (keyBlk i)) (fun u d => hx _ _) (keyRow i) d

theorem qScales_at (n : Fin 16) (d : Fin 128) : qScales (F := Ideal) X (ix4 0 0 n d) = ((scaleR x n : ℝ) : EReal) :=
  scaleRow_at _ _ (blk_at X x hX n) (fun u d => hx _ _) d

end slab

end Cert.KernelIdeal.Val
-- ==== Proof.Value.Attend.lean ====
/- The kernel's attention of one chunk of queries, read at an index: the softmax numerators over the denominator, as
   real numbers. -/
module

public import proofs.«01_k».proof.Proof.KernelIdeal.Run
public import proofs.«01_k».proof.Proof.Value.Conv
public import Idealize.ShloMosaic.Lib.Pointwise.IndexBridge

@[expose] public section

set_option maxRecDepth 16384

noncomputable section

namespace Cert.KernelIdeal.Val

open Cert.KernelIdeal Cert.KernelIdeal.Gen Cert.Fp8 Idealize.ShloMosaic Idealize.ShloMosaic.TcCoe

theorem kconst_named : (Named.named (F := Ideal) κ "score_scale" 0x3E0293EE#32 : Ideal .f32) = ((kconst : ℝ) : EReal) :=
  IdealRules.named_const.ideal_named_scalar _ _ _ _ rfl

theorem key_mk (n : Fin 16) (v : Fin 128) (h : n.val * 128 + v.val < 2048) : (⟨n.val * 128 + v.val, h⟩ : Fin 2048) = key n v :=
  Fin.ext (by show n.val * 128 + v.val = 128 * n.val + v.val; omega)

section half
variable (ks : FVec Ideal S16x128 .f32) (q : FVec Ideal S1x1x1x128 .f32) (s : FVec Ideal S2048x128 .f32)
  (ksr : Fin 16 → ℝ) (qsr : ℝ) (S : Fin 16 → Fin 128 → Fin 128 → ℝ)
  (hks : ∀ n d, ks (ix2 n d) = ((ksr n : ℝ) : EReal)) (hq : ∀ u, q (ix4 0 0 0 u) = ((qsr : ℝ) : EReal))
  (hs : ∀ n v u, s (ix2 (key n v) u) = ((S n v u : ℝ) : EReal))
  (hq0 : 0 < qsr) (hk0 : ∀ n, 0 < ksr n)
include hks hq

theorem pay212_at (n : Fin 16) (u : Fin 128) : k0_pay212 (F := Ideal) ks q (ix2 n u) = ((c2 qsr ksr n : ℝ) : EReal) := by
  pointwise [k0_pay212]
  rw [hks, hq, kconst_named, ← EReal.coe_mul, ← EReal.coe_mul]
  rfl

include hs

theorem pay213_at (n : Fin 16) (u : Fin 128) : k0_pay213 (F := Ideal) ks q s (ix2 n u) = ((bmax S qsr ksr n u : ℝ) : EReal) := by
  pointwise [k0_pay213]
  simp only [key_mk, hs]
  rw [fold_top, pay212_at ks q ksr qsr hks hq, ← EReal.coe_mul]
  rfl

theorem pay214_at (u : Fin 128) : k0_pay214 (F := Ideal) ks q s (ix2 0 u) = ((kmax S qsr ksr u : ℝ) : EReal) := by
  pointwise [k0_pay214]
  simp only [pay213_at ks q s ksr qsr S hks hq hs]
  rw [fold_top]
  rfl

theorem pay215_at (n : Fin 16) : k0_pay215 (F := Ideal) ks q s (ix2 n 0)
    = ((kpmax S qsr ksr n : ℝ) : EReal) * Ideal.ofBits .f32 0x3B124925#32 := by
  pointwise [k0_pay215]
  simp only [pay213_at ks q s ksr qsr S hks hq hs, pay214_at ks q s ksr qsr S hks hq hs, ← EReal.coe_sub]
  rw [fold_top]
  rfl

theorem pay217_at (n : Fin 16) : k0_pay217 (F := Ideal) (k0_pay215 ks q s) k0_pay216 (ix2 n 0)
    = expWord (((kpmax S qsr ksr n : ℝ) : EReal) * Ideal.ofBits .f32 0x3B124925#32) := by
  pointwise [k0_pay217, k0_pay216]
  refine Eq.trans (b := expWord (k0_pay215 (F := Ideal) ks q s (ix2 n 0))) rfl ?_
  rw [pay215_at ks q s ksr qsr S hks hq hs]

include hq0 hk0

omit hks hq hs in
theorem kpmax_bounds (n : Fin 16) : 0 ≤ kpmax S qsr ksr n ∧ kpmax S qsr ksr n ≤ inMax := by
  rw [kpmax_eq S hq0 hk0]
  have := pmax_bounds S (qs := qsr) (ks := ksr) n
  refine ⟨this.1, this.2.trans ?_⟩
  unfold inMax; norm_num

theorem halfOff_at (n : Fin 16) (u : Fin 128) : halfOff (F := Ideal) ks q s (ix2 n u)
    = ((kmax S qsr ksr u + (expo (kpmax S qsr ksr n * inv448) : ℝ) : ℝ) : EReal) := by
  have hb := kpmax_bounds ksr qsr S hq0 hk0 n
  pointwise [halfOff, k0_pay220]
  rw [pay217_at ks q s ksr qsr S hks hq hs, pay214_at ks q s ksr qsr S hks hq hs, inv448_word, ← EReal.coe_mul,
    expWord_coe (mul_nonneg hb.1 inv448_pos.le) (quot_lt hb.2)]
  show _ + (((BitVec.ofInt 32 _).toInt : ℝ) : EReal) = _
  rw [toInt_expo (quot_lt hb.2), ← EReal.coe_add]

theorem halfPs_at (n : Fin 16) (u : Fin 128) : halfPs (F := Ideal) ks q s (ix2 n u) = ((bscale (kpmax S qsr ksr n) : ℝ) : EReal) := by
  have hb := kpmax_bounds ksr qsr S hq0 hk0 n
  pointwise [halfPs, k0_pay221, k0_pay218]
  rw [pay217_at ks q s ksr qsr S hks hq hs, kscale hb.1 hb.2]

theorem halfW_at (vs : FVec Ideal S1x1x16x128 .f32) (vsr : Fin 16 → ℝ) (hvs : ∀ n d, vs (ix4 0 0 n d) = ((vsr n : ℝ) : EReal))
    (n : Fin 16) (u : Fin 128) :
    halfW (F := Ideal) ks vs q s (ix2 n u) = ((bscale (kpmax S qsr ksr n) * vsr n : ℝ) : EReal) := by
  have hb := kpmax_bounds ksr qsr S hq0 hk0 n
  pointwise [halfW, k0_pay223, k0_pay222, k0_pay218, k0_pay1]
  rw [pay217_at ks q s ksr qsr S hks hq hs, kscale hb.1 hb.2, hvs, ← EReal.coe_mul]

end half

section sweep
variable (s : FVec Ideal S2048x256 .f32) (C2 Off Ps W : FVec Ideal S16x256 .f32) (VT : FVec Ideal S128x2048 .fp8e4m3)
  (i : Fin 256) (d : Fin 128) (T : Fin 16 → Fin 128 → ℝ) (c o p w : Fin 16 → ℝ) (V : Fin 16 → Fin 128 → ℝ)
  (hs : ∀ n v, s (ix2 (key n v) i) = ((T n v : ℝ) : EReal)) (hc : ∀ n, C2 (ix2 n i) = ((c n : ℝ) : EReal))
  (ho : ∀ n, Off (ix2 n i) = ((o n : ℝ) : EReal)) (hp : ∀ n, Ps (ix2 n i) = ((p n : ℝ) : EReal))
  (hw : ∀ n, W (ix2 n i) = ((w n : ℝ) : EReal)) (hV : ∀ n v, VT (ix2 d (key n v)) = ((V n v : ℝ) : EReal))

theorem rowAt_at (C : FVec Ideal S16x256 .f32) (n : Fin 16) : rowAt (F := Ideal) C n.val (ix2 0 i) = C (ix2 n i) := by
  have h := n.isLt
  refine congrArg C (funext fun a => ?_)
  match a with
  | ⟨0, _⟩ => exact Fin.ext (by show (n.val + 0) % 16 = n.val; omega)
  | ⟨1, _⟩ => rfl

theorem sAt_at (n : Fin 16) (v : Fin 128) : sAt (F := Ideal) s (128 * n.val) (ix2 v i) = s (ix2 (key n v) i) := by
  have h := n.isLt; have h' := v.isLt
  refine congrArg s (funext fun a => ?_)
  match a with
  | ⟨0, _⟩ => exact Fin.ext (by show (128 * n.val + v.val) % 2048 = 128 * n.val + v.val; omega)
  | ⟨1, _⟩ => rfl

theorem vtAt_at (n : Fin 16) (v : Fin 128) : vtAt (F := Ideal) VT (128 * n.val) (ix2 d v) = VT (ix2 d (key n v)) := by
  have h := n.isLt; have h' := v.isLt
  refine congrArg VT (funext fun a => ?_)
  match a with
  | ⟨0, _⟩ => rfl
  | ⟨1, _⟩ => exact Fin.ext (by show (128 * n.val + v.val) % 2048 = 128 * n.val + v.val; omega)

/-- A scaled probability of the sweep. -/
def swProb (n : Fin 16) (v : Fin 128) : ℝ := (2 : ℝ) ^ (T n v * c n - o n)

include hs hc ho

theorem exp2_at (n : Fin 16) (v : Fin 128) :
    FloatOps.exp2 (F := Ideal) (φ := .f32) (sAt (F := Ideal) s (128 * n.val) (ix2 v i) * rowAt (F := Ideal) C2 n.val (ix2 0 i)
      - rowAt (F := Ideal) Off n.val (ix2 0 i)) = ((swProb T c o n v : ℝ) : EReal) := by
  rw [sAt_at, rowAt_at, rowAt_at, hs, hc, ho, ← EReal.coe_mul, ← EReal.coe_sub]
  rfl

theorem probAt_at (n : Fin 16) (v : Fin 128) : probAt (F := Ideal) s C2 Off n.val (ix2 v i) = ((swProb T c o n v : ℝ) : EReal) := by
  pointwise [probAt, k0_pay238]
  exact exp2_at s C2 Off i T c o hs hc ho n v

include hp

theorem denAt_at (k : ℕ) (hk : k ≤ 16) : denAt (F := Ideal) s C2 Off Ps k (ix2 0 i)
    = ((∑ n : Fin 16, if n.val < k then (∑ v, swProb T c o n v) * p n else 0 : ℝ) : EReal) := by
  induction k with
  | zero =>
    pointwise [denAt, k0_pay237]
    simp
  | succ k ih =>
    have ih := ih (by omega)
    obtain ⟨m, rfl⟩ : ∃ m : Fin 16, m.val = k := ⟨⟨k, hk⟩, rfl⟩
    have e : denAt (F := Ideal) s C2 Off Ps (m.val + 1) = k0_pay244 (denAt s C2 Off Ps m.val) (sAt s (128 * m.val))
      (rowAt C2 m.val) (rowAt Off m.val) (rowAt Ps m.val) := rfl
    rw [e]
    pointwise [k0_pay244, k0_pay243]
    simp only [exp2_at s C2 Off i T c o hs hc ho]
    rw [ih, rowAt_at, hp, sum_coe, ← EReal.coe_mul, ← EReal.coe_add]
    congr 1
    rw [← Finset.sum_filter, ← Finset.sum_filter]
    have : (Finset.univ.filter fun n : Fin 16 => n.val < m.val + 1) = insert m (Finset.univ.filter fun n : Fin 16 => n.val < m.val) := by
      ext n
      simp only [Finset.mem_filter, Finset.mem_univ, true_and, Finset.mem_insert, Fin.ext_iff]
      omega
    rw [this, Finset.sum_insert (by simp), add_comm]

omit hp
include hw hV

theorem numAt_at (k : ℕ) (hk : k ≤ 16) : numAt (F := Ideal) s C2 Off W VT k (ix2 d i)
    = ((∑ n : Fin 16, if n.val < k then (∑ v, V n v * clip (swProb T c o n v)) * w n else 0 : ℝ) : EReal) := by
  induction k with
  | zero =>
    pointwise [numAt, k0_pay236]
    simp
  | succ k ih =>
    have ih := ih (by omega)
    obtain ⟨m, rfl⟩ : ∃ m : Fin 16, m.val = k := ⟨⟨k, hk⟩, rfl⟩
    have e : numAt (F := Ideal) s C2 Off W VT (m.val + 1) = k0_pay239 (numAt s C2 Off W VT m.val)
      (probAt s C2 Off m.val) (vtAt VT (128 * m.val)) (rowAt W m.val) := rfl
    rw [e]
    pointwise [k0_pay239]
    simp only [probAt_at s C2 Off i T c o hs hc ho, vtAt_at, hV, clip_coe, ← EReal.coe_mul]
    rw [ih, rowAt_at, hw, sum_coe, ← EReal.coe_mul, ← EReal.coe_add]
    congr 1
    rw [← Finset.sum_filter, ← Finset.sum_filter]
    have : (Finset.univ.filter fun n : Fin 16 => n.val < m.val + 1) = insert m (Finset.univ.filter fun n : Fin 16 => n.val < m.val) := by
      ext n
      simp only [Finset.mem_filter, Finset.mem_univ, true_and, Finset.mem_insert, Fin.ext_iff]
      omega
    rw [this, Finset.sum_insert (by simp), add_comm]

include hp

/-- The sweep over the key blocks, at one query and one feature. -/
theorem sweep_at (hden : (∑ n, (∑ v, swProb T c o n v) * p n) ≠ 0) : sweep (F := Ideal) s C2 Off Ps W VT (ix3 0 i d)
    = (((∑ n, (∑ v, V n v * clip (swProb T c o n v)) * w n) / (∑ n, (∑ v, swProb T c o n v) * p n) : ℝ) : EReal) := by
  have hd := denAt_at s C2 Off Ps i T c o p hs hc ho hp 16 le_rfl
  have hn := numAt_at s C2 Off W VT i d T c o w V hs hc ho hw hV 16 le_rfl
  have e : sweep (F := Ideal) s C2 Off Ps W VT (ix3 0 i d)
      = Ideal.div (numAt (F := Ideal) s C2 Off W VT 16 (ix2 d i)) (denAt (F := Ideal) s C2 Off Ps 16 (ix2 0 i)) := by
    have e1 : denAt (F := Ideal) s C2 Off Ps 16 = k0_pay244 (denAt s C2 Off Ps 15) (sAt s (128 * 15))
      (rowAt C2 15) (rowAt Off 15) (rowAt Ps 15) := rfl
    have e2 : numAt (F := Ideal) s C2 Off W VT 16 = k0_pay239 (numAt s C2 Off W VT 15)
      (probAt s C2 Off 15) (vtAt VT 1920) (rowAt W 15) := rfl
    rw [e1, e2]
    unfold sweep
    pointwise [k0_pay2, k0_pay239, k0_pay244, k0_pay243, probAt, k0_pay238]
  rw [e, hd, hn]
  simp only [Fin.is_lt, if_true]
  rw [div_coe_coe _ hden]

end sweep

end Cert.KernelIdeal.Val
-- ==== Proof.Value.YBlk.lean ====
/- The attention block of one query head, read at an index: what it computes from its three slabs, as real numbers. -/
module

public import proofs.«01_k».proof.Proof.Value.Quant
public import proofs.«01_k».proof.Proof.Value.Attend

@[expose] public section

set_option maxRecDepth 16384

noncomputable section

namespace Cert.KernelIdeal.Val

open Cert.KernelIdeal Cert.KernelIdeal.Gen Cert.Fp8 Idealize.ShloMosaic Idealize.ShloMosaic.TcCoe

/-- The products of the codes of one block of queries with all keys. -/
def raws (Q K : Fin 2048 → Fin 128 → ℝ) (I : Fin 16) : Fin 16 → Fin 128 → Fin 128 → ℝ :=
  fun n v u => ∑ d, K (key n v) d * Q (key I u) d

/-- The attention of query `r`, feature `d`, from codes and scales. -/
def attR (Q K V : Fin 2048 → Fin 128 → ℝ) (qs ks vs : Fin 16 → ℝ) (r : Fin 2048) (d : Fin 128) : ℝ :=
  num (raws Q K (keyBlk r)) (qs (keyBlk r)) ks vs (fun n v => V (key n v) d) (keyRow r)
    / den (raws Q K (keyBlk r)) (qs (keyBlk r)) ks (keyRow r)

section
variable (ks : FVec Ideal S16x128 .f32) (vs : FVec Ideal S1x1x16x128 .f32) (KC : FVec Ideal S1x2048x128 .fp8e4m3)
  (VT : FVec Ideal S128x2048 .fp8e4m3) (Q : FVec Ideal S1x2048x128 .fp8e4m3) (QS : FVec Ideal S1x1x16x128 .f32)
  (qr kr vr : Fin 2048 → Fin 128 → ℝ) (qsr ksr vsr : Fin 16 → ℝ)
  (hks : ∀ n d, ks (ix2 n d) = ((ksr n : ℝ) : EReal)) (hvs : ∀ n d, vs (ix4 0 0 n d) = ((vsr n : ℝ) : EReal))
  (hqs : ∀ n d, QS (ix4 0 0 n d) = ((qsr n : ℝ) : EReal))
  (hK : ∀ j d, KC (ix3 0 j d) = ((kr j d : ℝ) : EReal)) (hV : ∀ j d, VT (ix2 d j) = ((vr j d : ℝ) : EReal))
  (hQ : ∀ j d, Q (ix3 0 j d) = ((qr j d : ℝ) : EReal))
  (hq0 : ∀ n, 0 < qsr n) (hk0 : ∀ n, 0 < ksr n)

/-- Query `i` of chunk `k`. -/
def inChunkAt (k : Fin k0_t1_loop.trips) (i : Fin 256) : Fin 2048 :=
  ⟨256 * k.val + i.val, by have := lt_of_lt_of_eq k.isLt trips_eq; have := i.isLt; omega⟩

theorem qChunk_at (k : Fin k0_t1_loop.trips) (i : Fin 256) (d : Fin 128) :
    qChunk (F := Ideal) Q k (ix3 0 i d) = Q (ix3 0 (inChunkAt k i) d) := by
  have hoff := k0_off1_eq k
  refine congrArg Q (funext fun a => ?_)
  match a with
  | ⟨0, _⟩ => exact Fin.ext (by show k0_off1 k 0 + 1 * 0 = 0; rw [show k0_off1 k 0 = 0 from congrFun hoff 0])
  | ⟨1, _⟩ => exact Fin.ext (by show k0_off1 k 1 + 1 * i.val = 256 * k.val + i.val; rw [show k0_off1 k 1 = 256 * k.val from congrFun hoff 1]; omega)
  | ⟨2, _⟩ => exact Fin.ext (by show k0_off1 k 2 + 1 * d.val = d.val; rw [show k0_off1 k 2 = 0 from congrFun hoff 2]; omega)

/-- The first and the second block of chunk `k`. -/
def blk0 (k : Fin k0_t1_loop.trips) : Fin 16 := ⟨2 * k.val, by have := lt_of_lt_of_eq k.isLt trips_eq; omega⟩
def blk1 (k : Fin k0_t1_loop.trips) : Fin 16 := ⟨2 * k.val + 1, by have := lt_of_lt_of_eq k.isLt trips_eq; omega⟩

theorem off2_0 (k : Fin k0_t1_loop.trips) : k0_off2 k 0#32 = ![0, 0, 2 * k.val, 0] := by
  revert k; decide
theorem off2_1 (k : Fin k0_t1_loop.trips) : k0_off2 k 1#32 = ![0, 0, 2 * k.val + 1, 0] := by
  revert k; decide

theorem qsRow0_at (k : Fin k0_t1_loop.trips) (u : Fin 128) : qsRow0 (F := Ideal) QS k (ix4 0 0 0 u) = QS (ix4 0 0 (blk0 k) u) := by
  have hoff := off2_0 k
  refine congrArg QS (funext fun a => ?_)
  match a with
  | ⟨0, _⟩ => exact Fin.ext (by show k0_off2 k 0#32 0 + 1 * 0 = 0; rw [show k0_off2 k 0#32 0 = 0 from congrFun hoff 0])
  | ⟨1, _⟩ => exact Fin.ext (by show k0_off2 k 0#32 1 + 1 * 0 = 0; rw [show k0_off2 k 0#32 1 = 0 from congrFun hoff 1])
  | ⟨2, _⟩ => exact Fin.ext (by show k0_off2 k 0#32 2 + 1 * 0 = 2 * k.val; rw [show k0_off2 k 0#32 2 = 2 * k.val from congrFun hoff 2]; omega)
  | ⟨3, _⟩ => exact Fin.ext (by show k0_off2 k 0#32 3 + 1 * u.val = u.val; rw [show k0_off2 k 0#32 3 = 0 from congrFun hoff 3]; omega)

theorem qsRow1_at (k : Fin k0_t1_loop.trips) (u : Fin 128) : qsRow1 (F := Ideal) QS k (ix4 0 0 0 u) = QS (ix4 0 0 (blk1 k) u) := by
  have hoff := off2_1 k
  refine congrArg QS (funext fun a => ?_)
  match a with
  | ⟨0, _⟩ => exact Fin.ext (by show k0_off2 k 1#32 0 + 1 * 0 = 0; rw [show k0_off2 k 1#32 0 = 0 from congrFun hoff 0])
  | ⟨1, _⟩ => exact Fin.ext (by show k0_off2 k 1#32 1 + 1 * 0 = 0; rw [show k0_off2 k 1#32 1 = 0 from congrFun hoff 1])
  | ⟨2, _⟩ => exact Fin.ext (by show k0_off2 k 1#32 2 + 1 * 0 = 2 * k.val + 1; rw [show k0_off2 k 1#32 2 = 2 * k.val + 1 from congrFun hoff 2])
  | ⟨3, _⟩ => exact Fin.ext (by show k0_off2 k 1#32 3 + 1 * u.val = u.val; rw [show k0_off2 k 1#32 3 = 0 from congrFun hoff 3]; omega)

/-- The sweep with the kernel's tables is the attention of the reals. -/
theorem sweep_tables (s : FVec Ideal S2048x256 .f32) (C2 Off Ps W : FVec Ideal S16x256 .f32) (VT : FVec Ideal S128x2048 .fp8e4m3)
    (i : Fin 256) (u d : Fin 128) (S : Fin 16 → Fin 128 → Fin 128 → ℝ) (q : ℝ) (V : Fin 16 → Fin 128 → ℝ)
    (hq : 0 < q) (hk0 : ∀ n, 0 < ksr n)
    (hs : ∀ n v, s (ix2 (key n v) i) = ((S n v u : ℝ) : EReal)) (hc : ∀ n, C2 (ix2 n i) = ((c2 q ksr n : ℝ) : EReal))
    (ho : ∀ n, Off (ix2 n i) = ((kmax S q ksr u + (expo (kpmax S q ksr n * inv448) : ℝ) : ℝ) : EReal))
    (hp : ∀ n, Ps (ix2 n i) = ((bscale (kpmax S q ksr n) : ℝ) : EReal))
    (hw : ∀ n, W (ix2 n i) = ((bscale (kpmax S q ksr n) * vsr n : ℝ) : EReal))
    (hV : ∀ n v, VT (ix2 d (key n v)) = ((V n v : ℝ) : EReal)) :
    sweep (F := Ideal) s C2 Off Ps W VT (ix3 0 i d) = ((num S q ksr vsr V u / den S q ksr u : ℝ) : EReal) := by
  have hprob : ∀ n v, swProb (fun n v => S n v u) (c2 q ksr) (fun n => kmax S q ksr u + (expo (kpmax S q ksr n * inv448) : ℝ)) n v
      = kprob S q ksr n v u := fun n v => rfl
  have hden : (∑ n, (∑ v, swProb (fun n v => S n v u) (c2 q ksr) (fun n => kmax S q ksr u + (expo (kpmax S q ksr n * inv448) : ℝ)) n v)
      * bscale (kpmax S q ksr n)) = den S q ksr u := by
    refine Eq.trans (Finset.sum_congr rfl fun n _ => ?_) (den_kernel S hq hk0 u)
    show (∑ v, kprob S q ksr n v u) * bscale (kpmax S q ksr n) = _
    rw [kpmax_eq S hq hk0]
  rw [sweep_at s C2 Off Ps W VT i d (fun n v => S n v u) (c2 q ksr) (fun n => kmax S q ksr u + (expo (kpmax S q ksr n * inv448) : ℝ))
    (fun n => bscale (kpmax S q ksr n)) (fun n => bscale (kpmax S q ksr n) * vsr n) V hs hc ho hp hw hV
    (by rw [hden]; exact (den_pos S q ksr u).ne'), hden]
  congr 2
  unfold num
  refine Finset.sum_congr rfl fun n _ => ?_
  show (∑ v, V n v * clip (kprob S q ksr n v u)) * (bscale (kpmax S q ksr n) * vsr n) = _
  rw [kpmax_eq S hq hk0]
  congr 1
  refine Finset.sum_congr rfl fun v _ => ?_
  rw [kprob_eq S hq hk0, mul_comm]

include hks hvs hqs hK hV hQ hq0 hk0

theorem score_at (k : Fin k0_t1_loop.trips) (I : Fin 16) (i : Fin 256) (u : Fin 128) (h : inChunkAt k i = key I u)
    (n : Fin 16) (v : Fin 128) :
    k0_pay211 (F := Ideal) KC (qChunk (F := Ideal) Q k) (ix2 (key n v) i) = ((raws qr kr I n v u : ℝ) : EReal) := by
  pointwise [k0_pay211]
  simp only [qChunk_at, hK, hQ, h, ← EReal.coe_mul]
  rw [sum_coe]
  rfl

omit hvs hqs hK hV hQ hq0 in
/-- The sweep at one lane whose tables are those of one half. -/
theorem half_lane (hvs : ∀ n d, vs (ix4 0 0 n d) = ((vsr n : ℝ) : EReal)) (s : FVec Ideal S2048x256 .f32) (C2 Off Ps W : FVec Ideal S16x256 .f32)
    (qrow : FVec Ideal S1x1x1x128 .f32) (qv : ℝ) (hqrow : ∀ u, qrow (ix4 0 0 0 u) = ((qv : ℝ) : EReal)) (hqv : 0 < qv)
    (S : Fin 16 → Fin 128 → Fin 128 → ℝ) (hf : FVec Ideal S2048x128 .f32) (hS : ∀ n v u, hf (ix2 (key n v) u) = ((S n v u : ℝ) : EReal))
    (i : Fin 256) (u d : Fin 128) (V : Fin 16 → Fin 128 → ℝ) (hV : ∀ n v, VT (ix2 d (key n v)) = ((V n v : ℝ) : EReal))
    (hs : ∀ n v, s (ix2 (key n v) i) = ((S n v u : ℝ) : EReal)) (hc : ∀ n, C2 (ix2 n i) = halfC2 (F := Ideal) ks qrow (ix2 n u))
    (ho : ∀ n, Off (ix2 n i) = halfOff (F := Ideal) ks qrow hf (ix2 n u)) (hp : ∀ n, Ps (ix2 n i) = halfPs (F := Ideal) ks qrow hf (ix2 n u))
    (hw : ∀ n, W (ix2 n i) = halfW (F := Ideal) ks vs qrow hf (ix2 n u)) :
    sweep (F := Ideal) s C2 Off Ps W VT (ix3 0 i d) = ((num S qv ksr vsr V u / den S qv ksr u : ℝ) : EReal) := by
  refine sweep_tables ksr vsr s C2 Off Ps W VT i u d S qv V hqv hk0 hs ?_ ?_ ?_ ?_ hV
  · intro n
    rw [hc]
    pointwise [halfC2, k0_pay219]
    exact pay212_at ks qrow ksr qv hks hqrow n u
  · intro n; rw [ho]; exact halfOff_at ks qrow hf ksr qv S hks hqrow hS hqv hk0 n u
  · intro n; rw [hp]; exact halfPs_at ks qrow hf ksr qv S hks hqrow hS hqv hk0 n u
  · intro n; rw [hw]; exact halfW_at ks qrow hf ksr qv S hks hqrow hS hqv hk0 vs vsr hvs n u

omit hks hvs hqs hK hV hQ hq0 hk0 in
theorem halfAt_at (s : FVec Ideal S2048x256 .f32) (o : ℕ) (j : Fin 2048) (u : Fin 128) (i : Fin 256) (h : (o + u.val) % 256 = i.val) :
    halfAt (F := Ideal) s o (ix2 j u) = s (ix2 j i) := by
  refine congrArg s (funext fun a => ?_)
  match a with
  | ⟨0, _⟩ => rfl
  | ⟨1, _⟩ => exact Fin.ext h

omit hks hvs hqs hK hV hQ hq0 hk0 in
theorem beside_lo (a b : FVec Ideal S16x128 .f32) (n : Fin 16) (i : Fin 256) (u : Fin 128) (h : i.val = u.val) :
    beside (F := Ideal) a b (ix2 n i) = a (ix2 n u) := by
  have hu := u.isLt
  refine (dif_pos (show i.val < 128 by omega)).trans (congrArg a (funext fun x => ?_))
  match x with
  | ⟨0, _⟩ => rfl
  | ⟨1, _⟩ => exact Fin.ext h

omit hks hvs hqs hK hV hQ hq0 hk0 in
theorem beside_hi (a b : FVec Ideal S16x128 .f32) (n : Fin 16) (i : Fin 256) (u : Fin 128) (h : i.val = 128 + u.val) :
    beside (F := Ideal) a b (ix2 n i) = b (ix2 n u) := by
  have hu := u.isLt
  refine (dif_neg (show ¬ i.val < 128 by omega)).trans (congrArg b (funext fun x => ?_))
  match x with
  | ⟨0, _⟩ => rfl
  | ⟨1, _⟩ => exact Fin.ext (by show (i.val - 128) % 128 = u.val; omega)

/-- The first query block of a chunk. -/
theorem attend_lo (k : Fin k0_t1_loop.trips) (i : Fin 256) (u d : Fin 128) (h : i.val = u.val) :
    attend (F := Ideal) ks vs KC VT (qChunk Q k) (qsRow0 QS k) (qsRow1 QS k) (ix3 0 i d)
      = ((num (raws qr kr (blk0 k)) (qsr (blk0 k)) ksr vsr (fun n v => vr (key n v) d) u
          / den (raws qr kr (blk0 k)) (qsr (blk0 k)) ksr u : ℝ) : EReal) := by
  have hsc : ∀ (i : Fin 256) (u : Fin 128), i.val = u.val → ∀ n v, k0_pay211 (F := Ideal) KC (qChunk (F := Ideal) Q k) (ix2 (key n v) i)
      = ((raws qr kr (blk0 k) n v u : ℝ) : EReal) := fun i u h =>
    score_at ks vs KC VT Q QS qr kr vr qsr ksr vsr hks hvs hqs hK hV hQ hq0 hk0 k (blk0 k) i u
      (Fin.ext (by show 256 * k.val + i.val = 128 * (2 * k.val) + u.val; omega))
  refine half_lane ks vs VT ksr vsr hks hk0 hvs _ _ _ _ _ (qsRow0 (F := Ideal) QS k) (qsr (blk0 k)) (fun u => by rw [qsRow0_at, hqs]) (hq0 _)
    (raws qr kr (blk0 k)) (halfAt (F := Ideal) (k0_pay211 (F := Ideal) KC (qChunk (F := Ideal) Q k)) 0) ?_ i u d _ (fun n v => hV _ _)
    (hsc i u h) (fun n => beside_lo _ _ n i u h) (fun n => beside_lo _ _ n i u h) (fun n => beside_lo _ _ n i u h) (fun n => beside_lo _ _ n i u h)
  intro n v u
  have hu := u.isLt
  rw [halfAt_at _ 0 (key n v) u ⟨u.val, by omega⟩ (by show (0 + u.val) % 256 = u.val; omega)]
  exact hsc ⟨u.val, by omega⟩ u rfl n v

/-- The second query block of a chunk. -/
theorem attend_hi (k : Fin k0_t1_loop.trips) (i : Fin 256) (u d : Fin 128) (h : i.val = 128 + u.val) :
    attend (F := Ideal) ks vs KC VT (qChunk Q k) (qsRow0 QS k) (qsRow1 QS k) (ix3 0 i d)
      = ((num (raws qr kr (blk1 k)) (qsr (blk1 k)) ksr vsr (fun n v => vr (key n v) d) u
          / den (raws qr kr (blk1 k)) (qsr (blk1 k)) ksr u : ℝ) : EReal) := by
  have hsc : ∀ (i : Fin 256) (u : Fin 128), i.val = 128 + u.val → ∀ n v, k0_pay211 (F := Ideal) KC (qChunk (F := Ideal) Q k) (ix2 (key n v) i)
      = ((raws qr kr (blk1 k) n v u : ℝ) : EReal) := fun i u h =>
    score_at ks vs KC VT Q QS qr kr vr qsr ksr vsr hks hvs hqs hK hV hQ hq0 hk0 k (blk1 k) i u
      (Fin.ext (by show 256 * k.val + i.val = 128 * (2 * k.val + 1) + u.val; omega))
  refine half_lane ks vs VT ksr vsr hks hk0 hvs _ _ _ _ _ (qsRow1 (F := Ideal) QS k) (qsr (blk1 k)) (fun u => by rw [qsRow1_at, hqs]) (hq0 _)
    (raws qr kr (blk1 k)) (halfAt (F := Ideal) (k0_pay211 (F := Ideal) KC (qChunk (F := Ideal) Q k)) 128) ?_ i u d _ (fun n v => hV _ _)
    (hsc i u h) (fun n => beside_hi _ _ n i u h) (fun n => beside_hi _ _ n i u h) (fun n => beside_hi _ _ n i u h) (fun n => beside_hi _ _ n i u h)
  intro n v u
  have hu := u.isLt
  rw [halfAt_at _ 128 (key n v) u ⟨128 + u.val, by omega⟩ (by show (128 + u.val) % 256 = 128 + u.val; omega)]
  exact hsc ⟨128 + u.val, by omega⟩ u rfl n v

theorem attend_at (k : Fin k0_t1_loop.trips) (i : Fin 256) (d : Fin 128) :
    attend (F := Ideal) ks vs KC VT (qChunk Q k) (qsRow0 QS k) (qsRow1 QS k) (ix3 0 i d)
      = ((attR qr kr vr qsr ksr vsr (inChunkAt k i) d : ℝ) : EReal) := by
  have hi := i.isLt
  have hkk : k.val < 8 := lt_of_lt_of_eq k.isLt trips_eq
  unfold attR
  by_cases h : i.val < 128
  · have eb : keyBlk (inChunkAt k i) = blk0 k := Fin.ext (by show (256 * k.val + i.val) / 128 = 2 * k.val; omega)
    have er : keyRow (inChunkAt k i) = ⟨i.val, h⟩ := Fin.ext (by show (256 * k.val + i.val) % 128 = i.val; omega)
    rw [eb, er]
    exact attend_lo ks vs KC VT Q QS qr kr vr qsr ksr vsr hks hvs hqs hK hV hQ hq0 hk0 k i ⟨i.val, h⟩ d rfl
  · have eb : keyBlk (inChunkAt k i) = blk1 k := Fin.ext (by show (256 * k.val + i.val) / 128 = 2 * k.val + 1; omega)
    have er : keyRow (inChunkAt k i) = ⟨i.val - 128, by omega⟩ := Fin.ext (by show (256 * k.val + i.val) % 128 = i.val - 128; omega)
    rw [eb, er]
    exact attend_hi ks vs KC VT Q QS qr kr vr qsr ksr vsr hks hvs hqs hK hV hQ hq0 hk0 k i ⟨i.val - 128, by omega⟩ d
      (by show i.val = 128 + (i.val - 128); omega)

theorem yOut_at (r : Fin 2048) (d : Fin 128) :
    yOut (F := Ideal) ks vs KC VT Q QS (ix3 0 r d) = ((attR qr kr vr qsr ksr vsr r d : ℝ) : EReal) := by
  have e : inChunkAt (chunkOf r) (inChunk r) = r := Fin.ext (Nat.div_add_mod _ _)
  have := attend_at ks vs KC VT Q QS qr kr vr qsr ksr vsr hks hvs hqs hK hV hQ hq0 hk0 (chunkOf r) (inChunk r) d
  rw [e] at this
  exact this

end

/-- The attention block from the three slabs. -/
theorem yBlk_at (X2 X3 X4 : FVec Ideal S1x2048x128 .bf16) (x2 x3 x4 : Fin 2048 → Fin 128 → ℝ)
    (h2 : ∀ i d, X2 (ix3 0 i d) = ((x2 i d : ℝ) : EReal)) (h3 : ∀ i d, X3 (ix3 0 i d) = ((x3 i d : ℝ) : EReal))
    (h4 : ∀ i d, X4 (ix3 0 i d) = ((x4 i d : ℝ) : EReal)) (b2 : ∀ i d, |x2 i d| ≤ inMax) (b3 : ∀ i d, |x3 i d| ≤ inMax)
    (b4 : ∀ i d, |x4 i d| ≤ inMax) (r : Fin 2048) (d : Fin 128) :
    yBlk (F := Ideal) X2 X3 X4 (ix3 0 r d)
      = ((attR (codeR x2) (codeR x3) (codeR x4) (scaleR x2) (scaleR x3) (scaleR x4) r d : ℝ) : EReal) := by
  refine yOut_at _ _ _ _ _ _ _ _ _ _ _ _ ?_ (qScales_at X4 x4 h4 b4) (qScales_at X2 x2 h2 b2) (qCodes_at X3 x3 h3 b3)
    (qCodesT_at X4 x4 h4 b4) (qCodes_at X2 x2 h2 b2) (fun n => bscale_pos _) (fun n => bscale_pos _) r d
  intro n d
  pointwise [k0_pay370]
  exact qScales_at X3 x3 h3 b3 n d

end Cert.KernelIdeal.Val
-- ==== Proof.Value.RefAt.lean ====
/- The reference's results read at an index, as real numbers: the same codes, scales and attention as the kernel's. -/
module

public import proofs.«01_k».proof.Proof.Value.RefStages
public import proofs.«01_k».proof.Proof.Value.YBlk

@[expose] public section

set_option maxRecDepth 16384

noncomputable section

namespace Cert.Fp8

/-- The queries of one head. -/
def xslab (a : Fin 8 → Fin 2048 → Fin 4096 → ℝ) (b : Fin 8) (h : Fin 32) : Fin 2048 → Fin 128 → ℝ :=
  fun i d => a b i ⟨h.val * 128 + d.val, by have := h.isLt; have := d.isLt; omega⟩
/-- The keys or the values of one head. -/
def kslab (a : Fin 8 → Fin 2048 → Fin 1024 → ℝ) (b : Fin 8) (h : Fin 8) : Fin 2048 → Fin 128 → ℝ :=
  fun i d => a b i ⟨h.val * 128 + d.val, by have := h.isLt; have := d.isLt; omega⟩
/-- The key head of a query head. -/
def kvh (h : Fin 32) : Fin 8 := ⟨h.val / 4, by have := h.isLt; omega⟩

end Cert.Fp8

namespace Cert.ReferenceIdeal.Val

open Cert.ReferenceIdeal Cert.ReferenceIdeal.Gen Idealize.ShloMosaic Idealize.ShloMosaic.TcCoe Cert.Fp8
open Cert.KernelIdeal.Val (codeR scaleR blkR raws attR)

theorem key_mk' (n : Fin 16) (v : Fin 128) (h : n.val * 128 + v.val < 2048) : (⟨n.val * 128 + v.val, h⟩ : Fin 2048) = key n v :=
  Fin.ext (by show n.val * 128 + v.val = 128 * n.val + v.val; omega)

theorem clip_coe' (r : ℝ) :
    min (max (r : EReal) (Ideal.ofBits .f32 0xC3E00000#32)) (Ideal.ofBits .f32 0x43E00000#32) = ((clip r : ℝ) : EReal) := by
  rw [min_comm, max_comm]; exact clip_coe r

theorem gScale_at {S : Shape} (h : S_.BroadcastsInDim S ![]) (a : FVec Ideal S .f32) (j : S.Idx) (r : ℝ) (ha : a j = ((r : ℝ) : EReal)) :
    gScale h a j = ((bscale r : ℝ) : EReal) := by
  refine Eq.trans (b := refScale (a j)) rfl ?_
  rw [ha, refScale_coe]

section reads
variable (b : Fin 8) (h : Fin 32) (i : Fin 2048) (n : Fin 16) (v d : Fin 128)
theorem pCode_read (P : FVec Ideal S8x32x2048x16x128 .f32) (r : FVec Ideal S8x32x2048x16 .f32) : pCode P r (ix5 b h i n v)
    = min (max (Ideal.div (P (ix5 b h i n v)) (r (ix4 b h i n))) (Ideal.ofBits .f32 0xC3E00000#32)) (Ideal.ofBits .f32 0x43E00000#32) := by
  pointwise [pCode, gClip, lit]
theorem pv_read (C : FVec Ideal S8x32x2048x16x128 .f32) (W : FVec Ideal S8x16x128x32x128 .f32) :
    pv C W (ix5 b h n i d) = ∑ x : Fin 128, C (ix5 b h i n x) * W (ix5 b n x h d) := by
  pointwise [pv]
theorem weight_read (r : FVec Ideal S8x32x2048x16 .f32) (s : FVec Ideal S8x32x16 .f32) : weight r s (ix4 b h n i) = r (ix4 b h i n) * s (ix3 b h n) := by
  pointwise [weight]
theorem acc_read (D : FVec Ideal S8x32x16x2048x128 .f32) (w : FVec Ideal S8x32x16x2048 .f32) :
    acc D w (ix4 b h i d) = ∑ x : Fin 16, D (ix5 b h x i d) * w (ix4 b h x i) := by
  pointwise [acc, zero]
theorem quot_read (a : FVec Ideal S8x32x2048x128 .f32) (l : FVec Ideal S8x32x2048 .f32) :
    quot a l (ix4 b h i d) = Ideal.div (a (ix4 b h i d)) (l (ix3 b h i)) := by
  pointwise [quot]
theorem outp_read (o : FVec Ideal S8x32x2048x128 .f32) (c : Fin 4096) (hc : c.val = h.val * 128 + d.val) : outp o (ix3 b i c) = o (ix4 b h i d) := by
  have hd := d.isLt
  have e1 : ∀ p, (⟨c.val / 128, p⟩ : Fin 32) = h := fun _ => Fin.ext (by show c.val / 128 = h.val; omega)
  have e2 : ∀ p, (⟨c.val % 128, p⟩ : Fin 128) = d := fun _ => Fin.ext (by show c.val % 128 = d.val; omega)
  pointwise [outp]
  rw [e1, e2]
theorem vBlocks_read (V : FVec Ideal S8x2048x32x128 .f32) : vBlocks V (ix5 b n v h d) = V (ix4 b (key n v) h d) := by
  pointwise [vBlocks]
  rw [key_mk']
end reads

section x
variable (A : FVec Ideal S8x2048x4096 .bf16) (a : Fin 8 → Fin 2048 → Fin 4096 → ℝ) (hA : ∀ b i c, A (ix3 b i c) = ((a b i c : ℝ) : EReal))
include hA

theorem xIn_at (b : Fin 8) (n : Fin 16) (u : Fin 128) (h : Fin 32) (d : Fin 128) :
    xIn A (ix5 b n u h d) = ((blkR (xslab a b h) n u d : ℝ) : EReal) := by
  pointwise [xIn]
  rw [hA, key_mk']; rfl

theorem xAmax_at (b : Fin 8) (n : Fin 16) (h : Fin 32) : xAmax (xIn A) (ix3 b n h) = ((amax (blkR (xslab a b h) n) : ℝ) : EReal) := by
  pointwise [xAmax, bot]
  simp only [xIn_at A a hA, absf_coe, fold_top]; rfl

theorem xScale_at (b : Fin 8) (n : Fin 16) (h : Fin 32) : xScale A (ix3 b n h) = ((scaleR (xslab a b h) n : ℝ) : EReal) :=
  gScale_at _ _ _ _ (xAmax_at A a hA b n h)

theorem xCode_at (b : Fin 8) (n : Fin 16) (u : Fin 128) (h : Fin 32) (d : Fin 128) :
    xCode A (ix5 b n u h d) = ((code (blkR (xslab a b h) n) u d : ℝ) : EReal) := by
  pointwise [xCode, gClip, lit, xDiv]
  rw [xIn_at A a hA, xScale_at A a hA, div_coe_coe _ (show scaleR (xslab a b h) n ≠ 0 from (bscale_pos _).ne'), clip_coe']; rfl

theorem xQ_at (b : Fin 8) (i : Fin 2048) (h : Fin 32) (d : Fin 128) : xQ A (ix4 b i h d) = ((codeR (xslab a b h) i d : ℝ) : EReal) := by
  pointwise [xQ]
  exact xCode_at A a hA b (keyBlk i) (keyRow i) h d

theorem xQS_at (b : Fin 8) (h : Fin 32) (n : Fin 16) : xQS A (ix3 b h n) = ((scaleR (xslab a b h) n : ℝ) : EReal) := by
  pointwise [xQS]
  exact xScale_at A a hA b n h

theorem xFlat_at (b : Fin 8) (i : Fin 2048) (h : Fin 32) (d : Fin 128) (c : Fin 4096) (hc : c.val = h.val * 128 + d.val) :
    xFlat A (ix3 b i c) = ((codeR (xslab a b h) i d : ℝ) : EReal) := by
  have hd := d.isLt
  pointwise [xFlat]
  rw [xQ_at A a hA]
  have e1 : (⟨c.val / 128, by have := c.isLt; omega⟩ : Fin 32) = h := Fin.ext (by show c.val / 128 = h.val; omega)
  have e2 : (⟨c.val % 128, by omega⟩ : Fin 128) = d := Fin.ext (by show c.val % 128 = d.val; omega)
  rw [e1, e2]

theorem xLanes_at (b : Fin 8) (h : Fin 32) (n : Fin 16) (d : Fin 128) : xLanes A (ix4 b h n d) = ((scaleR (xslab a b h) n : ℝ) : EReal) := by
  pointwise [xLanes]
  exact xQS_at A a hA b h n
end x

section k
variable (A : FVec Ideal S8x2048x1024 .bf16) (a : Fin 8 → Fin 2048 → Fin 1024 → ℝ) (hA : ∀ b i c, A (ix3 b i c) = ((a b i c : ℝ) : EReal))
include hA

theorem kIn_at (b : Fin 8) (n : Fin 16) (u : Fin 128) (h : Fin 8) (d : Fin 128) :
    kIn A (ix5 b n u h d) = ((blkR (kslab a b h) n u d : ℝ) : EReal) := by
  pointwise [kIn]
  rw [hA, key_mk']; rfl

theorem kAmax_at (b : Fin 8) (n : Fin 16) (h : Fin 8) : kAmax (kIn A) (ix3 b n h) = ((amax (blkR (kslab a b h) n) : ℝ) : EReal) := by
  pointwise [kAmax, bot]
  simp only [kIn_at A a hA, absf_coe, fold_top]; rfl

theorem kScale_at (b : Fin 8) (n : Fin 16) (h : Fin 8) : kScale A (ix3 b n h) = ((scaleR (kslab a b h) n : ℝ) : EReal) :=
  gScale_at _ _ _ _ (kAmax_at A a hA b n h)

theorem kCode_at (b : Fin 8) (n : Fin 16) (u : Fin 128) (h : Fin 8) (d : Fin 128) :
    kCode A (ix5 b n u h d) = ((code (blkR (kslab a b h) n) u d : ℝ) : EReal) := by
  pointwise [kCode, gClip, lit, kDiv]
  rw [kIn_at A a hA, kScale_at A a hA, div_coe_coe _ (show scaleR (kslab a b h) n ≠ 0 from (bscale_pos _).ne'), clip_coe']; rfl

theorem kQ_at (b : Fin 8) (i : Fin 2048) (h : Fin 8) (d : Fin 128) : kQ A (ix4 b i h d) = ((codeR (kslab a b h) i d : ℝ) : EReal) := by
  pointwise [kQ]
  exact kCode_at A a hA b (keyBlk i) (keyRow i) h d

theorem kQS_at (b : Fin 8) (h : Fin 8) (n : Fin 16) : kQS A (ix3 b h n) = ((scaleR (kslab a b h) n : ℝ) : EReal) := by
  pointwise [kQS]
  exact kScale_at A a hA b n h

theorem kFlat_at (b : Fin 8) (i : Fin 2048) (h : Fin 8) (d : Fin 128) (c : Fin 1024) (hc : c.val = h.val * 128 + d.val) :
    kFlat A (ix3 b i c) = ((codeR (kslab a b h) i d : ℝ) : EReal) := by
  have hd := d.isLt
  pointwise [kFlat]
  rw [kQ_at A a hA]
  have e1 : (⟨c.val / 128, by have := c.isLt; omega⟩ : Fin 8) = h := Fin.ext (by show c.val / 128 = h.val; omega)
  have e2 : (⟨c.val % 128, by omega⟩ : Fin 128) = d := Fin.ext (by show c.val % 128 = d.val; omega)
  rw [e1, e2]

theorem kLanes_at (b : Fin 8) (h : Fin 8) (n : Fin 16) (d : Fin 128) : kLanes A (ix4 b h n d) = ((scaleR (kslab a b h) n : ℝ) : EReal) := by
  pointwise [kLanes]
  exact kQS_at A a hA b h n

theorem kRep_at (b : Fin 8) (i : Fin 2048) (h : Fin 32) (d : Fin 128) : kRep A (ix4 b i h d) = ((codeR (kslab a b (kvh h)) i d : ℝ) : EReal) := by
  pointwise [kRep]
  exact kQ_at A a hA b i (kvh h) d

theorem kSRep_at (b : Fin 8) (h : Fin 32) (n : Fin 16) : kSRep A (ix3 b h n) = ((scaleR (kslab a b (kvh h)) n : ℝ) : EReal) := by
  pointwise [kSRep]
  exact kQS_at A a hA b (kvh h) n
end k

section attention
variable (b : Fin 8) (h : Fin 32)

section score
variable (Q K : FVec Ideal S8x2048x32x128 .f32) (qs ks : FVec Ideal S8x32x16 .f32) (q k : Fin 2048 → Fin 128 → ℝ) (qsr ksr : Fin 16 → ℝ)
  (hQ : ∀ i d, Q (ix4 b i h d) = ((q i d : ℝ) : EReal)) (hK : ∀ i d, K (ix4 b i h d) = ((k i d : ℝ) : EReal))
  (hqs : ∀ n, qs (ix3 b h n) = ((qsr n : ℝ) : EReal)) (hks : ∀ n, ks (ix3 b h n) = ((ksr n : ℝ) : EReal))
include hQ hK hqs hks

theorem score_at (I n : Fin 16) (u v : Fin 128) :
    score Q K qs ks (ix4 b h (key I u) (key n v)) = ((sc (raws q k I) (qsr I) ksr n v u : ℝ) : EReal) := by
  have eI : ∀ p, (⟨(key I u).val / 128, p⟩ : Fin 16) = I := fun _ => keyBlk_key I u
  have en : ∀ p, (⟨(key n v).val / 128, p⟩ : Fin 16) = n := fun _ => keyBlk_key n v
  have hs : Real.sqrt 128 ≠ 0 := (Real.sqrt_pos.2 (by norm_num)).ne'
  pointwise [score, overKeys, overQueries, tokens, qk]
  simp only [eI, en, hQ, hK, hqs, hks, ← EReal.coe_mul, sum_coe]
  rw [word_128, Ideal.sqrt_coe, if_neg (by norm_num : ¬ (128 : ℝ) < 0), div_coe_coe _ hs, ← EReal.coe_mul, ← EReal.coe_mul]
  unfold sc raws
  simp only [mul_comm (q _ _)]
end score

section prob
variable (T : FVec Ideal S8x32x2048x2048 .f32) (S : Fin 16 → Fin 16 → Fin 128 → Fin 128 → ℝ) (qsr ksr : Fin 16 → ℝ)
  (hT : ∀ I n u v, T (ix4 b h (key I u) (key n v)) = ((sc (S I) (qsr I) ksr n v u : ℝ) : EReal))
include hT

theorem prb_at (I n : Fin 16) (u v : Fin 128) :
    prb T (ix4 b h (key I u) (key n v)) = ((prob (S I) (qsr I) ksr n v u : ℝ) : EReal) := by
  have hT' : ∀ x : Fin 2048, T (ix4 b h (key I u) x) = ((sc (S I) (qsr I) ksr (keyBlk x) (keyRow x) u : ℝ) : EReal) := fun x => by
    rw [← hT, key_blk_row]
  pointwise [prb, overKeys, bot]
  simp only [hT', fold_top]
  rw [top_key]
  simp only [keyBlk_key, keyRow_key]
  rw [← EReal.coe_sub, Ideal.exp_coe]
  rfl
end prob

section out
variable (P : FVec Ideal S8x32x2048x2048 .f32) (V : FVec Ideal S8x2048x32x128 .f32) (vs : FVec Ideal S8x32x16 .f32)
  (S : Fin 16 → Fin 16 → Fin 128 → Fin 128 → ℝ) (qsr ksr vsr : Fin 16 → ℝ) (w : Fin 2048 → Fin 128 → ℝ)
  (hP : ∀ I n u v, P (ix4 b h (key I u) (key n v)) = ((prob (S I) (qsr I) ksr n v u : ℝ) : EReal))
  (hV : ∀ i d, V (ix4 b i h d) = ((w i d : ℝ) : EReal)) (hvs : ∀ n, vs (ix3 b h n) = ((vsr n : ℝ) : EReal))
include hP

theorem den_at (I : Fin 16) (u : Fin 128) : den P (ix3 b h (key I u)) = ((Cert.Fp8.den (S I) (qsr I) ksr u : ℝ) : EReal) := by
  have hP' : ∀ x : Fin 2048, P (ix4 b h (key I u) x) = ((prob (S I) (qsr I) ksr (keyBlk x) (keyRow x) u : ℝ) : EReal) := fun x => by
    rw [← hP, key_blk_row]
  pointwise [den, zero]
  simp only [hP', sum_coe]
  rw [sum_key]
  simp only [keyBlk_key, keyRow_key]
  rfl

theorem byBlock_at (I n : Fin 16) (u v : Fin 128) : byBlock P (ix5 b h (key I u) n v) = ((prob (S I) (qsr I) ksr n v u : ℝ) : EReal) := by
  pointwise [byBlock]
  rw [key_mk', hP]

theorem pAmax_at (I n : Fin 16) : pAmax (byBlock P) (ix4 b h I n) = ((pmax (S I) (qsr I) ksr n : ℝ) : EReal) := by
  pointwise [pAmax, bot]
  simp only [key_mk', byBlock_at b h P S qsr ksr hP, fold_top]
  rfl

theorem pRows_at (I n : Fin 16) (u : Fin 128) :
    pRows (pScale (byBlock P)) (ix4 b h (key I u) n) = ((bscale (pmax (S I) (qsr I) ksr n) : ℝ) : EReal) := by
  have eI : ∀ p, (⟨(key I u).val / 128, p⟩ : Fin 16) = I := fun _ => keyBlk_key I u
  pointwise [pRows]
  rw [eI]
  exact gScale_at _ _ _ _ (pAmax_at b h P S qsr ksr hP I n)

theorem pCode_at (I n : Fin 16) (u v : Fin 128) : pCode (byBlock P) (pRows (pScale (byBlock P))) (ix5 b h (key I u) n v)
      = ((clip (prob (S I) (qsr I) ksr n v u / bscale (pmax (S I) (qsr I) ksr n)) : ℝ) : EReal) := by
  rw [pCode_read, byBlock_at b h P S qsr ksr hP, pRows_at b h P S qsr ksr hP, div_coe_coe _ (bscale_pos _).ne', clip_coe']

include hV hvs

theorem fromP_at (I : Fin 16) (u d : Fin 128) (c : Fin 4096) (hc : c.val = h.val * 128 + d.val) :
    fromP P V vs (ix3 b (key I u) c)
      = ((num (S I) (qsr I) ksr vsr (fun n v => w (key n v) d) u / Cert.Fp8.den (S I) (qsr I) ksr u : ℝ) : EReal) := by
  unfold fromP
  rw [outp_read b h _ d _ c hc, quot_read, acc_read, den_at b h P S qsr ksr hP]
  simp only [pv_read, weight_read, vBlocks_read, pCode_at b h P S qsr ksr hP, pRows_at b h P S qsr ksr hP, hV, hvs, ← EReal.coe_mul, sum_coe]
  rw [div_coe_coe _ (den_pos _ _ _ _).ne']
  rfl
end out
end attention

section y
variable (X : FVec Ideal S8x2048x4096 .bf16) (K V : FVec Ideal S8x2048x1024 .bf16) (x : Fin 8 → Fin 2048 → Fin 4096 → ℝ)
  (k v : Fin 8 → Fin 2048 → Fin 1024 → ℝ) (hX : ∀ b i c, X (ix3 b i c) = ((x b i c : ℝ) : EReal))
  (hK : ∀ b i c, K (ix3 b i c) = ((k b i c : ℝ) : EReal)) (hV : ∀ b i c, V (ix3 b i c) = ((v b i c : ℝ) : EReal))
include hX hK hV

theorem yRef_at (b : Fin 8) (i : Fin 2048) (h : Fin 32) (d : Fin 128) (c : Fin 4096) (hc : c.val = h.val * 128 + d.val) :
    yRef X K V (ix3 b i c) = ((attR (codeR (xslab x b h)) (codeR (kslab k b (kvh h))) (codeR (kslab v b (kvh h)))
      (scaleR (xslab x b h)) (scaleR (kslab k b (kvh h))) (scaleR (kslab v b (kvh h))) i d : ℝ) : EReal) := by
  have e := fromP_at b h (prb (score (xQ X) (kRep K) (xQS X) (kSRep K))) (kRep V) (kSRep V)
    (fun I => raws (codeR (xslab x b h)) (codeR (kslab k b (kvh h))) I) (scaleR (xslab x b h)) (scaleR (kslab k b (kvh h)))
    (scaleR (kslab v b (kvh h))) (codeR (kslab v b (kvh h)))
    (prb_at b h _ _ _ _ (score_at b h _ _ _ _ _ _ _ _ (fun i d => xQ_at X x hX b i h d) (fun i d => kRep_at K k hK b i h d)
      (fun n => xQS_at X x hX b h n) (fun n => kSRep_at K k hK b h n)))
    (fun i d => kRep_at V v hV b i h d) (fun n => kSRep_at V v hV b h n) (keyBlk i) (keyRow i) d c hc
  rw [key_blk_row] at e
  exact e
end y

end Cert.ReferenceIdeal.Val
-- ==== Proof.Value.KerArr.lean ====
/- The kernel's seven result arrays after the run: the reference's terms of the arguments. -/
module

public import proofs.«01_k».proof.Proof.Value.RefAt
public import Idealize.ShloMosaic.Lib.Pipeline.ValueKit

@[expose] public section

set_option maxRecDepth 16384

noncomputable section

namespace Cert.KernelIdeal.Val

open Cert.KernelIdeal Cert.KernelIdeal.Gen Cert.Fp8 Idealize.ShloMosaic Idealize.ShloMosaic.TcCoe Idealize.SL.Sem
open Cert.ReferenceIdeal.Val (xFlat_at kFlat_at xLanes_at kLanes_at yRef_at xFlat kFlat xLanes kLanes yRef)

/-- Each window's block at each point. -/
theorem idx : ∀ t : Fin cfg0.N, win0_0.index t = ![t.val / 32, 0, t.val % 32] ∧ win0_1.index t = ![t.val / 32, 0, t.val % 32 / 4]
    ∧ win0_2.index t = ![t.val / 32, 0, t.val % 32 / 4] ∧ win0_3.index t = ![t.val / 32, 0, t.val % 32]
    ∧ win0_4.index t = ![t.val / 32, 0, t.val % 32] ∧ win0_5.index t = ![t.val / 32, t.val % 32, 0, 0]
    ∧ win0_6.index t = ![t.val / 32, 0, t.val % 32 / 4] ∧ win0_7.index t = ![t.val / 32, t.val % 32 / 4, 0, 0]
    ∧ win0_8.index t = ![t.val / 32, 0, t.val % 32 / 4] ∧ win0_9.index t = ![t.val / 32, t.val % 32 / 4, 0, 0] ∧ t.val / 32 < 8 :=
  (by decide +kernel : ∀ t : Fin grid0.N, _)

/-- The batch and the query head of a point. -/
def pb (t : Fin cfg0.N) : Fin 8 := ⟨t.val / 32, (idx t).2.2.2.2.2.2.2.2.2.2⟩
def ph (t : Fin cfg0.N) : Fin 32 := ⟨t.val % 32, Nat.mod_lt _ (by norm_num)⟩
def col32 (h : Fin 32) (d : Fin 128) : Fin 4096 := ⟨h.val * 128 + d.val, by have := h.isLt; have := d.isLt; omega⟩
def col8 (h : Fin 8) (d : Fin 128) : Fin 1024 := ⟨h.val * 128 + d.val, by have := h.isLt; have := d.isLt; omega⟩

variable (m : (ℓ : Loc nD τ sig) → Buf (Elt Ideal) ℓ) (c : Dev nD) (t : Fin cfg0.N)

theorem iblk0_at (i : Fin 2048) (d : Fin 128) :
    iblk m c 0 t (ix3 0 i d) = m ((c : Thread nD τ).loc main_arg0) (ix3 (pb t) i (col32 (ph t) d)) := by
  blk_ext [iblk, V, idx t, pb, ph, col32]
theorem iblk1_at (i : Fin 2048) (d : Fin 128) :
    iblk m c 1 t (ix3 0 i d) = m ((c : Thread nD τ).loc main_arg1) (ix3 (pb t) i (col8 (kvh (ph t)) d)) := by
  blk_ext [iblk, V, idx t, pb, ph, col8, kvh]
theorem iblk2_at (i : Fin 2048) (d : Fin 128) :
    iblk m c 2 t (ix3 0 i d) = m ((c : Thread nD τ).loc main_arg2) (ix3 (pb t) i (col8 (kvh (ph t)) d)) := by
  blk_ext [iblk, V, idx t, pb, ph, col8, kvh]

theorem emb3 (i : Fin 2048) (d : Fin 128) : ((cfg0.win 3).blk t).view.emb (ix3 0 i d) = ix3 (pb t) i (col32 (ph t) d) := by
  blk_ext [idx t, pb, ph, col32]
theorem emb4 (i : Fin 2048) (d : Fin 128) : ((cfg0.win 4).blk t).view.emb (ix3 0 i d) = ix3 (pb t) i (col32 (ph t) d) := by
  blk_ext [idx t, pb, ph, col32]
theorem emb5 (n : Fin 16) (d : Fin 128) : ((cfg0.win 5).blk t).view.emb (ix4 0 0 n d) = ix4 (pb t) (ph t) n d := by
  blk_ext [idx t, pb, ph]
theorem emb6 (i : Fin 2048) (d : Fin 128) : ((cfg0.win 6).blk t).view.emb (ix3 0 i d) = ix3 (pb t) i (col8 (kvh (ph t)) d) := by
  blk_ext [idx t, pb, ph, col8, kvh]
theorem emb7 (n : Fin 16) (d : Fin 128) : ((cfg0.win 7).blk t).view.emb (ix4 0 0 n d) = ix4 (pb t) (kvh (ph t)) n d := by
  blk_ext [idx t, pb, ph, kvh]
theorem emb8 (i : Fin 2048) (d : Fin 128) : ((cfg0.win 8).blk t).view.emb (ix3 0 i d) = ix3 (pb t) i (col8 (kvh (ph t)) d) := by
  blk_ext [idx t, pb, ph, col8, kvh]
theorem emb9 (n : Fin 16) (d : Fin 128) : ((cfg0.win 9).blk t).view.emb (ix4 0 0 n d) = ix4 (pb t) (kvh (ph t)) n d := by
  blk_ext [idx t, pb, ph, kvh]

theorem idx3 (y : S1x2048x128.Idx) : ∃ (i : Fin 2048) (d : Fin 128), y = ix3 0 i d := by
  refine ⟨y 1, y 2, funext fun a => ?_⟩
  match a with
  | ⟨0, _⟩ => exact Fin.ext (by have h : (y 0).val < 1 := (y 0).isLt; show (y 0).val = 0; omega)
  | ⟨1, _⟩ => rfl
  | ⟨2, _⟩ => rfl

theorem idx4 (y : S1x1x16x128.Idx) : ∃ (n : Fin 16) (d : Fin 128), y = ix4 0 0 n d := by
  refine ⟨y 2, y 3, funext fun a => ?_⟩
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl
  | ⟨3, _⟩ => rfl

section finals
variable (x : Fin 8 → Fin 2048 → Fin 4096 → ℝ) (k v : Fin 8 → Fin 2048 → Fin 1024 → ℝ)
  (hX : ∀ b i j, m ((c : Thread nD τ).loc main_arg0) (ix3 b i j) = ((x b i j : ℝ) : EReal))
  (hK : ∀ b i j, m ((c : Thread nD τ).loc main_arg1) (ix3 b i j) = ((k b i j : ℝ) : EReal))
  (hV : ∀ b i j, m ((c : Thread nD τ).loc main_arg2) (ix3 b i j) = ((v b i j : ℝ) : EReal))
  (bX : ∀ b i j, |x b i j| ≤ inMax) (bK : ∀ b i j, |k b i j| ≤ inMax) (bV : ∀ b i j, |v b i j| ≤ inMax)

section x
include hX
theorem slab0 (i : Fin 2048) (d : Fin 128) : iblk m c 0 t (ix3 0 i d) = ((xslab x (pb t) (ph t) i d : ℝ) : EReal) :=
  (iblk0_at m c t i d).trans (hX _ _ _)
include bX
theorem final4 : (dats m 0 c).arrAt 4 cfg0.N = xFlat (m ((c : Thread nD τ).loc main_arg0)) := by
  refine (dats m 0 c).arrAt_eq_of_covers 4 _ (by decide +kernel) fun t hf y => ?_
  obtain ⟨i, d, rfl⟩ := idx3 y
  refine Eq.trans ?_ (congrArg (xFlat (m ((c : Thread nD τ).loc main_arg0))) (emb4 t i d)).symm
  blk_simp
  rw [after0_4]
  exact (qCodes_at (iblk m c 0 t) _ (slab0 m c t x hX) (fun i d => bX _ _ _) i d).trans
    (xFlat_at _ x hX (pb t) i (ph t) d _ rfl).symm
theorem final5 : (dats m 0 c).arrAt 5 cfg0.N = xLanes (m ((c : Thread nD τ).loc main_arg0)) := by
  refine (dats m 0 c).arrAt_eq_of_covers 5 _ (by decide +kernel) fun t hf y => ?_
  obtain ⟨n, d, rfl⟩ := idx4 y
  refine Eq.trans ?_ (congrArg (xLanes (m ((c : Thread nD τ).loc main_arg0))) (emb5 t n d)).symm
  blk_simp
  rw [after0_5]
  exact (qScales_at (iblk m c 0 t) _ (slab0 m c t x hX) (fun i d => bX _ _ _) n d).trans
    (xLanes_at _ x hX (pb t) (ph t) n d).symm
end x

section k
include hK
theorem slab1 (i : Fin 2048) (d : Fin 128) : iblk m c 1 t (ix3 0 i d) = ((kslab k (pb t) (kvh (ph t)) i d : ℝ) : EReal) :=
  (iblk1_at m c t i d).trans (hK _ _ _)
include bK
theorem final6 : (dats m 0 c).arrAt 6 cfg0.N = kFlat (m ((c : Thread nD τ).loc main_arg1)) := by
  refine (dats m 0 c).arrAt_eq_of_covers 6 _ (by decide +kernel) fun t hf y => ?_
  obtain ⟨i, d, rfl⟩ := idx3 y
  refine Eq.trans ?_ (congrArg (kFlat (m ((c : Thread nD τ).loc main_arg1))) (emb6 t i d)).symm
  blk_simp
  rw [after0_6]
  exact (qCodes_at (iblk m c 1 t) _ (slab1 m c t k hK) (fun i d => bK _ _ _) i d).trans
    (kFlat_at _ k hK (pb t) i (kvh (ph t)) d _ rfl).symm
theorem final7 : (dats m 0 c).arrAt 7 cfg0.N = kLanes (m ((c : Thread nD τ).loc main_arg1)) := by
  refine (dats m 0 c).arrAt_eq_of_covers 7 _ (by decide +kernel) fun t hf y => ?_
  obtain ⟨n, d, rfl⟩ := idx4 y
  refine Eq.trans ?_ (congrArg (kLanes (m ((c : Thread nD τ).loc main_arg1))) (emb7 t n d)).symm
  blk_simp
  rw [after0_7]
  exact (qScales_at (iblk m c 1 t) _ (slab1 m c t k hK) (fun i d => bK _ _ _) n d).trans
    (kLanes_at _ k hK (pb t) (kvh (ph t)) n d).symm
end k

section v
include hV
theorem slab2 (i : Fin 2048) (d : Fin 128) : iblk m c 2 t (ix3 0 i d) = ((kslab v (pb t) (kvh (ph t)) i d : ℝ) : EReal) :=
  (iblk2_at m c t i d).trans (hV _ _ _)
include bV
theorem final8 : (dats m 0 c).arrAt 8 cfg0.N = kFlat (m ((c : Thread nD τ).loc main_arg2)) := by
  refine (dats m 0 c).arrAt_eq_of_covers 8 _ (by decide +kernel) fun t hf y => ?_
  obtain ⟨i, d, rfl⟩ := idx3 y
  refine Eq.trans ?_ (congrArg (kFlat (m ((c : Thread nD τ).loc main_arg2))) (emb8 t i d)).symm
  blk_simp
  rw [after0_8]
  exact (qCodes_at (iblk m c 2 t) _ (slab2 m c t v hV) (fun i d => bV _ _ _) i d).trans
    (kFlat_at _ v hV (pb t) i (kvh (ph t)) d _ rfl).symm
theorem final9 : (dats m 0 c).arrAt 9 cfg0.N = kLanes (m ((c : Thread nD τ).loc main_arg2)) := by
  refine (dats m 0 c).arrAt_eq_of_covers 9 _ (by decide +kernel) fun t hf y => ?_
  obtain ⟨n, d, rfl⟩ := idx4 y
  refine Eq.trans ?_ (congrArg (kLanes (m ((c : Thread nD τ).loc main_arg2))) (emb9 t n d)).symm
  blk_simp
  rw [after0_9]
  exact (qScales_at (iblk m c 2 t) _ (slab2 m c t v hV) (fun i d => bV _ _ _) n d).trans
    (kLanes_at _ v hV (pb t) (kvh (ph t)) n d).symm
end v

include hX hK hV bX bK bV
theorem final3 : (dats m 0 c).arrAt 3 cfg0.N
    = yRef (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨i, d, rfl⟩ := idx3 y
  refine Eq.trans ?_ (congrArg (yRef (m ((c : Thread nD τ).loc main_arg0)) (m ((c : Thread nD τ).loc main_arg1)) (m ((c : Thread nD τ).loc main_arg2)))
    (emb3 t i d)).symm
  blk_simp
  rw [after0_3]
  exact (yBlk_at (iblk m c 0 t) (iblk m c 1 t) (iblk m c 2 t) _ _ _ (slab0 m c t x hX) (slab1 m c t k hK) (slab2 m c t v hV)
    (fun i d => bX _ _ _) (fun i d => bK _ _ _) (fun i d => bV _ _ _) i d).trans (yRef_at _ _ _ x k v hX hK hV (pb t) i (ph t) d _ rfl).symm
end finals

end Cert.KernelIdeal.Val
-- ==== Proof.Value.RefRead.lean ====
/- What the reference's host operations leave: each array the cast call and the results read, as the stages of the arguments. -/
module

public import proofs.«01_k».proof.Proof.Value.RefStages

@[expose] public section

set_option maxRecDepth 16384

noncomputable section

namespace Cert.ReferenceIdeal.Val

open Cert.ReferenceIdeal Cert.ReferenceIdeal.Gen Idealize.ShloMosaic Idealize.ShloMosaic.TcCoe Idealize.SL.Sem

variable (m : (ℓ : Loc nD τ sig) → Buf (Elt Ideal) ℓ) (c : Dev nD)

set_option maxHeartbeats 1600000 in
theorem V_v166 : V m c main_v166 = xFlat (m (c, Proc.tc.devRef main_arg0)) := by
  unfold V
  simp only [hostOps0, List.flatten_cons, List.flatten_nil, List.append_nil]
  after_reads_simp
  rfl

set_option maxHeartbeats 1600000 in
theorem V_v167 : V m c main_v167 = kFlat (m (c, Proc.tc.devRef main_arg1)) := by
  unfold V
  simp only [hostOps0, List.flatten_cons, List.flatten_nil, List.append_nil]
  after_reads_simp
  rfl

set_option maxHeartbeats 1600000 in
theorem V_v168 : V m c main_v168 = kFlat (m (c, Proc.tc.devRef main_arg2)) := by
  unfold V
  simp only [hostOps0, List.flatten_cons, List.flatten_nil, List.append_nil]
  after_reads_simp
  rfl

set_option maxHeartbeats 1600000 in
theorem V_v161 : V m c main_v161 = xLanes (m (c, Proc.tc.devRef main_arg0)) := by
  unfold V
  simp only [hostOps0, List.flatten_cons, List.flatten_nil, List.append_nil]
  after_reads_simp
  rfl

set_option maxHeartbeats 1600000 in
theorem V_v163 : V m c main_v163 = kLanes (m (c, Proc.tc.devRef main_arg1)) := by
  unfold V
  simp only [hostOps0, List.flatten_cons, List.flatten_nil, List.append_nil]
  after_reads_simp
  rfl

set_option maxHeartbeats 1600000 in
theorem V_v165 : V m c main_v165 = kLanes (m (c, Proc.tc.devRef main_arg2)) := by
  unfold V
  simp only [hostOps0, List.flatten_cons, List.flatten_nil, List.append_nil]
  after_reads_simp
  rfl

set_option maxHeartbeats 1600000 in
theorem V_v159 : V m c main_v159 = yRef (m (c, Proc.tc.devRef main_arg0)) (m (c, Proc.tc.devRef main_arg1)) (m (c, Proc.tc.devRef main_arg2)) := by
  unfold V
  simp only [hostOps0, List.flatten_cons, List.flatten_nil, List.append_nil]
  after_reads_simp
  rfl

end Cert.ReferenceIdeal.Val
-- ==== Proof.Value.RefArr.lean ====
/- The cast call's arrays after the run: the codes in the layout of the arguments. -/
module

public import proofs.«01_k».proof.Proof.Value.RefRead

@[expose] public section

set_option maxRecDepth 16384

noncomputable section

namespace Cert.ReferenceIdeal.Val

open Cert.ReferenceIdeal Cert.ReferenceIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] :=
  (by decide +kernel : ∀ t : Fin grid0.N, _)

theorem pay0_at (P : FVec Ideal S8x2048x4096 .f32) (y : S8x2048x4096.Idx) : k0_pay1 (F := Ideal) P y = P y := by
  pointwise [k0_pay1]

theorem whole0 (W : FVec Ideal S8x2048x4096 .f32) : ((cfg0.win 0).blk t0_0).view.read (Elt Ideal) W = W := by
  funext j
  refine congrArg W ?_
  blk_ext [idx t0_0]

theorem iblk0_eq : iblk m c 0 t0_0 = V m c main_v166 := whole0 (V m c main_v166)

theorem final3' (W : FVec Ideal S8x2048x4096 .f32) (hW : iblk m c 0 t0_0 = W) : (dats m 0 c).arrAt 3 cfg0.N = W := by
  refine (dats m 0 c).arrAt_eq_of_after_last 3 t0_0 (by decide +kernel) _ fun j => ?_
  blk_simp
  rw [after0_3]
  frame_out
  rw [hW]
  exact pay0_at W j

theorem final3 : (dats m 0 c).arrAt 3 cfg0.N = xFlat (m (c, Proc.tc.devRef main_arg0)) :=
  final3' m c _ ((iblk0_eq m c).trans (V_v166 m c))

theorem pay1_at (P : FVec Ideal S8x2048x1024 .f32) (y : S8x2048x1024.Idx) : k0_pay2 (F := Ideal) P y = P y := by
  pointwise [k0_pay2]

theorem whole1 (W : FVec Ideal S8x2048x1024 .f32) : ((cfg0.win 1).blk t0_0).view.read (Elt Ideal) W = W := by
  funext j
  refine congrArg W ?_
  blk_ext [idx t0_0]

theorem iblk1_eq : iblk m c 1 t0_0 = V m c main_v167 := whole1 (V m c main_v167)

theorem final4' (W : FVec Ideal S8x2048x1024 .f32) (hW : iblk m c 1 t0_0 = W) : (dats m 0 c).arrAt 4 cfg0.N = W := by
  refine (dats m 0 c).arrAt_eq_of_after_last 4 t0_0 (by decide +kernel) _ fun j => ?_
  blk_simp
  rw [after0_4]
  frame_out
  rw [hW]
  exact pay1_at W j

theorem final4 : (dats m 0 c).arrAt 4 cfg0.N = kFlat (m (c, Proc.tc.devRef main_arg1)) :=
  final4' m c _ ((iblk1_eq m c).trans (V_v167 m c))

theorem pay2_at (P : FVec Ideal S8x2048x1024 .f32) (y : S8x2048x1024.Idx) : k0_pay3 (F := Ideal) P y = P y := by
  pointwise [k0_pay3]

theorem whole2 (W : FVec Ideal S8x2048x1024 .f32) : ((cfg0.win 2).blk t0_0).view.read (Elt Ideal) W = W := by
  funext j
  refine congrArg W ?_
  blk_ext [idx t0_0]

theorem iblk2_eq : iblk m c 2 t0_0 = V m c main_v168 := whole2 (V m c main_v168)

theorem final5' (W : FVec Ideal S8x2048x1024 .f32) (hW : iblk m c 2 t0_0 = W) : (dats m 0 c).arrAt 5 cfg0.N = W := by
  refine (dats m 0 c).arrAt_eq_of_after_last 5 t0_0 (by decide +kernel) _ fun j => ?_
  blk_simp
  rw [after0_5]
  frame_out
  rw [hW]
  exact pay2_at W j

theorem final5 : (dats m 0 c).arrAt 5 cfg0.N = kFlat (m (c, Proc.tc.devRef main_arg2)) :=
  final5' m c _ ((iblk2_eq m c).trans (V_v168 m c))

end Cert.ReferenceIdeal.Val
-- ==== Proof.Value.Pre.lean ====
/- The precondition: every element of the three arguments is a real number of magnitude at most the greatest bf16 number. -/
module

public import proofs.«01_k».proof.Defs
public import proofs.«01_k».proof.Proof.Value.Conv
public import Idealize.ShloMosaic.Lib.ReduceAll

@[expose] public section

noncomputable section

namespace Cert.Pre_finite

open Idealize.ShloMosaic Cert.Fp8

/-- The side conditions of the precondition's operations. -/
theorem facts : Facts where
  bitsLt_bf16_f32 := by decide
  bcast_S_S8x2048x4096 := by decide
  reducesTo_S8x2048x4096_S_d0_1_2 := by decide
  h_S_ := by decide
  bcast_S_S8x2048x1024 := by decide
  reducesTo_S8x2048x1024_S_d0_1_2 := by decide

theorem word_inMax : Ideal.ofBits .f32 0x7F7F0000#32 = ((inMax : ℝ) : EReal) := by
  simp [Ideal.ofBits, Ideal.ieee, inMax, -EReal.coe_mul]; norm_num

/-- An extended real whose magnitude is at most `inMax` is a real number. -/
theorem real_of_le (e : EReal) (h : Ideal.cmp .ole (FloatOps.absf (F := Ideal) (φ := .f32) e) ((inMax : ℝ) : EReal) = 1#1) :
    e = ((e.toReal : ℝ) : EReal) ∧ |e.toReal| ≤ inMax := by
  have h' : (FloatOps.absf (F := Ideal) (φ := .f32) e : EReal) ≤ ((inMax : ℝ) : EReal) := by
    by_contra hn
    have : Ideal.cmp .ole (FloatOps.absf (F := Ideal) (φ := .f32) e) ((inMax : ℝ) : EReal) = 0#1 := by
      show BitVec.ofBool (decide (_ ≤ _)) = 0#1
      rw [decide_eq_false hn]; rfl
    rw [this] at h
    exact absurd h (by decide)
  induction e using EReal.rec with
  | bot => exact absurd h' (by rw [show (FloatOps.absf (F := Ideal) (φ := .f32) (⊥ : EReal) : EReal) = ⊤ from by simp [FloatOps.absf]]; exact not_le.2 (EReal.coe_lt_top _))
  | top => exact absurd h' (by rw [show (FloatOps.absf (F := Ideal) (φ := .f32) (⊤ : EReal) : EReal) = ⊤ from by simp [FloatOps.absf]]; exact not_le.2 (EReal.coe_lt_top _))
  | coe r =>
    rw [absf_coe] at h'
    exact ⟨rfl, EReal.coe_le_coe_iff.1 h'⟩

variable [Facts]

instance : Subsingleton S_.Idx := ⟨fun a b => funext fun i => i.elim0⟩

open Facts in
theorem bounded (X : FVec Ideal S8x2048x4096 .bf16) (K V : FVec Ideal S8x2048x1024 .bf16) (h : fn X K V = fun _ => 1#1) :
    (∀ i, X i = (((X i : EReal).toReal : ℝ) : EReal) ∧ |(X i : EReal).toReal| ≤ inMax)
    ∧ (∀ i, K i = (((K i : EReal).toReal : ℝ) : EReal) ∧ |(K i : EReal).toReal| ≤ inMax)
    ∧ (∀ i, V i = (((V i : EReal).toReal : ℝ) : EReal) ∧ |(V i : EReal).toReal| ≤ inMax) := by
  have h0 := congrFun h (fun i => i.elim0)
  unfold fn at h0
  have and1 : ∀ a b : BitVec 1, IntOp.andi a b = 1#1 → a = 1#1 ∧ b = 1#1 := by decide
  obtain ⟨hXK, hV⟩ := and1 _ _ h0
  obtain ⟨hX, hK⟩ := and1 _ _ hXK
  refine ⟨fun i => ?_, fun i => ?_, fun i => ?_⟩
  · have e := Host.reduce_andi_all _ _ _ _ _ hX i
    exact real_of_le (X i) (by rw [← word_inMax]; exact e)
  · have e := Host.reduce_andi_all _ _ _ _ _ hK i
    exact real_of_le (K i) (by rw [← word_inMax]; exact e)
  · have e := Host.reduce_andi_all _ _ _ _ _ hV i
    exact real_of_le (V i) (by rw [← word_inMax]; exact e)

end Cert.Pre_finite
-- ==== Proof.Value.Pair.lean ====
/- The two programs leave the same seven results. -/
module

public import proofs.«01_k».proof.Proof.Value.KerArr
public import proofs.«01_k».proof.Proof.Value.RefArr
public import proofs.«01_k».proof.Proof.Value.Pre

@[expose] public section

set_option maxRecDepth 16384

noncomputable section

namespace Cert.Val

open Idealize.ShloMosaic Idealize.ShloMosaic.TcCoe Idealize.SL.Sem Cert.Fp8

/-- The kernel's seven results and its arguments after the run. -/
theorem kernel_run [Cert.Pre_finite.Facts] (m : (ℓ : Loc Cert.KernelIdeal.nD Cert.KernelIdeal.τ Cert.KernelIdeal.sig) → Buf (Elt Ideal) ℓ)
    (g : Dev Cert.KernelIdeal.nD → PrngReg) (hpre : Cert.Pre_KernelIdeal_finite m) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v0_0)
          = Cert.ReferenceIdeal.Val.yRef (m (c, Proc.tc.devRef Cert.KernelIdeal.main_arg0)) (m (c, Proc.tc.devRef Cert.KernelIdeal.main_arg1)) (m (c, Proc.tc.devRef Cert.KernelIdeal.main_arg2))
        ∧ r.2.mem ((c.tc : Thread Cert.KernelIdeal.nD Cert.KernelIdeal.τ).loc Cert.KernelIdeal.main_v0_1)
          = Cert.ReferenceIdeal.Val.xFlat (m (c, Proc.tc.devRef Cert.KernelIdeal.main_arg0))
        ∧ r.2.mem ((c.tc : Thread Cert.KernelIdeal.nD Cert.KernelIdeal.τ).loc Cert.KernelIdeal.main_v0_2)
          = Cert.ReferenceIdeal.Val.xLanes (m (c, Proc.tc.devRef Cert.KernelIdeal.main_arg0))
        ∧ r.2.mem ((c.tc : Thread Cert.KernelIdeal.nD Cert.KernelIdeal.τ).loc Cert.KernelIdeal.main_v0_3)
          = Cert.ReferenceIdeal.Val.kFlat (m (c, Proc.tc.devRef Cert.KernelIdeal.main_arg1))
        ∧ r.2.mem ((c.tc : Thread Cert.KernelIdeal.nD Cert.KernelIdeal.τ).loc Cert.KernelIdeal.main_v0_4)
          = Cert.ReferenceIdeal.Val.kLanes (m (c, Proc.tc.devRef Cert.KernelIdeal.main_arg1))
        ∧ r.2.mem ((c.tc : Thread Cert.KernelIdeal.nD Cert.KernelIdeal.τ).loc Cert.KernelIdeal.main_v0_5)
          = Cert.ReferenceIdeal.Val.kFlat (m (c, Proc.tc.devRef Cert.KernelIdeal.main_arg2))
        ∧ r.2.mem ((c.tc : Thread Cert.KernelIdeal.nD Cert.KernelIdeal.τ).loc Cert.KernelIdeal.main_v0_6)
          = Cert.ReferenceIdeal.Val.kLanes (m (c, Proc.tc.devRef Cert.KernelIdeal.main_arg2))
        ∧ r.2.mem ((c.tc : Thread Cert.KernelIdeal.nD Cert.KernelIdeal.τ).loc Cert.KernelIdeal.main_arg0) = m (c, Proc.tc.devRef Cert.KernelIdeal.main_arg0)
        ∧ r.2.mem ((c.tc : Thread Cert.KernelIdeal.nD Cert.KernelIdeal.τ).loc Cert.KernelIdeal.main_arg1) = m (c, Proc.tc.devRef Cert.KernelIdeal.main_arg1)
        ∧ r.2.mem ((c.tc : Thread Cert.KernelIdeal.nD Cert.KernelIdeal.τ).loc Cert.KernelIdeal.main_arg2) = m (c, Proc.tc.devRef Cert.KernelIdeal.main_arg2)) := by
  refine (θ_run _ _ _).mono (fun r h c => ?_) (Cert.KernelIdeal.Gen.run_main m g)
  obtain ⟨hX, hK, hV⟩ := Cert.Pre_finite.bounded _ _ _ (hpre c)
  have aX := fun b i j => (hX (ix3 b i j)).1
  have aK := fun b i j => (hK (ix3 b i j)).1
  have aV := fun b i j => (hV (ix3 b i j)).1
  have bX := fun b i j => (hX (ix3 b i j)).2
  have bK := fun b i j => (hK (ix3 b i j)).2
  have bV := fun b i j => (hV (ix3 b i j)).2
  refine ⟨((h c).1 3).trans (Cert.KernelIdeal.Val.final3 m c _ _ _ aX aK aV bX bK bV),
    ((h c).1 4).trans (Cert.KernelIdeal.Val.final4 m c _ aX bX), ((h c).1 5).trans (Cert.KernelIdeal.Val.final5 m c _ aX bX),
    ((h c).1 6).trans (Cert.KernelIdeal.Val.final6 m c _ aK bK), ((h c).1 7).trans (Cert.KernelIdeal.Val.final7 m c _ aK bK),
    ((h c).1 8).trans (Cert.KernelIdeal.Val.final8 m c _ aV bV), ((h c).1 9).trans (Cert.KernelIdeal.Val.final9 m c _ aV bV),
    ((h c).1 0).trans (((Cert.KernelIdeal.Gen.dats m 0 c).arrAt_in 0 rfl _).trans (Cert.KernelIdeal.Gen.A_eq m c 0)),
    ((h c).1 1).trans (((Cert.KernelIdeal.Gen.dats m 0 c).arrAt_in 1 rfl _).trans (Cert.KernelIdeal.Gen.A_eq m c 1)),
    ((h c).1 2).trans (((Cert.KernelIdeal.Gen.dats m 0 c).arrAt_in 2 rfl _).trans (Cert.KernelIdeal.Gen.A_eq m c 2))⟩

/-- The reference's seven results and its arguments after the run. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v159)
          = Cert.ReferenceIdeal.Val.yRef (m (c, Proc.tc.devRef Cert.ReferenceIdeal.main_arg0)) (m (c, Proc.tc.devRef Cert.ReferenceIdeal.main_arg1)) (m (c, Proc.tc.devRef Cert.ReferenceIdeal.main_arg2))
        ∧ r.2.mem ((c.tc : Thread Cert.ReferenceIdeal.nD Cert.ReferenceIdeal.τ).loc Cert.ReferenceIdeal.main_v169_0)
          = Cert.ReferenceIdeal.Val.xFlat (m (c, Proc.tc.devRef Cert.ReferenceIdeal.main_arg0))
        ∧ r.2.mem ((c.tc : Thread Cert.ReferenceIdeal.nD Cert.ReferenceIdeal.τ).loc Cert.ReferenceIdeal.main_v161)
          = Cert.ReferenceIdeal.Val.xLanes (m (c, Proc.tc.devRef Cert.ReferenceIdeal.main_arg0))
        ∧ r.2.mem ((c.tc : Thread Cert.ReferenceIdeal.nD Cert.ReferenceIdeal.τ).loc Cert.ReferenceIdeal.main_v169_1)
          = Cert.ReferenceIdeal.Val.kFlat (m (c, Proc.tc.devRef Cert.ReferenceIdeal.main_arg1))
        ∧ r.2.mem ((c.tc : Thread Cert.ReferenceIdeal.nD Cert.ReferenceIdeal.τ).loc Cert.ReferenceIdeal.main_v163)
          = Cert.ReferenceIdeal.Val.kLanes (m (c, Proc.tc.devRef Cert.ReferenceIdeal.main_arg1))
        ∧ r.2.mem ((c.tc : Thread Cert.ReferenceIdeal.nD Cert.ReferenceIdeal.τ).loc Cert.ReferenceIdeal.main_v169_2)
          = Cert.ReferenceIdeal.Val.kFlat (m (c, Proc.tc.devRef Cert.ReferenceIdeal.main_arg2))
        ∧ r.2.mem ((c.tc : Thread Cert.ReferenceIdeal.nD Cert.ReferenceIdeal.τ).loc Cert.ReferenceIdeal.main_v165)
          = Cert.ReferenceIdeal.Val.kLanes (m (c, Proc.tc.devRef Cert.ReferenceIdeal.main_arg2))
        ∧ r.2.mem ((c.tc : Thread Cert.ReferenceIdeal.nD Cert.ReferenceIdeal.τ).loc Cert.ReferenceIdeal.main_arg0) = m (c, Proc.tc.devRef Cert.ReferenceIdeal.main_arg0)
        ∧ r.2.mem ((c.tc : Thread Cert.ReferenceIdeal.nD Cert.ReferenceIdeal.τ).loc Cert.ReferenceIdeal.main_arg1) = m (c, Proc.tc.devRef Cert.ReferenceIdeal.main_arg1)
        ∧ r.2.mem ((c.tc : Thread Cert.ReferenceIdeal.nD Cert.ReferenceIdeal.τ).loc Cert.ReferenceIdeal.main_arg2) = m (c, Proc.tc.devRef Cert.ReferenceIdeal.main_arg2)) := by
  refine (θ_run _ _ _).mono (fun r h c => ?_) (Cert.ReferenceIdeal.Gen.run_main m g)
  exact ⟨((h c).2 Cert.ReferenceIdeal.main_v159 (Pipeline.mem_restRefs_of _ (by decide) (by decide))).trans (Cert.ReferenceIdeal.Val.V_v159 m c),
    (Cert.ReferenceIdeal.Value.post3 m r h c).trans (Cert.ReferenceIdeal.Val.final3 m c),
    ((h c).2 Cert.ReferenceIdeal.main_v161 (Pipeline.mem_restRefs_of _ (by decide) (by decide))).trans (Cert.ReferenceIdeal.Val.V_v161 m c),
    (Cert.ReferenceIdeal.Value.post4 m r h c).trans (Cert.ReferenceIdeal.Val.final4 m c),
    ((h c).2 Cert.ReferenceIdeal.main_v163 (Pipeline.mem_restRefs_of _ (by decide) (by decide))).trans (Cert.ReferenceIdeal.Val.V_v163 m c),
    (Cert.ReferenceIdeal.Value.post5 m r h c).trans (Cert.ReferenceIdeal.Val.final5 m c),
    ((h c).2 Cert.ReferenceIdeal.main_v165 (Pipeline.mem_restRefs_of _ (by decide) (by decide))).trans (Cert.ReferenceIdeal.Val.V_v165 m c),
    Cert.ReferenceIdeal.Value.kept_main_arg0 m r h c, Cert.ReferenceIdeal.Value.kept_main_arg1 m r h c, Cert.ReferenceIdeal.Value.kept_main_arg2 m r h c⟩

/-- The seven results agree. -/
theorem algebraic [Cert.Pre_finite.Facts] :
    Cert.algebraic_KernelIdeal_ReferenceIdeal_pre_finite (hKernelIdeal := Cert.KernelIdeal.Gen.facts) (hReferenceIdeal := Cert.ReferenceIdeal.Gen.facts) := by
  intro m g m' g' hpre hagree
  refine ⟨_, _, _, _, _, _, _, kernel_run m g hpre, ?_⟩
  refine (θ_run _ _ _).mono (fun r h c => ?_) (reference_run m' g')
  obtain ⟨e0, e1, e2⟩ := hagree c
  obtain ⟨h0, h1, h2, h3, h4, h5, h6, k0, k1, k2⟩ := h c
  refine ⟨h0.trans ?_, h1.trans ?_, h2.trans ?_, h3.trans ?_, h4.trans ?_, h5.trans ?_, h6.trans ?_, k0, k1, k2⟩
  · exact (congrArg (fun X => Cert.ReferenceIdeal.Val.yRef X _ _) e0).trans ((congrArg (fun X => Cert.ReferenceIdeal.Val.yRef _ X _) e1).trans
      (congrArg (fun X => Cert.ReferenceIdeal.Val.yRef _ _ X) e2))
  · exact congrArg Cert.ReferenceIdeal.Val.xFlat e0
  · exact congrArg Cert.ReferenceIdeal.Val.xLanes e0
  · exact congrArg Cert.ReferenceIdeal.Val.kFlat e1
  · exact congrArg Cert.ReferenceIdeal.Val.kLanes e1
  · exact congrArg Cert.ReferenceIdeal.Val.kFlat e2
  · exact congrArg Cert.ReferenceIdeal.Val.kLanes e2

end Cert.Val
-- ==== Proof.lean ====
/- The claims about the attention kernel, assembled from the modules under Proof/. -/
module

public import proofs.«01_k».proof.Defs
public import proofs.«01_k».proof.Proof.Kernel.Run
public import proofs.«01_k».proof.Proof.KernelIdeal.Run
public import proofs.«01_k».proof.Proof.Gen.ReferenceIdeal.Frame
public import proofs.«01_k».proof.Proof.Gen.ReferenceIdeal.Value
public import proofs.«01_k».proof.Proof.Value.Pair
public import Idealize.ShloMosaic.Adequacy
public import Idealize.ShloMosaic.Init

@[expose] public section

noncomputable section

namespace Cert.Proof

open Idealize.ShloMosaic Idealize.SL.Sem Cert.Kernel

/-- The kernel and its idealization terminate and keep their arguments; the idealization is the kernel with the score
    scale named; and on finite inputs the idealization leaves the reference's seven results. -/
theorem claim : Cert.Claim := ⟨Cert.Kernel.Gen.facts, Cert.KernelIdeal.Gen.facts, Cert.ReferenceIdeal.Gen.facts, Cert.Pre_finite.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  IdealRules.named_const.statement Cert.KernelIdeal.κ "score_scale" .f32 0x3E0293EE#32 (((Real.sqrt 128)⁻¹ * (Real.log 2)⁻¹ : ℝ) : EReal) rfl,
  @Cert.Val.algebraic Cert.Pre_finite.facts⟩

end Cert.Proof

end
